-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  IdealRules.named_const.Statement Cert.KernelIdeal.κ "mask" .f32 0xFF7FFFFF#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)) (v4 : (c : Dev Cert.KernelIdeal.nD) → Buf (Elt Ideal) ((c.tc : Thread Cert.KernelIdeal.nD Cert.KernelIdeal.τ).loc Cert.KernelIdeal.main_v44_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v1) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  IdealRules.named_const.Statement Cert.Kernel14Ideal.κ "mask" .f32 0xFF7FFFFF#32 ⊥

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v13_0)) (v1 : (c : Dev Cert.Kernel14Ideal.nD) → Buf (Elt Ideal) ((c.tc : Thread Cert.Kernel14Ideal.nD Cert.Kernel14Ideal.τ).loc Cert.Kernel14Ideal.main_v13_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v13_0) = v0 c
          ∧ r.2.mem ((c.tc : Thread Cert.Kernel14Ideal.nD Cert.Kernel14Ideal.τ).loc Cert.Kernel14Ideal.main_v13_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v45) = v0 c
          ∧ r.2.mem ((c.tc : Thread Cert.Reference14Ideal.nD Cert.Reference14Ideal.τ).loc Cert.Reference14Ideal.main_v21) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite.lean ====
abbrev S8192x16x192 : Shape := ⟨3, ![8192, 16, 192]⟩
abbrev S8192x16x128 : Shape := ⟨3, ![8192, 16, 128]⟩
abbrev S8192x64 : Shape := ⟨2, ![8192, 64]⟩
abbrev S_ : Shape := ⟨0, ![]⟩

class Facts : Prop where
  bcast_S_S8192x16x192 : S_.BroadcastsInDim S8192x16x192 (![] : Fin 0 → Fin S8192x16x192.rank)
  bcast_S_S8192x16x128 : S_.BroadcastsInDim S8192x16x128 (![] : Fin 0 → Fin S8192x16x128.rank)
  bcast_S_S8192x64 : S_.BroadcastsInDim S8192x64 (![] : Fin 0 → Fin S8192x64.rank)

variable [Facts]

def fn {F : FTy → Type} [FloatOps F] (main_arg0 : FVec F S8192x16x192 .f32) (main_arg1 : FVec F S8192x16x128 .f32) (main_arg2 : FVec F S8192x64 .f32) (main_arg3 : FVec F S8192x16x128 .f32) (main_arg4 : FVec F S8192x16x128 .f32) : IVec S8192x16x192 1 × IVec S8192x16x128 1 × IVec S8192x64 1 × IVec S8192x16x128 1 × IVec S8192x16x128 1 :=
  let main_v0 : FVec F S8192x16x192 .f32 := Host.absf main_arg0
  let main_cst : FVec F S_ .f32 := constant S_ .f32 0x7F800000#32
  let main_v1 : FVec F S8192x16x192 .f32 := broadcastInDim S8192x16x192 ![] bcast_S_S8192x16x192 main_cst
  let main_v2 : IVec S8192x16x192 1 := cmpf .olt main_v0 main_v1
  let main_v3 : FVec F S8192x16x128 .f32 := Host.absf main_arg1
  let main_cst_0 : FVec F S_ .f32 := constant S_ .f32 0x7F800000#32
  let main_v4 : FVec F S8192x16x128 .f32 := broadcastInDim S8192x16x128 ![] bcast_S_S8192x16x128 main_cst_0
  let main_v5 : IVec S8192x16x128 1 := cmpf .olt main_v3 main_v4
  let main_v6 : FVec F S8192x64 .f32 := Host.absf main_arg2
  let main_cst_1 : FVec F S_ .f32 := constant S_ .f32 0x7F800000#32
  let main_v7 : FVec F S8192x64 .f32 := broadcastInDim S8192x64 ![] bcast_S_S8192x64 main_cst_1
  let main_v8 : IVec S8192x64 1 := cmpf .olt main_v6 main_v7
  let main_v9 : FVec F S8192x16x128 .f32 := Host.absf main_arg3
  let main_cst_2 : FVec F S_ .f32 := constant S_ .f32 0x7F800000#32
  let main_v10 : FVec F S8192x16x128 .f32 := broadcastInDim S8192x16x128 ![] bcast_S_S8192x16x128 main_cst_2
  let main_v11 : IVec S8192x16x128 1 := cmpf .olt main_v9 main_v10
  let main_v12 : FVec F S8192x16x128 .f32 := Host.absf main_arg4
  let main_cst_3 : FVec F S_ .f32 := constant S_ .f32 0x7F800000#32
  let main_v13 : FVec F S8192x16x128 .f32 := broadcastInDim S8192x16x128 ![] bcast_S_S8192x16x128 main_cst_3
  let main_v14 : IVec S8192x16x128 1 := cmpf .olt main_v12 main_v13
  (main_v2, main_v5, main_v8, main_v11, main_v14)
-- ==== Pre_finite14.lean ====
abbrev S8192x16x192 : Shape := ⟨3, ![8192, 16, 192]⟩
abbrev S8192x16x128 : Shape := ⟨3, ![8192, 16, 128]⟩
abbrev S8192x64 : Shape := ⟨2, ![8192, 64]⟩
abbrev S_ : Shape := ⟨0, ![]⟩

class Facts : Prop where
  bcast_S_S8192x16x192 : S_.BroadcastsInDim S8192x16x192 (![] : Fin 0 → Fin S8192x16x192.rank)
  bcast_S_S8192x16x128 : S_.BroadcastsInDim S8192x16x128 (![] : Fin 0 → Fin S8192x16x128.rank)
  bcast_S_S8192x64 : S_.BroadcastsInDim S8192x64 (![] : Fin 0 → Fin S8192x64.rank)

variable [Facts]

def fn {F : FTy → Type} [FloatOps F] (main_arg0 : FVec F S8192x16x192 .f32) (main_arg1 : FVec F S8192x16x128 .f32) (main_arg2 : FVec F S8192x64 .f32) (main_arg3 : FVec F S8192x16x128 .f32) : IVec S8192x16x192 1 × IVec S8192x16x128 1 × IVec S8192x64 1 :=
  let main_v0 : FVec F S8192x16x192 .f32 := Host.absf main_arg0
  let main_cst : FVec F S_ .f32 := constant S_ .f32 0x7F800000#32
  let main_v1 : FVec F S8192x16x192 .f32 := broadcastInDim S8192x16x192 ![] bcast_S_S8192x16x192 main_cst
  let main_v2 : IVec S8192x16x192 1 := cmpf .olt main_v0 main_v1
  let main_v3 : FVec F S8192x16x128 .f32 := Host.absf main_arg1
  let main_cst_0 : FVec F S_ .f32 := constant S_ .f32 0x7F800000#32
  let main_v4 : FVec F S8192x16x128 .f32 := broadcastInDim S8192x16x128 ![] bcast_S_S8192x16x128 main_cst_0
  let main_v5 : IVec S8192x16x128 1 := cmpf .olt main_v3 main_v4
  let main_v6 : FVec F S8192x64 .f32 := Host.absf main_arg2
  let main_cst_1 : FVec F S_ .f32 := constant S_ .f32 0x7F800000#32
  let main_v7 : FVec F S8192x64 .f32 := broadcastInDim S8192x64 ![] bcast_S_S8192x64 main_cst_1
  let main_v8 : IVec S8192x64 1 := cmpf .olt main_v6 main_v7
  (main_v2, main_v5, main_v8)
-- ==== Kernel.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16 : Shape := ⟨2, ![8192, 16]⟩
abbrev S8192x2048 : Shape := ⟨2, ![8192, 2048]⟩
abbrev S8192x128 : Shape := ⟨2, ![8192, 128]⟩
abbrev S1024x128 : Shape := ⟨2, ![1024, 128]⟩
abbrev S1x1024x1 : Shape := ⟨3, ![1, 1024, 1]⟩
abbrev S8192x256 : Shape := ⟨2, ![8192, 256]⟩
abbrev S1024x256 : Shape := ⟨2, ![1024, 256]⟩
abbrev S1024x1024 : Shape := ⟨2, ![1024, 1024]⟩
abbrev S1024x1 : Shape := ⟨2, ![1024, 1]⟩

abbrev nBuf : Space → Nat
  | .hbm => 66
  | .vmem => 29
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x64, .f32⟩
  | .hbm, ⟨3, _⟩ => ⟨S8192x16x128, .f32⟩
  | .hbm, ⟨4, _⟩ => ⟨S8192x16x128, .f32⟩
  | .hbm, ⟨5, _⟩ => ⟨S8192x1x64, .f32⟩
  | .hbm, ⟨6, _⟩ => ⟨S8192x16x64, .f32⟩
  | .hbm, ⟨7, _⟩ => ⟨S8192x16x192, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S16x8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192, .f32⟩
  | .hbm, ⟨25, _⟩ => ⟨S16x8192x1, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192x1, .f32⟩
  | .hbm, ⟨32, _⟩ => ⟨S16x8192x8192, .f32⟩
  | .hbm, ⟨33, _⟩ => ⟨S16x8192x8192, .f32⟩
  | .hbm, ⟨34, _⟩ => ⟨S16x128x8192, .f32⟩
  | .hbm, ⟨35, _⟩ => ⟨S8192x16x128, .f32⟩
  | .hbm, ⟨36, _⟩ => ⟨S16x8192x1, .f32⟩
  | .hbm, ⟨37, _⟩ => ⟨S16x8192x1, .f32⟩
  | .hbm, ⟨38, _⟩ => ⟨S8192x16x128, .f32⟩
  | .hbm, ⟨39, _⟩ => ⟨S_, .f32⟩
  | .hbm, ⟨40, _⟩ => ⟨S8192x16, .f32⟩
  | .hbm, ⟨41, _⟩ => ⟨S16x8192, .f32⟩
  | .hbm, ⟨42, _⟩ => ⟨S16x8192x1, .f32⟩
  | .hbm, ⟨43, _⟩ => ⟨S8192x16x128, .f32⟩
  | .hbm, ⟨44, _⟩ => ⟨S8192x2048, .f32⟩
  | .hbm, ⟨45, _⟩ => ⟨S8192x2048, .bf16⟩
  | .hbm, ⟨46, _⟩ => ⟨S8192x16x64, .f32⟩
  | .hbm, ⟨47, _⟩ => ⟨S_, .i32⟩
  | .hbm, ⟨48, _⟩ => ⟨S_, .f32⟩
  | .hbm, ⟨49, _⟩ => ⟨S8192x16x128, .f32⟩
  | .hbm, ⟨50, _⟩ => ⟨S8192x2048, .f32⟩
  | .hbm, ⟨51, _⟩ => ⟨S8192x2048, .bf16⟩
  | .hbm, ⟨52, _⟩ => ⟨S8192x2048, .f32⟩
  | .hbm, ⟨53, _⟩ => ⟨S8192x2048, .bf16⟩
  | .hbm, ⟨54, _⟩ => ⟨S_, .i32⟩
  | .hbm, ⟨55, _⟩ => ⟨S_, .f32⟩
  | .hbm, ⟨56, _⟩ => ⟨S8192x128, .f32⟩
  | .hbm, ⟨57, _⟩ => ⟨S8192x128, .bf16⟩
  | .hbm, ⟨58, _⟩ => ⟨S8192x2048, .f32⟩
  | .hbm, ⟨59, _⟩ => ⟨S8192x2048, .bf16⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x1, .f32⟩
  | .local _ .vmem, ⟨15, _⟩ => ⟨S1x1024x1, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S8192x256, .f32⟩
  | .local _ .vmem, ⟨27, _⟩ => ⟨S1024x256, .f32⟩
  | .local _ .vmem, ⟨28, _⟩ => ⟨S1024x128, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_call1_v0 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_call2_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44_0 : Ref sig .tc := ⟨.hbm, 61, rfl⟩
abbrev main_v44_1 : Ref sig .tc := ⟨.hbm, 62, rfl⟩
abbrev main_v44_2 : Ref sig .tc := ⟨.hbm, 63, rfl⟩
abbrev main_v44_3 : Ref sig .tc := ⟨.hbm, 64, rfl⟩
abbrev main_v44_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![16, 8, 8], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v21 : Index := Scalar.indexCast v1
  let c0 : Index := 0#32
  ![v21.toNat, 0]
def k0_cond3 (i : grid0.Coords) : BitVec 1 :=
  let arg1 : BitVec 32 := BitVec.ofNat 32 (i 1).val
  let arg2 : BitVec 32 := BitVec.ofNat 32 (i 2).val
  let v8 : BitVec 1 := Scalar.cmpi .slt arg1 arg2
  let v9 : BitVec 32 := Scalar.extui v8
  let c0_i32_3 : BitVec 32 := 0#32
  let v10 : BitVec 1 := Scalar.cmpi .ne v9 c0_i32_3
  v10

def k0_off2 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v65 : Index := Scalar.indexCast v1
  let c0_38 : Index := 0#32
  ![v65.toNat, 0]
def k0_cond4 (i : grid0.Coords) : BitVec 1 :=
  let arg1 : BitVec 32 := BitVec.ofNat 32 (i 1).val
  let arg2 : BitVec 32 := BitVec.ofNat 32 (i 2).val
  let v11 : BitVec 1 := Scalar.cmpi .eq arg1 arg2
  let v12 : BitVec 32 := Scalar.extui v11
  let c0_i32_4 : BitVec 32 := 0#32
  let v13 : BitVec 1 := Scalar.cmpi .ne v12 c0_i32_4
  v13

def k0_off3 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v70 : Index := Scalar.indexCast v1
  let c0_39 : Index := 0#32
  ![v70.toNat, 0]
def k0_cond6 (i : grid0.Coords) : BitVec 1 :=
  let arg1 : BitVec 32 := BitVec.ofNat 32 (i 1).val
  let c7_i32_6 : BitVec 32 := 7#32
  let v17 : BitVec 1 := Scalar.cmpi .eq arg1 c7_i32_6
  let v18 : BitVec 32 := Scalar.extui v17
  let c0_i32_7 : BitVec 32 := 0#32
  let v19 : BitVec 1 := Scalar.cmpi .ne v18 c0_i32_7
  v19

def k0_off4 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v20 : Index := Scalar.indexCast v1
  let c0 : Index := 0#32
  ![v20.toNat, 0]
def k0_off5 (i : grid0.Coords) : Fin 2 → Nat :=
  let arg2 : BitVec 32 := BitVec.ofNat 32 (i 2).val
  let c1024_i32 : BitVec 32 := 1024#32
  let v0 : BitVec 32 := Scalar.muli arg2 c1024_i32
  let v1 : BitVec 32 := v0
  let v23 : Index := Scalar.indexCast v1
  let c128 : Index := 128#32
  ![v23.toNat, 128]
def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .eq arg1 c7_i32
  let c0_i32 : BitVec 32 := 0#32
  let v1 : BitVec 32 := Scalar.select v0 arg2 c0_i32
  let c0_i32_0 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .eq arg1 c7_i32
  let c0_i32 : BitVec 32 := 0#32
  let v1 : BitVec 32 := Scalar.select v0 arg2 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x192 : Shape := ⟨3, ![16, 8192, 192]⟩
abbrev S8192x2048 : Shape := ⟨2, ![8192, 2048]⟩

abbrev nBuf : Space → Nat
  | .hbm => 108
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x64, .f32⟩
  | .hbm, ⟨3, _⟩ => ⟨S8192x16x128, .f32⟩
  | .hbm, ⟨4, _⟩ => ⟨S8192x16x128, .f32⟩
  | .hbm, ⟨5, _⟩ => ⟨S8192x1x64, .f32⟩
  | .hbm, ⟨6, _⟩ => ⟨S8192x16x64, .f32⟩
  | .hbm, ⟨7, _⟩ => ⟨S8192x16x192, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S16x8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .i1⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S_, .f32⟩
  | .hbm, ⟨34, _⟩ => ⟨S16x8192, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .i1⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S_, .f32⟩
  | .hbm, ⟨45, _⟩ => ⟨S16x8192, .f32⟩
  | .hbm, ⟨46, _⟩ => ⟨S_, .f32⟩
  | .hbm, ⟨47, _⟩ => ⟨S16x8192, .f32⟩
  | .hbm, ⟨48, _⟩ => ⟨S16x8192, .f32⟩
  | .hbm, ⟨49, _⟩ => ⟨S16x8192, .f32⟩
  | .hbm, ⟨50, _⟩ => ⟨S16x8192x1, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S_, .f32⟩
  | .hbm, ⟨55, _⟩ => ⟨S16x8192, .f32⟩
  | .hbm, ⟨56, _⟩ => ⟨S16x8192x1, .f32⟩
  | .hbm, ⟨57, _⟩ => ⟨S16x8192x8192, .f32⟩
  | .hbm, ⟨58, _⟩ => ⟨S16x8192x8192, .f32⟩
  | .hbm, ⟨59, _⟩ => ⟨S16x8192x1, .f32⟩
  | .hbm, ⟨60, _⟩ => ⟨S_, .f32⟩
  | .hbm, ⟨61, _⟩ => ⟨S16x8192x1, .f32⟩
  | .hbm, ⟨62, _⟩ => ⟨S16x8192x1, .f32⟩
  | .hbm, ⟨63, _⟩ => ⟨S16x128x8192, .f32⟩
  | .hbm, ⟨64, _⟩ => ⟨S8192x16x128, .f32⟩
  | .hbm, ⟨65, _⟩ => ⟨S16x128x8192, .f32⟩
  | .hbm, ⟨66, _⟩ => ⟨S16x8192x8192, .f32⟩
  | .hbm, ⟨67, _⟩ => ⟨S16x128x8192, .f32⟩
  | .hbm, ⟨68, _⟩ => ⟨S8192x16x128, .f32⟩
  | .hbm, ⟨69, _⟩ => ⟨S16x8192x8192, .f32⟩
  | .hbm, ⟨70, _⟩ => ⟨S16x8192x8192, .f32⟩
  | .hbm, ⟨71, _⟩ => ⟨S16x8192x8192, .f32⟩
  | .hbm, ⟨72, _⟩ => ⟨S_, .f32⟩
  | .hbm, ⟨73, _⟩ => ⟨S16x8192, .f32⟩
  | .hbm, ⟨74, _⟩ => ⟨S16x8192x1, .f32⟩
  | .hbm, ⟨75, _⟩ => ⟨S16x8192x1, .f32⟩
  | .hbm, ⟨76, _⟩ => ⟨S16x8192x8192, .f32⟩
  | .hbm, ⟨77, _⟩ => ⟨S16x8192x8192, .f32⟩
  | .hbm, ⟨78, _⟩ => ⟨S_, .f32⟩
  | .hbm, ⟨79, _⟩ => ⟨S16x8192, .f32⟩
  | .hbm, ⟨80, _⟩ => ⟨S16x8192x8192, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192x8192, .f32⟩
  | .hbm, ⟨88, _⟩ => ⟨S16x8192x8192, .f32⟩
  | .hbm, ⟨89, _⟩ => ⟨S16x8192x192, .f32⟩
  | .hbm, ⟨90, _⟩ => ⟨S8192x16x192, .f32⟩
  | .hbm, ⟨91, _⟩ => ⟨S16x8192x192, .f32⟩
  | .hbm, ⟨92, _⟩ => ⟨S8192x16x192, .f32⟩
  | .hbm, ⟨93, _⟩ => ⟨S8192x16x128, .f32⟩
  | .hbm, ⟨94, _⟩ => ⟨S8192x16x64, .f32⟩
  | .hbm, ⟨95, _⟩ => ⟨S8192x16x128, .f32⟩
  | .hbm, ⟨96, _⟩ => ⟨S8192x2048, .f32⟩
  | .hbm, ⟨97, _⟩ => ⟨S8192x16x64, .f32⟩
  | .hbm, ⟨98, _⟩ => ⟨S_, .i32⟩
  | .hbm, ⟨99, _⟩ => ⟨S_, .f32⟩
  | .hbm, ⟨100, _⟩ => ⟨S8192x16x128, .f32⟩
  | .hbm, ⟨101, _⟩ => ⟨S8192x2048, .f32⟩
  | .hbm, ⟨102, _⟩ => ⟨S8192x2048, .f32⟩
  | .hbm, ⟨103, _⟩ => ⟨S_, .i32⟩
  | .hbm, ⟨104, _⟩ => ⟨S_, .f32⟩
  | .hbm, ⟨105, _⟩ => ⟨S8192x16x128, .f32⟩
  | .hbm, ⟨106, _⟩ => ⟨S8192x2048, .f32⟩
  | .hbm, ⟨107, _⟩ => ⟨S8192x2048, .f32⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c : Ref sig .tc := ⟨.hbm, 98, rfl⟩
abbrev main_call2_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_call3_v0 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

def κ : String → Option EReal := fun
  | "mask" => some ⊥
  | _ => none
-- ==== Kernel2.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x2048, .f32⟩
  | .hbm, ⟨3, _⟩ => ⟨S8192x2048, .f32⟩
  | .hbm, ⟨4, _⟩ => ⟨S4096x2048, .bf16⟩
  | .hbm, ⟨5, _⟩ => ⟨S8192x4096, .bf16⟩
  | .hbm, ⟨6, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S8192x4096 : Shape := ⟨2, ![8192, 4096]⟩
abbrev S4096x2048 : Shape := ⟨2, ![4096, 2048]⟩
abbrev S8192x2048 : Shape := ⟨2, ![8192, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x2048, .f32⟩
  | .hbm, ⟨3, _⟩ => ⟨S8192x2048, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | .hbm, ⟨33, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Kernel3.lean ====
abbrev S8192x4096 : Shape := ⟨2, ![8192, 4096]⟩
abbrev S4096x2048 : Shape := ⟨2, ![4096, 2048]⟩
abbrev S8192x2048 : Shape := ⟨2, ![8192, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x2048, .f32⟩
  | .hbm, ⟨3, _⟩ => ⟨S8192x2048, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .bf16⟩
  | .hbm, ⟨15, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S4096x2048 : Shape := ⟨2, ![4096, 2048]⟩
abbrev S8192x2048 : Shape := ⟨2, ![8192, 2048]⟩
abbrev S_ : Shape := ⟨0, ![]⟩
abbrev S2048x4096 : Shape := ⟨2, ![2048, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096x2048, .f32⟩
  | .hbm, ⟨3, _⟩ => ⟨S8192x2048, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S2048x4096, .f32⟩
  | .hbm, ⟨22, _⟩ => ⟨S4096x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩

abbrev nD : Nat := 1
abbrev τ : Topo := Topo.v7x

variable {F : FTy → Type} [FloatOps F]
-- ==== Kernel4.lean ====
abbrev S8192x2048 : Shape := ⟨2, ![8192, 2048]⟩
abbrev S2048x4096 : Shape := ⟨2, ![2048, 4096]⟩
abbrev S8192x4096 : Shape := ⟨2, ![8192, 4096]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x2048, .bf16⟩
  | .hbm, ⟨4, _⟩ => ⟨S8192x4096, .bf16⟩
  | .hbm, ⟨5, _⟩ => ⟨S4x2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x4096 : Shape := ⟨2, ![2048, 4096]⟩
abbrev S8192x4096 : Shape := ⟨2, ![8192, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .f32⟩
  | .hbm, ⟨4, _⟩ => ⟨S4096x2048, .f32⟩
  | .hbm, ⟨5, _⟩ => ⟨S2048x4096, .f32⟩
  | .hbm, ⟨6, _⟩ => ⟨S2048x4x1024, .f32⟩
  | .hbm, ⟨7, _⟩ => ⟨S4x2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .bf16⟩
  | .hbm, ⟨4, _⟩ => ⟨S2048x4096, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S2048x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x2048, .f32⟩
  | .hbm, ⟨7, _⟩ => ⟨S8192x4096, .bf16⟩
  | .hbm, ⟨8, _⟩ => ⟨S2048x4096, .bf16⟩
  | .hbm, ⟨9, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S2048x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S2048x4096, .f32⟩
  | .hbm, ⟨3, _⟩ => ⟨S8192x2048, .bf16⟩
  | .hbm, ⟨4, _⟩ => ⟨S2048x4096, .bf16⟩
  | .hbm, ⟨5, _⟩ => ⟨S2048x4096, .bf16⟩
  | .hbm, ⟨6, _⟩ => ⟨S8192x4096, .f32⟩
  | .hbm, ⟨7, _⟩ => ⟨S8192x4096, .f32⟩
  | .hbm, ⟨8, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_15 : BitVec 32 := 0#32
  let v21 : BitVec 1 := Scalar.cmpi .eq arg2 c0_i32_15
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S8192x2048 : Shape := ⟨2, ![8192, 2048]⟩
abbrev S2048x4096 : Shape := ⟨2, ![2048, 4096]⟩
abbrev S8192x4096 : Shape := ⟨2, ![8192, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S2048x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel8.lean ====
abbrev S8192x2048 : Shape := ⟨2, ![8192, 2048]⟩
abbrev S8192x4096 : Shape := ⟨2, ![8192, 4096]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 17
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x4096, .f32⟩
  | .hbm, ⟨3, _⟩ => ⟨S4096x2048, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .bf16⟩
  | .hbm, ⟨15, _⟩ => ⟨S4096x2048, .bf16⟩
  | .hbm, ⟨16, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x2048 : Shape := ⟨2, ![8192, 2048]⟩
abbrev S8192x4096 : Shape := ⟨2, ![8192, 4096]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x4096, .f32⟩
  | .hbm, ⟨3, _⟩ => ⟨S4096x2048, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S8192x2048 : Shape := ⟨2, ![8192, 2048]⟩
abbrev S2048x4096 : Shape := ⟨2, ![2048, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x2048, .bf16⟩
  | .hbm, ⟨4, _⟩ => ⟨S2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x4096 : Shape := ⟨2, ![2048, 4096]⟩
abbrev S8192x4096 : Shape := ⟨2, ![8192, 4096]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | .hbm, ⟨3, _⟩ => ⟨S8192x4096, .f32⟩
  | .hbm, ⟨4, _⟩ => ⟨S4096x2048, .f32⟩
  | .hbm, ⟨5, _⟩ => ⟨S2048x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x16x192 : Shape := ⟨3, ![8192, 16, 192]⟩
abbrev S8192x16x128 : Shape := ⟨3, ![8192, 16, 128]⟩
abbrev S8192x64 : Shape := ⟨2, ![8192, 64]⟩
abbrev S8192x2048 : Shape := ⟨2, ![8192, 2048]⟩
abbrev S8192x16x64 : Shape := ⟨3, ![8192, 16, 64]⟩
abbrev S_ : Shape := ⟨0, ![]⟩
abbrev S8192x128 : Shape := ⟨2, ![8192, 128]⟩
abbrev S16x8192x1 : Shape := ⟨3, ![16, 8192, 1]⟩
abbrev S1024x128 : Shape := ⟨2, ![1024, 128]⟩
abbrev S1x1024x1 : Shape := ⟨3, ![1, 1024, 1]⟩
abbrev S1024x1 : Shape := ⟨2, ![1024, 1]⟩
abbrev S1024x256 : Shape := ⟨2, ![1024, 256]⟩
abbrev S1024x1024 : Shape := ⟨2, ![1024, 1024]⟩
abbrev S1024 : Shape := ⟨1, ![1024]⟩

abbrev nBuf : Space → Nat
  | .hbm => 23
  | .vmem => 17
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x64, .f32⟩
  | .hbm, ⟨3, _⟩ => ⟨S8192x16x128, .f32⟩
  | .hbm, ⟨4, _⟩ => ⟨S8192x16x128, .f32⟩
  | .hbm, ⟨5, _⟩ => ⟨S8192x2048, .f32⟩
  | .hbm, ⟨6, _⟩ => ⟨S8192x2048, .bf16⟩
  | .hbm, ⟨7, _⟩ => ⟨S8192x16x64, .f32⟩
  | .hbm, ⟨8, _⟩ => ⟨S_, .i32⟩
  | .hbm, ⟨9, _⟩ => ⟨S_, .f32⟩
  | .hbm, ⟨10, _⟩ => ⟨S8192x16x128, .f32⟩
  | .hbm, ⟨11, _⟩ => ⟨S8192x2048, .f32⟩
  | .hbm, ⟨12, _⟩ => ⟨S8192x2048, .bf16⟩
  | .hbm, ⟨13, _⟩ => ⟨S8192x2048, .f32⟩
  | .hbm, ⟨14, _⟩ => ⟨S8192x2048, .bf16⟩
  | .hbm, ⟨15, _⟩ => ⟨S_, .i32⟩
  | .hbm, ⟨16, _⟩ => ⟨S_, .f32⟩
  | .hbm, ⟨17, _⟩ => ⟨S8192x128, .f32⟩
  | .hbm, ⟨18, _⟩ => ⟨S8192x128, .bf16⟩
  | .hbm, ⟨19, _⟩ => ⟨S8192x2048, .f32⟩
  | .hbm, ⟨20, _⟩ => ⟨S8192x2048, .bf16⟩
  | .hbm, ⟨21, _⟩ => ⟨S8192x2048, .f32⟩
  | .hbm, ⟨22, _⟩ => ⟨S16x8192x1, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .f32⟩
  | .local _ .vmem, ⟨11, _⟩ => ⟨S1024x128, .f32⟩
  | .local _ .vmem, ⟨12, _⟩ => ⟨S1x1024x1, .f32⟩
  | .local _ .vmem, ⟨13, _⟩ => ⟨S1x1024x1, .f32⟩
  | .local _ .vmem, ⟨14, _⟩ => ⟨S1024x1, .f32⟩
  | .local _ .vmem, ⟨15, _⟩ => ⟨S1024x1, .f32⟩
  | .local _ .vmem, ⟨16, _⟩ => ⟨S1024x128, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 8, 8], ![false, false, false]⟩

def k0_cond4 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg1 arg2
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Kernel14Ideal.lean ====
variable {F : FTy → Type} [FloatOps F] [Named F]
def κ : String → Option EReal := fun
  | "mask" => some ⊥
  | _ => none
-- ==== Reference14Ideal.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x2048 : Shape := ⟨2, ![8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x64, .f32⟩
  | .hbm, ⟨3, _⟩ => ⟨S8192x16x128, .f32⟩
  | .hbm, ⟨4, _⟩ => ⟨S8192x1x64, .f32⟩
  | .hbm, ⟨5, _⟩ => ⟨S8192x16x64, .f32⟩
  | .hbm, ⟨6, _⟩ => ⟨S8192x16x192, .f32⟩
  | .hbm, ⟨7, _⟩ => ⟨S16x8192x8192, .f32⟩
  | .hbm, ⟨8, _⟩ => ⟨S_, .f32⟩
  | .hbm, ⟨9, _⟩ => ⟨S16x8192x8192, .f32⟩
  | .hbm, ⟨10, _⟩ => ⟨S16x8192x8192, .f32⟩
  | .hbm, ⟨11, _⟩ => ⟨S8192, .i32⟩
  | .hbm, ⟨12, _⟩ => ⟨S8192x1, .i32⟩
  | .hbm, ⟨13, _⟩ => ⟨S1x8192, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S16x8192x8192, .i1⟩
  | .hbm, ⟨20, _⟩ => ⟨S16x8192x8192, .f32⟩
  | .hbm, ⟨21, _⟩ => ⟨S16x8192x8192, .f32⟩
  | .hbm, ⟨22, _⟩ => ⟨S_, .f32⟩
  | .hbm, ⟨23, _⟩ => ⟨S16x8192, .f32⟩
  | .hbm, ⟨24, _⟩ => ⟨S16x8192x1, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x1, .f32⟩
  | .hbm, ⟨32, _⟩ => ⟨S16x8192x1, .f32⟩
  | .hbm, ⟨33, _⟩ => ⟨S16x8192x8192, .f32⟩
  | .hbm, ⟨34, _⟩ => ⟨S_, .f32⟩
  | .hbm, ⟨35, _⟩ => ⟨S16x8192x8192, .f32⟩
  | .hbm, ⟨36, _⟩ => ⟨S16x8192x8192, .f32⟩
  | .hbm, ⟨37, _⟩ => ⟨S8192, .i32⟩
  | .hbm, ⟨38, _⟩ => ⟨S8192x1, .i32⟩
  | .hbm, ⟨39, _⟩ => ⟨S1x8192, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S_, .f32⟩
  | .hbm, ⟨44, _⟩ => ⟨S_, .f32⟩
  | .hbm, ⟨45, _⟩ => ⟨S16x8192x8192, .i1⟩
  | .hbm, ⟨46, _⟩ => ⟨S16x8192x8192, .f32⟩
  | .hbm, ⟨47, _⟩ => ⟨S16x8192x8192, .f32⟩
  | .hbm, ⟨48, _⟩ => ⟨S_, .f32⟩
  | .hbm, ⟨49, _⟩ => ⟨S16x8192, .f32⟩
  | .hbm, ⟨50, _⟩ => ⟨S_, .f32⟩
  | .hbm, ⟨51, _⟩ => ⟨S16x8192, .f32⟩
  | .hbm, ⟨52, _⟩ => ⟨S16x8192, .f32⟩
  | .hbm, ⟨53, _⟩ => ⟨S16x8192x1, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S_, .f32⟩
  | .hbm, ⟨58, _⟩ => ⟨S16x8192, .f32⟩
  | .hbm, ⟨59, _⟩ => ⟨S16x8192x1, .f32⟩
  | .hbm, ⟨60, _⟩ => ⟨S16x8192x8192, .f32⟩
  | .hbm, ⟨61, _⟩ => ⟨S16x8192x8192, .f32⟩
  | .hbm, ⟨62, _⟩ => ⟨S16x128x8192, .f32⟩
  | .hbm, ⟨63, _⟩ => ⟨S8192x16x128, .f32⟩
  | .hbm, ⟨64, _⟩ => ⟨S8192x2048, .f32⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

def κ : String → Option EReal := fun
  | "mask" => some ⊥
  | _ => none
-- ==== Proof.AttnStages.lean ====
/- The attention backward body as six stages in sequence, each an `if` over the grid coordinates, and the triple of each. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch's condition: the query block is the first. -/
abbrev k0_cond1 (i : grid0.Coords) : BitVec 1 := Scalar.cmpi .ne (Scalar.extui (Scalar.cmpi .eq (BitVec.ofNat 32 (i 2).val) 0#32) : BitVec 32) 0#32

section Stages

variable (i : grid0.Coords)
  (arg3 : Memref sig .tc .vmem S1024x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S1024x128 .bf16) (harg6 : arg6.IsWhole)
  (arg7 : Memref sig .tc .vmem S1024x128 .bf16) (harg7 : arg7.IsWhole)
  (arg8 : Memref sig .tc .vmem S1024x128 .f32) (harg8 : arg8.IsWhole)
  (arg9 : Memref sig .tc .vmem S1x1024x1 .f32) (harg9 : arg9.IsWhole)
  (arg10 : Memref sig .tc .vmem S1x1024x1 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1024x128 .f32) (harg13 : arg13.IsWhole)
  (arg14 : Memref sig .tc .vmem S1024x128 .f32) (harg14 : arg14.IsWhole)
  (arg15 : Memref sig .tc .vmem S1024x128 .f32) (harg15 : arg15.IsWhole)
  (arg16 : Memref sig .tc .vmem S8192x256 .f32) (harg16 : arg16.IsWhole)
  (arg17 : Memref sig .tc .vmem S1024x256 .f32) (harg17 : arg17.IsWhole)
  (arg18 : Memref sig .tc .vmem S1024x128 .f32) (harg18 : arg18.IsWhole)

/-- Stage 1 of the body, followed by `jp`. -/
def stage1 (jp : PUnit.{1} → Prog (TpuEff nD τ sig (Elt F) Λ₀ .tc) PUnit) : Prog (TpuEff nD τ sig (Elt F) Λ₀ .tc) PUnit := do
  if k0_h1 : k0_cond1 i = 1#1 then do
    let v21 : Vec F S1024x256 .f32 ← Prog.lift (.load arg17 (Rect.unit (s := S1024x256) ![0, 0] S1024x256.size inb_S1024x256_S1024x256_0_0).toLoadRect (View.loadsAt_vmem h_S1024x256))
    Prog.lift (.store arg17 (Rect.unit (s := S1024x256) ![0, 0] S1024x256.size inb_S1024x256_S1024x256_0_0) (k0_pay1 (F := F)) Finset.univ (View.stores_vmem_bits_univ h_S1024x256 rfl) (.inl rfl))
    let v25 : Vec F S1024x128 .f32 ← Prog.lift (.load arg18 (Rect.unit (s := S1024x128) ![0, 0] S1024x128.size inb_S1024x128_S1024x128_0_0).toLoadRect (View.loadsAt_vmem h_S1024x128))
    Prog.lift (.store arg18 (Rect.unit (s := S1024x128) ![0, 0] S1024x128.size inb_S1024x128_S1024x128_0_0) (k0_pay2 (F := F)) Finset.univ (View.stores_vmem_bits_univ h_S1024x128 rfl) (.inl rfl))
    jp ⟨⟩
  else do
    jp ⟨⟩

/-- Stage 2 of the body, followed by `jp`. -/
def stage2 (jp : PUnit.{1} → Prog (TpuEff nD τ sig (Elt F) Λ₀ .tc) PUnit) : Prog (TpuEff nD τ sig (Elt F) Λ₀ .tc) PUnit := do
  if k0_h2 : k0_cond2 i = 1#1 then do
    let v22 : Vec F S1024x256 .f32 ← Prog.lift (.load arg16 (Rect.unit (s := S8192x256) (k0_off1 i) S1024x256.size (k0_off1_inb i k0_h2)).toLoadRect (View.loadsAt_vmem h_S1024x256))
    Prog.lift (.store arg16 (Rect.unit (s := S8192x256) (k0_off1 i) S1024x256.size (k0_off1_inb i k0_h2)) (k0_pay3 (F := F)) Finset.univ (View.stores_vmem_bits_univ h_S1024x256 rfl) (.inl rfl))
    jp ⟨⟩
  else do
    jp ⟨⟩

/-- Stage 3 of the body, followed by `jp`. -/
def stage3 (jp : PUnit.{1} → Prog (TpuEff nD τ sig (Elt F) Λ₀ .tc) PUnit) : Prog (TpuEff nD τ sig (Elt F) Λ₀ .tc) PUnit := do
  if k0_h3 : k0_cond3 i = 1#1 then do
    let ⟨v28, v29, v51, v52, v54⟩ : Σ' (v28 : FVec F S1024x256 .bf16) (v29 : FVec F S1024x256 .bf16) (v51 : FVec F S1024x1024 .bf16) (v52 : Vec F S1024x128 .f32), FVec F S1024x128 .f32 ← k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v56 : Vec F S1024x128 .f32 ← Prog.lift (.load arg18 (Rect.unit (s := S1024x128) ![0, 0] S1024x128.size inb_S1024x128_S1024x128_0_0).toLoadRect (View.loadsAt_vmem h_S1024x128))
    Prog.lift (.store arg18 (Rect.unit (s := S1024x128) ![0, 0] S1024x128.size inb_S1024x128_S1024x128_0_0) (k0_pay4 v52 v54) Finset.univ (View.stores_vmem_bits_univ h_S1024x128 rfl) (.inl rfl))
    let v59 : Vec F S1024x256 .f32 ← Prog.lift (.load arg17 (Rect.unit (s := S1024x256) ![0, 0] S1024x256.size inb_S1024x256_S1024x256_0_0).toLoadRect (View.loadsAt_vmem h_S1024x256))
    let v62 : Vec F S1024x256 .f32 ← Prog.lift (.load arg17 (Rect.unit (s := S1024x256) ![0, 0] S1024x256.size inb_S1024x256_S1024x256_0_0).toLoadRect (View.loadsAt_vmem h_S1024x256))
    Prog.lift (.store arg17 (Rect.unit (s := S1024x256) ![0, 0] S1024x256.size inb_S1024x256_S1024x256_0_0) (k0_pay5 v28 v51 v59) Finset.univ (View.stores_vmem_bits_univ h_S1024x256 rfl) (.inl rfl))
    let v66 : Vec F S1024x256 .f32 ← Prog.lift (.load arg16 (Rect.unit (s := S8192x256) (k0_off2 i) S1024x256.size (k0_off2_inb i k0_h3)).toLoadRect (View.loadsAt_vmem h_S1024x256))
    let v70 : Vec F S1024x256 .f32 ← Prog.lift (.load arg16 (Rect.unit (s := S8192x256) (k0_off2 i) S1024x256.size (k0_off2_inb i k0_h3)).toLoadRect (View.loadsAt_vmem h_S1024x256))
    Prog.lift (.store arg16 (Rect.unit (s := S8192x256) (k0_off2 i) S1024x256.size (k0_off2_inb i k0_h3)) (k0_pay6 v29 v51 v66) Finset.univ (View.stores_vmem_bits_univ h_S1024x256 rfl) (.inl rfl))
    jp ⟨⟩
  else do
    jp ⟨⟩

/-- Stage 4 of the body, followed by `jp`. -/
def stage4 (jp : PUnit.{1} → Prog (TpuEff nD τ sig (Elt F) Λ₀ .tc) PUnit) : Prog (TpuEff nD τ sig (Elt F) Λ₀ .tc) PUnit := do
  if k0_h4 : k0_cond4 i = 1#1 then do
    let ⟨v28, v29, v42, v45, v56⟩ : Σ' (v28 : FVec F S1024x256 .bf16) (v29 : FVec F S1024x256 .bf16) (v42 : FVec F S1024x1024 .f32) (v45 : FVec F S1024x128 .bf16), FVec F S1024x1024 .bf16 ← k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v57 : Vec F S1024x128 .f32 ← Prog.lift (.load arg18 (Rect.unit (s := S1024x128) ![0, 0] S1024x128.size inb_S1024x128_S1024x128_0_0).toLoadRect (View.loadsAt_vmem h_S1024x128))
    let v61 : Vec F S1024x128 .f32 ← Prog.lift (.load arg18 (Rect.unit (s := S1024x128) ![0, 0] S1024x128.size inb_S1024x128_S1024x128_0_0).toLoadRect (View.loadsAt_vmem h_S1024x128))
    Prog.lift (.store arg18 (Rect.unit (s := S1024x128) ![0, 0] S1024x128.size inb_S1024x128_S1024x128_0_0) (k0_pay7 v42 v45 v57) Finset.univ (View.stores_vmem_bits_univ h_S1024x128 rfl) (.inl rfl))
    let v64 : Vec F S1024x256 .f32 ← Prog.lift (.load arg17 (Rect.unit (s := S1024x256) ![0, 0] S1024x256.size inb_S1024x256_S1024x256_0_0).toLoadRect (View.loadsAt_vmem h_S1024x256))
    let v67 : Vec F S1024x256 .f32 ← Prog.lift (.load arg17 (Rect.unit (s := S1024x256) ![0, 0] S1024x256.size inb_S1024x256_S1024x256_0_0).toLoadRect (View.loadsAt_vmem h_S1024x256))
    Prog.lift (.store arg17 (Rect.unit (s := S1024x256) ![0, 0] S1024x256.size inb_S1024x256_S1024x256_0_0) (k0_pay8 v28 v56 v64) Finset.univ (View.stores_vmem_bits_univ h_S1024x256 rfl) (.inl rfl))
    let v71 : Vec F S1024x256 .f32 ← Prog.lift (.load arg16 (Rect.unit (s := S8192x256) (k0_off3 i) S1024x256.size (k0_off3_inb i k0_h4)).toLoadRect (View.loadsAt_vmem h_S1024x256))
    let v75 : Vec F S1024x256 .f32 ← Prog.lift (.load arg16 (Rect.unit (s := S8192x256) (k0_off3 i) S1024x256.size (k0_off3_inb i k0_h4)).toLoadRect (View.loadsAt_vmem h_S1024x256))
    Prog.lift (.store arg16 (Rect.unit (s := S8192x256) (k0_off3 i) S1024x256.size (k0_off3_inb i k0_h4)) (k0_pay9 v29 v56 v71) Finset.univ (View.stores_vmem_bits_univ h_S1024x256 rfl) (.inl rfl))
    jp ⟨⟩
  else do
    jp ⟨⟩

/-- Stage 5 of the body, followed by `jp`. -/
def stage5 (jp : PUnit.{1} → Prog (TpuEff nD τ sig (Elt F) Λ₀ .tc) PUnit) : Prog (TpuEff nD τ sig (Elt F) Λ₀ .tc) PUnit := do
  if k0_h5 : k0_cond5 i = 1#1 then do
    let v20 : Vec F S1024x128 .f32 ← Prog.lift (.load arg17 (Rect.unit (s := S1024x256) ![0, 0] S1024x128.size inb_S1024x256_S1024x128_0_0).toLoadRect (View.loadsAt_vmem h_S1024x128))
    let v21 : Vec F S1024x128 .f32 ← Prog.lift (.load arg13 (Rect.unit (s := S1024x128) ![0, 0] S1024x128.size inb_S1024x128_S1024x128_0_0).toLoadRect (View.loadsAt_vmem h_S1024x128))
    Prog.lift (.store arg13 (Rect.unit (s := S1024x128) ![0, 0] S1024x128.size inb_S1024x128_S1024x128_0_0) v20 Finset.univ (View.stores_vmem_bits_univ h_S1024x128 rfl) (.inl rfl))
    let v22 : Vec F S1024x128 .f32 ← Prog.lift (.load arg17 (Rect.unit (s := S1024x256) ![0, 128] S1024x128.size inb_S1024x256_S1024x128_0_128).toLoadRect (View.loadsAt_vmem h_S1024x128))
    let v23 : Vec F S1024x128 .f32 ← Prog.lift (.load arg14 (Rect.unit (s := S1024x128) ![0, 0] S1024x128.size inb_S1024x128_S1024x128_0_0).toLoadRect (View.loadsAt_vmem h_S1024x128))
    Prog.lift (.store arg14 (Rect.unit (s := S1024x128) ![0, 0] S1024x128.size inb_S1024x128_S1024x128_0_0) v22 Finset.univ (View.stores_vmem_bits_univ h_S1024x128 rfl) (.inl rfl))
    let v24 : Vec F S1024x128 .f32 ← Prog.lift (.load arg18 (Rect.unit (s := S1024x128) ![0, 0] S1024x128.size inb_S1024x128_S1024x128_0_0).toLoadRect (View.loadsAt_vmem h_S1024x128))
    let v25 : Vec F S1024x128 .f32 ← Prog.lift (.load arg15 (Rect.unit (s := S1024x128) ![0, 0] S1024x128.size inb_S1024x128_S1024x128_0_0).toLoadRect (View.loadsAt_vmem h_S1024x128))
    Prog.lift (.store arg15 (Rect.unit (s := S1024x128) ![0, 0] S1024x128.size inb_S1024x128_S1024x128_0_0) v24 Finset.univ (View.stores_vmem_bits_univ h_S1024x128 rfl) (.inl rfl))
    jp ⟨⟩
  else do
    jp ⟨⟩

/-- Stage 6 of the body, followed by `jp`. -/
def stage6 (jp : PUnit.{1} → Prog (TpuEff nD τ sig (Elt F) Λ₀ .tc) PUnit) : Prog (TpuEff nD τ sig (Elt F) Λ₀ .tc) PUnit := do
  if k0_h6 : k0_cond6 i = 1#1 then do
    let v21 : Vec F S1024x128 .f32 ← Prog.lift (.load arg16 (Rect.unit (s := S8192x256) (k0_off4 i) S1024x128.size (k0_off4_inb i k0_h6)).toLoadRect (View.loadsAt_vmem h_S1024x128))
    let v22 : Vec F S1024x128 .f32 ← Prog.lift (.load arg11 (Rect.unit (s := S1024x128) ![0, 0] S1024x128.size inb_S1024x128_S1024x128_0_0).toLoadRect (View.loadsAt_vmem h_S1024x128))
    Prog.lift (.store arg11 (Rect.unit (s := S1024x128) ![0, 0] S1024x128.size inb_S1024x128_S1024x128_0_0) v21 Finset.univ (View.stores_vmem_bits_univ h_S1024x128 rfl) (.inl rfl))
    let v24 : Vec F S1024x128 .f32 ← Prog.lift (.load arg16 (Rect.unit (s := S8192x256) (k0_off5 i) S1024x128.size (k0_off5_inb i k0_h6)).toLoadRect (View.loadsAt_vmem h_S1024x128))
    let v25 : Vec F S1024x128 .f32 ← Prog.lift (.load arg12 (Rect.unit (s := S1024x128) ![0, 0] S1024x128.size inb_S1024x128_S1024x128_0_0).toLoadRect (View.loadsAt_vmem h_S1024x128))
    Prog.lift (.store arg12 (Rect.unit (s := S1024x128) ![0, 0] S1024x128.size inb_S1024x128_S1024x128_0_0) v24 Finset.univ (View.stores_vmem_bits_univ h_S1024x128 rfl) (.inl rfl))
    jp ⟨⟩
  else do
    jp ⟨⟩

theorem body_eq_stages : cc0_attention_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
    (stage1 i arg17 arg18 fun _ =>
      stage2 i arg16 fun _ =>
      stage3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 fun _ =>
      stage4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 fun _ =>
      stage5 i arg13 arg14 arg15 arg17 arg18 fun _ =>
      stage6 i arg11 arg12 arg16 fun _ =>
      pure ⟨⟩) := rfl

end Stages

section Triples

theorem rows_inb {r : ℕ} (hr : r < 8) : ∀ a, (![1024 * r, 0] : Fin 2 → ℕ) a + S1024x256.size a ≤ S8192x256.size a := by
  intro a; fin_cases a <;> simp [S1024x256, S8192x256] <;> omega

/-- The rows of query block `r` of the query-gradient accumulator. -/
def rowsOf (X : Vec F S8192x256 .f32) (r : ℕ) (hr : r < 8) : Vec F S1024x256 .f32 :=
  VecWindow.window X ![1024 * r, 0] S1024x256.size (rows_inb hr)

/-- The first 128 columns. -/
def halfL (Y : Vec F S1024x256 .f32) : Vec F S1024x128 .f32 := VecWindow.window Y ![0, 0] S1024x128.size inb_S1024x256_S1024x128_0_0
/-- The last 128 columns. -/
def halfR (Y : Vec F S1024x256 .f32) : Vec F S1024x128 .f32 := VecWindow.window Y ![0, 128] S1024x128.size inb_S1024x256_S1024x128_0_128

/-- A column half of a row block, read from the accumulator itself. -/
theorem window_rows (X : Vec F S8192x256 .f32) {r o : ℕ} (hr : r < 8) (inb : ∀ a, (![1024 * r, o] : Fin 2 → ℕ) a + S1024x128.size a ≤ S8192x256.size a)
    (inb' : ∀ a, (![0, o] : Fin 2 → ℕ) a + S1024x128.size a ≤ S1024x256.size a) :
    VecWindow.window X ![1024 * r, o] S1024x128.size inb = VecWindow.window (rowsOf X r hr) ![0, o] S1024x128.size inb' := by
  funext y
  refine congrArg X (funext fun a => Fin.ext ?_)
  fin_cases a
  · show 1024 * r + 1 * (y 0).val = 1024 * r + 1 * (0 + 1 * (y 0).val)
    omega
  · show o + 1 * (y 1).val = 0 + 1 * (o + 1 * (y 1).val)
    omega

/-- A load of a whole memref's own sizes reads what it holds. -/
theorem readAt_whole {sp : Space} {s : Shape} {e : EltTy} {a : Memref sig .tc sp s e} (ha : a.IsWhole) (x : s.Idx → Elt F e) {off : Fin s.rank → ℕ}
    (inb : ∀ a, off a + s.size a ≤ s.size a) :
    View.readAt (Elt F) a.view (Rect.unit off s.size inb).toLoadRect (ha.unread x) = x := by
  rw [View.readAt_full, ha.read_unread]

/-- The query rows' step below the diagonal. -/
def upQ3 (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32) (Q : Vec F S1024x256 .f32) : Vec F S1024x256 .f32 := k0_pay6 (k0_pay11 x5 x6) (k0_pay14 x3 x4 x5 x6 x9 x8 x7 x10) Q
/-- The key-gradient step below the diagonal. -/
def upY3 (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32) (Y : Vec F S1024x256 .f32) : Vec F S1024x256 .f32 := k0_pay5 (k0_pay10 x3 x4) (k0_pay14 x3 x4 x5 x6 x9 x8 x7 x10) Y
/-- The value-gradient step below the diagonal. -/
def upZ3 (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32) (Z : Vec F S1024x128 .f32) : Vec F S1024x128 .f32 := k0_pay4 Z (k0_pay15 x3 x4 x5 x6 x9 x8)
/-- The query rows' step on the diagonal. -/
def upQ4 (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32) (Q : Vec F S1024x256 .f32) : Vec F S1024x256 .f32 := k0_pay9 (k0_pay17 x5 x6) (k0_pay20 x3 x4 x5 x6 x9 x8 x7 x10) Q
/-- The key-gradient step on the diagonal. -/
def upY4 (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32) (Y : Vec F S1024x256 .f32) : Vec F S1024x256 .f32 := k0_pay8 (k0_pay16 x3 x4) (k0_pay20 x3 x4 x5 x6 x9 x8 x7 x10) Y
/-- The value-gradient step on the diagonal. -/
def upZ4 (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32) (Z : Vec F S1024x128 .f32) : Vec F S1024x128 .f32 := k0_pay7 (k0_pay18 x3 x4 x5 x6 x9) (k0_pay19 x8) Z

theorem stage1_run (c : Dev nD) (i : grid0.Coords) (jp : PUnit.{1} → Prog (TpuEff nD τ sig (Elt F) Λ₀ .tc) PUnit) (E : Set ℕ) (K : PUnit → sProp 𝕄)
    (arg17 : Memref sig .tc .vmem S1024x256 .f32) (harg17 : arg17.IsWhole) (arg18 : Memref sig .tc .vmem S1024x128 .f32) (harg18 : arg18.IsWhole)
    (h : k0_cond1 i = 1#1) (Y : Vec F S1024x256 .f32) (Z : Vec F S1024x128 .f32) :
    iprop(owns (c : Thread nD τ) arg17 fullShare Y ∗ owns (c : Thread nD τ) arg18 fullShare Z
      ∗ (iprop(owns (c : Thread nD τ) arg17 fullShare (k0_pay1 (F := F)) ∗ owns (c : Thread nD τ) arg18 fullShare (k0_pay2 (F := F)))
          -∗ wp frame (wpE (defs₀ (F := F)) Variants.none c none) E (jp ⟨⟩) K))
      ⊢ wp frame (wpE (defs₀ (F := F)) Variants.none c none) E (stage1 i arg17 arg18 jp) K := by
  unfold stage1 owns
  iintro ⟨⟨%f17, %hf17, H17⟩, ⟨%f18, %hf18, H18⟩, Hk⟩
  obtain rfl := harg17.eq_unread hf17; obtain rfl := harg18.eq_unread hf18
  sl_exec (disch := first | sl_exact h)
  iapply Hk
  isplitl [H17]
  · iexists _; isplitr; swap; · iexact H17
    ipureintro; exact View.read_writes_full _ _ _ _ _
  iexists _; isplitr; swap; · iexact H18
  ipureintro; exact View.read_writes_full _ _ _ _ _

theorem stage2_run (c : Dev nD) (i : grid0.Coords) (jp : PUnit.{1} → Prog (TpuEff nD τ sig (Elt F) Λ₀ .tc) PUnit) (E : Set ℕ) (K : PUnit → sProp 𝕄)
    (arg16 : Memref sig .tc .vmem S8192x256 .f32) (harg16 : arg16.IsWhole)
    (h : k0_cond2 i = 1#1) (X : Vec F S8192x256 .f32) :
    iprop(owns (c : Thread nD τ) arg16 fullShare X
      ∗ (iprop(owns (c : Thread nD τ) arg16 fullShare (VecWindow.put X ![1024 * (i 2).val, 0] S1024x256.size (k0_pay3 (F := F))))
          -∗ wp frame (wpE (defs₀ (F := F)) Variants.none c none) E (jp ⟨⟩) K))
      ⊢ wp frame (wpE (defs₀ (F := F)) Variants.none c none) E (stage2 i arg16 jp) K := by
  unfold stage2 owns
  iintro ⟨⟨%f16, %hf16, H16⟩, Hk⟩
  obtain rfl := harg16.eq_unread hf16
  sl_exec (disch := first | sl_exact h)
  iapply Hk
  iexists _; isplitr; swap; · iexact H16
  ipureintro
  rw [View.read_writes_cons_put _ _ _ _ _ (k0_off1_eq i), View.writes_nil, harg16.read_unread]

set_option maxHeartbeats 2000000 in
/-- A block below the diagonal adds its terms to the three accumulators. -/
theorem stage3_run (c : Dev nD) (i : grid0.Coords) (jp : PUnit.{1} → Prog (TpuEff nD τ sig (Elt F) Λ₀ .tc) PUnit) (E : Set ℕ) (K : PUnit → sProp 𝕄)
    (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S8192x256 .f32) (harg16 : arg16.IsWhole) (arg17 : Memref sig .tc .vmem S1024x256 .f32) (harg17 : arg17.IsWhole) (arg18 : Memref sig .tc .vmem S1024x128 .f32) (harg18 : arg18.IsWhole)
    (h : k0_cond3 i = 1#1) (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32)
    (X : Vec F S8192x256 .f32) (Y : Vec F S1024x256 .f32) (Z : Vec F S1024x128 .f32) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg16 fullShare X ∗ owns (c : Thread nD τ) arg17 fullShare Y ∗ owns (c : Thread nD τ) arg18 fullShare Z
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg16 fullShare (VecWindow.put X ![1024 * (i 2).val, 0] S1024x256.size (upQ3 x3 x4 x5 x6 x7 x8 x9 x10 (rowsOf X (i 2).val (i 2).isLt))) ∗ owns (c : Thread nD τ) arg17 fullShare (upY3 x3 x4 x5 x6 x7 x8 x9 x10 Y) ∗ owns (c : Thread nD τ) arg18 fullShare (upZ3 x3 x4 x5 x6 x7 x8 x9 x10 Z))
          -∗ wp frame (wpE (defs₀ (F := F)) Variants.none c none) E (jp ⟨⟩) K))
      ⊢ wp frame (wpE (defs₀ (F := F)) Variants.none c none) E (stage3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 jp) K := by
  unfold stage3 owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f16, %hf16, H16⟩, ⟨%f17, %hf17, H17⟩, ⟨%f18, %hf18, H18⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg16.eq_unread hf16; obtain rfl := harg17.eq_unread hf17; obtain rfl := harg18.eq_unread hf18
  sl_exec (disch := first | sl_exact h)
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H16]
  · iexists _; isplitr; swap; · iexact H16
    ipureintro
    rw [View.read_writes_cons_put _ _ _ _ _ (k0_off2_eq i), View.writes_nil, harg16.read_unread]
    refine congrArg (VecWindow.put X ![1024 * (i 2).val, 0] S1024x256.size) ?_
    rw [View.readAt_unit _ _ _ (k0_off2_eq i) (rows_inb (i 2).isLt), harg16.read_unread]
    exact (show _ = upQ3 (View.readAt (Elt F) arg3.view (Rect.unit ![0, 0] S1024x128.size inb_S1024x128_S1024x128_0_0).toLoadRect (harg3.unread x3)) (View.readAt (Elt F) arg4.view (Rect.unit ![0, 0] S1024x128.size inb_S1024x128_S1024x128_0_0).toLoadRect (harg4.unread x4)) (View.readAt (Elt F) arg5.view (Rect.unit ![0, 0] S1024x128.size inb_S1024x128_S1024x128_0_0).toLoadRect (harg5.unread x5)) (View.readAt (Elt F) arg6.view (Rect.unit ![0, 0] S1024x128.size inb_S1024x128_S1024x128_0_0).toLoadRect (harg6.unread x6)) (View.readAt (Elt F) arg7.view (Rect.unit ![0, 0] S1024x128.size inb_S1024x128_S1024x128_0_0).toLoadRect (harg7.unread x7)) (View.readAt (Elt F) arg8.view (Rect.unit ![0, 0] S1024x128.size inb_S1024x128_S1024x128_0_0).toLoadRect (harg8.unread x8)) (View.readAt (Elt F) arg9.view (Rect.unit ![0, 0, 0] S1x1024x1.size inb_S1x1024x1_S1x1024x1_0_0_0).toLoadRect (harg9.unread x9)) (View.readAt (Elt F) arg10.view (Rect.unit ![0, 0, 0] S1x1024x1.size inb_S1x1024x1_S1x1024x1_0_0_0).toLoadRect (harg10.unread x10)) (rowsOf X (i 2).val (i 2).isLt) from rfl).trans (by rw [readAt_whole harg3, readAt_whole harg4, readAt_whole harg5, readAt_whole harg6, readAt_whole harg7, readAt_whole harg8, readAt_whole harg9, readAt_whole harg10])
  isplitl [H17]
  · iexists _; isplitr; swap; · iexact H17
    ipureintro
    rw [View.read_writes_full]
    exact (show _ = upY3 (View.readAt (Elt F) arg3.view (Rect.unit ![0, 0] S1024x128.size inb_S1024x128_S1024x128_0_0).toLoadRect (harg3.unread x3)) (View.readAt (Elt F) arg4.view (Rect.unit ![0, 0] S1024x128.size inb_S1024x128_S1024x128_0_0).toLoadRect (harg4.unread x4)) (View.readAt (Elt F) arg5.view (Rect.unit ![0, 0] S1024x128.size inb_S1024x128_S1024x128_0_0).toLoadRect (harg5.unread x5)) (View.readAt (Elt F) arg6.view (Rect.unit ![0, 0] S1024x128.size inb_S1024x128_S1024x128_0_0).toLoadRect (harg6.unread x6)) (View.readAt (Elt F) arg7.view (Rect.unit ![0, 0] S1024x128.size inb_S1024x128_S1024x128_0_0).toLoadRect (harg7.unread x7)) (View.readAt (Elt F) arg8.view (Rect.unit ![0, 0] S1024x128.size inb_S1024x128_S1024x128_0_0).toLoadRect (harg8.unread x8)) (View.readAt (Elt F) arg9.view (Rect.unit ![0, 0, 0] S1x1024x1.size inb_S1x1024x1_S1x1024x1_0_0_0).toLoadRect (harg9.unread x9)) (View.readAt (Elt F) arg10.view (Rect.unit ![0, 0, 0] S1x1024x1.size inb_S1x1024x1_S1x1024x1_0_0_0).toLoadRect (harg10.unread x10)) (View.readAt (Elt F) arg17.view (Rect.unit ![0, 0] S1024x256.size inb_S1024x256_S1024x256_0_0).toLoadRect (harg17.unread Y)) from rfl).trans (by rw [readAt_whole harg3, readAt_whole harg4, readAt_whole harg5, readAt_whole harg6, readAt_whole harg7, readAt_whole harg8, readAt_whole harg9, readAt_whole harg10, readAt_whole harg17])
  iexists _; isplitr; swap; · iexact H18
  ipureintro
  rw [View.read_writes_full]
  exact (show _ = upZ3 (View.readAt (Elt F) arg3.view (Rect.unit ![0, 0] S1024x128.size inb_S1024x128_S1024x128_0_0).toLoadRect (harg3.unread x3)) (View.readAt (Elt F) arg4.view (Rect.unit ![0, 0] S1024x128.size inb_S1024x128_S1024x128_0_0).toLoadRect (harg4.unread x4)) (View.readAt (Elt F) arg5.view (Rect.unit ![0, 0] S1024x128.size inb_S1024x128_S1024x128_0_0).toLoadRect (harg5.unread x5)) (View.readAt (Elt F) arg6.view (Rect.unit ![0, 0] S1024x128.size inb_S1024x128_S1024x128_0_0).toLoadRect (harg6.unread x6)) (View.readAt (Elt F) arg7.view (Rect.unit ![0, 0] S1024x128.size inb_S1024x128_S1024x128_0_0).toLoadRect (harg7.unread x7)) (View.readAt (Elt F) arg8.view (Rect.unit ![0, 0] S1024x128.size inb_S1024x128_S1024x128_0_0).toLoadRect (harg8.unread x8)) (View.readAt (Elt F) arg9.view (Rect.unit ![0, 0, 0] S1x1024x1.size inb_S1x1024x1_S1x1024x1_0_0_0).toLoadRect (harg9.unread x9)) (View.readAt (Elt F) arg10.view (Rect.unit ![0, 0, 0] S1x1024x1.size inb_S1x1024x1_S1x1024x1_0_0_0).toLoadRect (harg10.unread x10)) (View.readAt (Elt F) arg18.view (Rect.unit ![0, 0] S1024x128.size inb_S1024x128_S1024x128_0_0).toLoadRect (harg18.unread Z)) from rfl).trans (by rw [readAt_whole harg3, readAt_whole harg4, readAt_whole harg5, readAt_whole harg6, readAt_whole harg7, readAt_whole harg8, readAt_whole harg9, readAt_whole harg10, readAt_whole harg18])

set_option maxHeartbeats 2000000 in
/-- A block on the diagonal adds its terms to the three accumulators. -/
theorem stage4_run (c : Dev nD) (i : grid0.Coords) (jp : PUnit.{1} → Prog (TpuEff nD τ sig (Elt F) Λ₀ .tc) PUnit) (E : Set ℕ) (K : PUnit → sProp 𝕄)
    (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S8192x256 .f32) (harg16 : arg16.IsWhole) (arg17 : Memref sig .tc .vmem S1024x256 .f32) (harg17 : arg17.IsWhole) (arg18 : Memref sig .tc .vmem S1024x128 .f32) (harg18 : arg18.IsWhole)
    (h : k0_cond4 i = 1#1) (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32)
    (X : Vec F S8192x256 .f32) (Y : Vec F S1024x256 .f32) (Z : Vec F S1024x128 .f32) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg16 fullShare X ∗ owns (c : Thread nD τ) arg17 fullShare Y ∗ owns (c : Thread nD τ) arg18 fullShare Z
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg16 fullShare (VecWindow.put X ![1024 * (i 2).val, 0] S1024x256.size (upQ4 x3 x4 x5 x6 x7 x8 x9 x10 (rowsOf X (i 2).val (i 2).isLt))) ∗ owns (c : Thread nD τ) arg17 fullShare (upY4 x3 x4 x5 x6 x7 x8 x9 x10 Y) ∗ owns (c : Thread nD τ) arg18 fullShare (upZ4 x3 x4 x5 x6 x7 x8 x9 x10 Z))
          -∗ wp frame (wpE (defs₀ (F := F)) Variants.none c none) E (jp ⟨⟩) K))
      ⊢ wp frame (wpE (defs₀ (F := F)) Variants.none c none) E (stage4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 jp) K := by
  unfold stage4 owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f16, %hf16, H16⟩, ⟨%f17, %hf17, H17⟩, ⟨%f18, %hf18, H18⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg16.eq_unread hf16; obtain rfl := harg17.eq_unread hf17; obtain rfl := harg18.eq_unread hf18
  sl_exec (disch := first | sl_exact h)
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H16]
  · iexists _; isplitr; swap; · iexact H16
    ipureintro
    rw [View.read_writes_cons_put _ _ _ _ _ (k0_off3_eq i), View.writes_nil, harg16.read_unread]
    refine congrArg (VecWindow.put X ![1024 * (i 2).val, 0] S1024x256.size) ?_
    rw [View.readAt_unit _ _ _ (k0_off3_eq i) (rows_inb (i 2).isLt), harg16.read_unread]
    exact (show _ = upQ4 (View.readAt (Elt F) arg3.view (Rect.unit ![0, 0] S1024x128.size inb_S1024x128_S1024x128_0_0).toLoadRect (harg3.unread x3)) (View.readAt (Elt F) arg4.view (Rect.unit ![0, 0] S1024x128.size inb_S1024x128_S1024x128_0_0).toLoadRect (harg4.unread x4)) (View.readAt (Elt F) arg5.view (Rect.unit ![0, 0] S1024x128.size inb_S1024x128_S1024x128_0_0).toLoadRect (harg5.unread x5)) (View.readAt (Elt F) arg6.view (Rect.unit ![0, 0] S1024x128.size inb_S1024x128_S1024x128_0_0).toLoadRect (harg6.unread x6)) (View.readAt (Elt F) arg7.view (Rect.unit ![0, 0] S1024x128.size inb_S1024x128_S1024x128_0_0).toLoadRect (harg7.unread x7)) (View.readAt (Elt F) arg8.view (Rect.unit ![0, 0] S1024x128.size inb_S1024x128_S1024x128_0_0).toLoadRect (harg8.unread x8)) (View.readAt (Elt F) arg9.view (Rect.unit ![0, 0, 0] S1x1024x1.size inb_S1x1024x1_S1x1024x1_0_0_0).toLoadRect (harg9.unread x9)) (View.readAt (Elt F) arg10.view (Rect.unit ![0, 0, 0] S1x1024x1.size inb_S1x1024x1_S1x1024x1_0_0_0).toLoadRect (harg10.unread x10)) (rowsOf X (i 2).val (i 2).isLt) from rfl).trans (by rw [readAt_whole harg3, readAt_whole harg4, readAt_whole harg5, readAt_whole harg6, readAt_whole harg7, readAt_whole harg8, readAt_whole harg9, readAt_whole harg10])
  isplitl [H17]
  · iexists _; isplitr; swap; · iexact H17
    ipureintro
    rw [View.read_writes_full]
    exact (show _ = upY4 (View.readAt (Elt F) arg3.view (Rect.unit ![0, 0] S1024x128.size inb_S1024x128_S1024x128_0_0).toLoadRect (harg3.unread x3)) (View.readAt (Elt F) arg4.view (Rect.unit ![0, 0] S1024x128.size inb_S1024x128_S1024x128_0_0).toLoadRect (harg4.unread x4)) (View.readAt (Elt F) arg5.view (Rect.unit ![0, 0] S1024x128.size inb_S1024x128_S1024x128_0_0).toLoadRect (harg5.unread x5)) (View.readAt (Elt F) arg6.view (Rect.unit ![0, 0] S1024x128.size inb_S1024x128_S1024x128_0_0).toLoadRect (harg6.unread x6)) (View.readAt (Elt F) arg7.view (Rect.unit ![0, 0] S1024x128.size inb_S1024x128_S1024x128_0_0).toLoadRect (harg7.unread x7)) (View.readAt (Elt F) arg8.view (Rect.unit ![0, 0] S1024x128.size inb_S1024x128_S1024x128_0_0).toLoadRect (harg8.unread x8)) (View.readAt (Elt F) arg9.view (Rect.unit ![0, 0, 0] S1x1024x1.size inb_S1x1024x1_S1x1024x1_0_0_0).toLoadRect (harg9.unread x9)) (View.readAt (Elt F) arg10.view (Rect.unit ![0, 0, 0] S1x1024x1.size inb_S1x1024x1_S1x1024x1_0_0_0).toLoadRect (harg10.unread x10)) (View.readAt (Elt F) arg17.view (Rect.unit ![0, 0] S1024x256.size inb_S1024x256_S1024x256_0_0).toLoadRect (harg17.unread Y)) from rfl).trans (by rw [readAt_whole harg3, readAt_whole harg4, readAt_whole harg5, readAt_whole harg6, readAt_whole harg7, readAt_whole harg8, readAt_whole harg9, readAt_whole harg10, readAt_whole harg17])
  iexists _; isplitr; swap; · iexact H18
  ipureintro
  rw [View.read_writes_full]
  exact (show _ = upZ4 (View.readAt (Elt F) arg3.view (Rect.unit ![0, 0] S1024x128.size inb_S1024x128_S1024x128_0_0).toLoadRect (harg3.unread x3)) (View.readAt (Elt F) arg4.view (Rect.unit ![0, 0] S1024x128.size inb_S1024x128_S1024x128_0_0).toLoadRect (harg4.unread x4)) (View.readAt (Elt F) arg5.view (Rect.unit ![0, 0] S1024x128.size inb_S1024x128_S1024x128_0_0).toLoadRect (harg5.unread x5)) (View.readAt (Elt F) arg6.view (Rect.unit ![0, 0] S1024x128.size inb_S1024x128_S1024x128_0_0).toLoadRect (harg6.unread x6)) (View.readAt (Elt F) arg7.view (Rect.unit ![0, 0] S1024x128.size inb_S1024x128_S1024x128_0_0).toLoadRect (harg7.unread x7)) (View.readAt (Elt F) arg8.view (Rect.unit ![0, 0] S1024x128.size inb_S1024x128_S1024x128_0_0).toLoadRect (harg8.unread x8)) (View.readAt (Elt F) arg9.view (Rect.unit ![0, 0, 0] S1x1024x1.size inb_S1x1024x1_S1x1024x1_0_0_0).toLoadRect (harg9.unread x9)) (View.readAt (Elt F) arg10.view (Rect.unit ![0, 0, 0] S1x1024x1.size inb_S1x1024x1_S1x1024x1_0_0_0).toLoadRect (harg10.unread x10)) (View.readAt (Elt F) arg18.view (Rect.unit ![0, 0] S1024x128.size inb_S1024x128_S1024x128_0_0).toLoadRect (harg18.unread Z)) from rfl).trans (by rw [readAt_whole harg3, readAt_whole harg4, readAt_whole harg5, readAt_whole harg6, readAt_whole harg7, readAt_whole harg8, readAt_whole harg9, readAt_whole harg10, readAt_whole harg18])

/-- After the last query block the key and value gradients are stored. -/
theorem stage5_run (c : Dev nD) (i : grid0.Coords) (jp : PUnit.{1} → Prog (TpuEff nD τ sig (Elt F) Λ₀ .tc) PUnit) (E : Set ℕ) (K : PUnit → sProp 𝕄)
    (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg17 : Memref sig .tc .vmem S1024x256 .f32) (harg17 : arg17.IsWhole) (arg18 : Memref sig .tc .vmem S1024x128 .f32) (harg18 : arg18.IsWhole)
    (h : k0_cond5 i = 1#1) (Y : Vec F S1024x256 .f32) (Z : Vec F S1024x128 .f32) :
    iprop((∃ x, owns (c : Thread nD τ) arg13 fullShare x) ∗ (∃ x, owns (c : Thread nD τ) arg14 fullShare x) ∗ (∃ x, owns (c : Thread nD τ) arg15 fullShare x) ∗ owns (c : Thread nD τ) arg17 fullShare Y ∗ owns (c : Thread nD τ) arg18 fullShare Z
      ∗ (iprop(owns (c : Thread nD τ) arg13 fullShare (halfL Y) ∗ owns (c : Thread nD τ) arg14 fullShare (halfR Y) ∗ owns (c : Thread nD τ) arg15 fullShare Z ∗ owns (c : Thread nD τ) arg17 fullShare Y ∗ owns (c : Thread nD τ) arg18 fullShare Z)
          -∗ wp frame (wpE (defs₀ (F := F)) Variants.none c none) E (jp ⟨⟩) K))
      ⊢ wp frame (wpE (defs₀ (F := F)) Variants.none c none) E (stage5 i arg13 arg14 arg15 arg17 arg18 jp) K := by
  unfold stage5 owns
  iintro ⟨⟨%x13, %f13, %hf13, H13⟩, ⟨%x14, %f14, %hf14, H14⟩, ⟨%x15, %f15, %hf15, H15⟩, ⟨%f17, %hf17, H17⟩, ⟨%f18, %hf18, H18⟩, Hk⟩
  obtain rfl := harg13.eq_unread hf13; obtain rfl := harg14.eq_unread hf14; obtain rfl := harg15.eq_unread hf15
  obtain rfl := harg17.eq_unread hf17; obtain rfl := harg18.eq_unread hf18
  sl_exec (disch := first | sl_exact h)
  iapply Hk
  isplitl [H13]
  · iexists _; isplitr; swap; · iexact H13
    ipureintro
    rw [View.read_writes_full]
    rw [View.readAt_unit _ _ _ rfl inb_S1024x256_S1024x128_0_0, harg17.read_unread]; rfl
  isplitl [H14]
  · iexists _; isplitr; swap; · iexact H14
    ipureintro
    rw [View.read_writes_full]
    rw [View.readAt_unit _ _ _ rfl inb_S1024x256_S1024x128_0_128, harg17.read_unread]; rfl
  isplitl [H15]
  · iexists _; isplitr; swap; · iexact H15
    ipureintro
    rw [View.read_writes_full]
    exact readAt_whole harg18 Z _
  isplitl [H17]
  · iexists _; isplitr; · ipureintro; exact harg17.read_unread _
    iexact H17
  iexists _; isplitr; · ipureintro; exact harg18.read_unread _
  iexact H18

/-- After the last key block the query gradients are stored. -/
theorem stage6_run (c : Dev nD) (i : grid0.Coords) (jp : PUnit.{1} → Prog (TpuEff nD τ sig (Elt F) Λ₀ .tc) PUnit) (E : Set ℕ) (K : PUnit → sProp 𝕄)
    (arg11 : Memref sig .tc .vmem S1024x128 .f32) (harg11 : arg11.IsWhole) (arg12 : Memref sig .tc .vmem S1024x128 .f32) (harg12 : arg12.IsWhole) (arg16 : Memref sig .tc .vmem S8192x256 .f32) (harg16 : arg16.IsWhole)
    (h : k0_cond6 i = 1#1) (X : Vec F S8192x256 .f32) :
    iprop((∃ x, owns (c : Thread nD τ) arg11 fullShare x) ∗ (∃ x, owns (c : Thread nD τ) arg12 fullShare x) ∗ owns (c : Thread nD τ) arg16 fullShare X
      ∗ (iprop(owns (c : Thread nD τ) arg11 fullShare (halfL (rowsOf X (i 2).val (i 2).isLt)) ∗ owns (c : Thread nD τ) arg12 fullShare (halfR (rowsOf X (i 2).val (i 2).isLt)) ∗ owns (c : Thread nD τ) arg16 fullShare X)
          -∗ wp frame (wpE (defs₀ (F := F)) Variants.none c none) E (jp ⟨⟩) K))
      ⊢ wp frame (wpE (defs₀ (F := F)) Variants.none c none) E (stage6 i arg11 arg12 arg16 jp) K := by
  unfold stage6 owns
  iintro ⟨⟨%x11, %f11, %hf11, H11⟩, ⟨%x12, %f12, %hf12, H12⟩, ⟨%f16, %hf16, H16⟩, Hk⟩
  obtain rfl := harg11.eq_unread hf11; obtain rfl := harg12.eq_unread hf12; obtain rfl := harg16.eq_unread hf16
  sl_exec (disch := first | sl_exact h)
  iapply Hk
  isplitl [H11]
  · iexists _; isplitr; swap; · iexact H11
    ipureintro
    rw [View.read_writes_full]
    rw [View.readAt_unit _ _ _ (k0_off4_eq i) (k0_off4_eq i ▸ k0_off4_inb i h), harg16.read_unread]
    exact window_rows X (i 2).isLt _ _
  isplitl [H12]
  · iexists _; isplitr; swap; · iexact H12
    ipureintro
    rw [View.read_writes_full]
    rw [View.readAt_unit _ _ _ (k0_off5_eq i) (k0_off5_eq i ▸ k0_off5_inb i h), harg16.read_unread]
    exact window_rows X (i 2).isLt _ _
  iexists _; isplitr; · ipureintro; exact harg16.read_unread _
  iexact H16

end Triples

end Cert.Proof.Attn

end
-- ==== Proof.AttnBody.lean ====
/- The attention backward body at one grid point, on any memrefs: its six stages in sequence. -/
module

public import proofs.«01_k».proof.Proof.AttnStages

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem c1_iff (i : grid0.Coords) : k0_cond1 i = 1#1 ↔ (i 2).val = 0 :=
  (by decide +kernel : ∀ b : Fin 8, Scalar.cmpi .ne (Scalar.extui (Scalar.cmpi .eq (BitVec.ofNat 32 b.val) 0#32) : BitVec 32) 0#32 = 1#1 ↔ b.val = 0) (i 2)
theorem c2_iff (i : grid0.Coords) : k0_cond2 i = 1#1 ↔ (i 1).val = 0 :=
  (by decide +kernel : ∀ b : Fin 8, Scalar.cmpi .ne (Scalar.extui (Scalar.cmpi .eq (BitVec.ofNat 32 b.val) 0#32) : BitVec 32) 0#32 = 1#1 ↔ b.val = 0) (i 1)
theorem c3_iff (i : grid0.Coords) : k0_cond3 i = 1#1 ↔ (i 1).val < (i 2).val :=
  (by decide +kernel : ∀ a b : Fin 8, Scalar.cmpi .ne (Scalar.extui (Scalar.cmpi .slt (BitVec.ofNat 32 a.val) (BitVec.ofNat 32 b.val)) : BitVec 32) 0#32 = 1#1 ↔ a.val < b.val) (i 1) (i 2)
theorem c4_iff (i : grid0.Coords) : k0_cond4 i = 1#1 ↔ (i 1).val = (i 2).val :=
  (by decide +kernel : ∀ a b : Fin 8, Scalar.cmpi .ne (Scalar.extui (Scalar.cmpi .eq (BitVec.ofNat 32 a.val) (BitVec.ofNat 32 b.val)) : BitVec 32) 0#32 = 1#1 ↔ a.val = b.val) (i 1) (i 2)
theorem c5_iff (i : grid0.Coords) : k0_cond5 i = 1#1 ↔ (i 2).val = 7 :=
  (by decide +kernel : ∀ b : Fin 8, Scalar.cmpi .ne (Scalar.extui (Scalar.cmpi .eq (BitVec.ofNat 32 b.val) 7#32) : BitVec 32) 0#32 = 1#1 ↔ b.val = 7) (i 2)
theorem c6_iff (i : grid0.Coords) : k0_cond6 i = 1#1 ↔ (i 1).val = 7 :=
  (by decide +kernel : ∀ b : Fin 8, Scalar.cmpi .ne (Scalar.extui (Scalar.cmpi .eq (BitVec.ofNat 32 b.val) 7#32) : BitVec 32) 0#32 = 1#1 ↔ b.val = 7) (i 1)

/-- The key-gradient accumulator after its conditional reset. -/
def Y1 (i : grid0.Coords) (Y : Vec F S1024x256 .f32) : Vec F S1024x256 .f32 := if (i 2).val = 0 then k0_pay1 else Y
/-- The value-gradient accumulator after its conditional reset. -/
def Z1 (i : grid0.Coords) (Z : Vec F S1024x128 .f32) : Vec F S1024x128 .f32 := if (i 2).val = 0 then k0_pay2 else Z
/-- The query-gradient accumulator after the conditional reset of the point's rows. -/
def X1 (i : grid0.Coords) (X : Vec F S8192x256 .f32) : Vec F S8192x256 .f32 :=
  if (i 1).val = 0 then VecWindow.put X ![1024 * (i 2).val, 0] S1024x256.size k0_pay3 else X

section Steps

variable (j i : ℕ) (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32)

/-- One point's step of the key gradient: below the diagonal, on it, or none. -/
def stepY (Y : Vec F S1024x256 .f32) : Vec F S1024x256 .f32 :=
  if j < i then upY3 x3 x4 x5 x6 x7 x8 x9 x10 Y else if j = i then upY4 x3 x4 x5 x6 x7 x8 x9 x10 Y else Y
/-- One point's step of the value gradient. -/
def stepZ (Z : Vec F S1024x128 .f32) : Vec F S1024x128 .f32 :=
  if j < i then upZ3 x3 x4 x5 x6 x7 x8 x9 x10 Z else if j = i then upZ4 x3 x4 x5 x6 x7 x8 x9 x10 Z else Z
/-- One point's step of a row block of the query gradient. -/
def stepQ (Q : Vec F S1024x256 .f32) : Vec F S1024x256 .f32 :=
  if j < i then upQ3 x3 x4 x5 x6 x7 x8 x9 x10 Q else if j = i then upQ4 x3 x4 x5 x6 x7 x8 x9 x10 Q else Q

end Steps

/-- One point's step of the query-gradient accumulator. -/
def stepX (i : grid0.Coords) (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32) (X : Vec F S8192x256 .f32) : Vec F S8192x256 .f32 :=
  if (i 1).val ≤ (i 2).val then VecWindow.put X ![1024 * (i 2).val, 0] S1024x256.size (stepQ (i 1).val (i 2).val x3 x4 x5 x6 x7 x8 x9 x10 (rowsOf X (i 2).val (i 2).isLt)) else X

/-- The three accumulators of the kernel. -/
abbrev sc0 : Memref sig .tc .vmem S8192x256 .f32 := Memref.whole cc0_scratch0
abbrev sc1 : Memref sig .tc .vmem S1024x256 .f32 := Memref.whole cc0_scratch1
abbrev sc2 : Memref sig .tc .vmem S1024x128 .f32 := Memref.whole cc0_scratch2

theorem stage1_all (c : Dev nD) (i : grid0.Coords) (jp : PUnit.{1} → Prog (TpuEff nD τ sig (Elt F) Λ₀ .tc) PUnit) (E : Set ℕ) (K : PUnit → sProp 𝕄)
    (arg17 : Memref sig .tc .vmem S1024x256 .f32) (harg17 : arg17.IsWhole) (arg18 : Memref sig .tc .vmem S1024x128 .f32) (harg18 : arg18.IsWhole)
    (Y : Vec F S1024x256 .f32) (Z : Vec F S1024x128 .f32) :
    iprop(owns (c : Thread nD τ) arg17 fullShare Y ∗ owns (c : Thread nD τ) arg18 fullShare Z
      ∗ (iprop(owns (c : Thread nD τ) arg17 fullShare (Y1 i Y) ∗ owns (c : Thread nD τ) arg18 fullShare (Z1 i Z)) -∗ wp frame (wpE (defs₀ (F := F)) Variants.none c none) E (jp ⟨⟩) K))
      ⊢ wp frame (wpE (defs₀ (F := F)) Variants.none c none) E (stage1 i arg17 arg18 jp) K := by
  by_cases h : k0_cond1 i = 1#1
  · unfold Y1 Z1; rw [if_pos ((c1_iff i).mp h), if_pos ((c1_iff i).mp h)]
    exact stage1_run c i jp E K arg17 harg17 arg18 harg18 h Y Z
  · unfold Y1 Z1 stage1; rw [if_neg (fun e => h ((c1_iff i).mpr e)), if_neg (fun e => h ((c1_iff i).mpr e)), dif_neg h]
    iintro ⟨H1, H2, Hk⟩
    iapply Hk
    isplitl [H1]; · iexact H1
    iexact H2

theorem stage2_all (c : Dev nD) (i : grid0.Coords) (jp : PUnit.{1} → Prog (TpuEff nD τ sig (Elt F) Λ₀ .tc) PUnit) (E : Set ℕ) (K : PUnit → sProp 𝕄)
    (arg16 : Memref sig .tc .vmem S8192x256 .f32) (harg16 : arg16.IsWhole)
    (X : Vec F S8192x256 .f32) :
    iprop(owns (c : Thread nD τ) arg16 fullShare X ∗ (iprop(owns (c : Thread nD τ) arg16 fullShare (X1 i X)) -∗ wp frame (wpE (defs₀ (F := F)) Variants.none c none) E (jp ⟨⟩) K))
      ⊢ wp frame (wpE (defs₀ (F := F)) Variants.none c none) E (stage2 i arg16 jp) K := by
  by_cases h : k0_cond2 i = 1#1
  · unfold X1; rw [if_pos ((c2_iff i).mp h)]
    exact stage2_run c i jp E K arg16 harg16 h X
  · unfold X1 stage2; rw [if_neg (fun e => h ((c2_iff i).mpr e)), dif_neg h]
    iintro ⟨H1, Hk⟩
    iapply Hk
    iexact H1

theorem stage34_all (c : Dev nD) (i : grid0.Coords) (jp : PUnit.{1} → Prog (TpuEff nD τ sig (Elt F) Λ₀ .tc) PUnit) (E : Set ℕ) (K : PUnit → sProp 𝕄)
    (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S8192x256 .f32) (harg16 : arg16.IsWhole) (arg17 : Memref sig .tc .vmem S1024x256 .f32) (harg17 : arg17.IsWhole) (arg18 : Memref sig .tc .vmem S1024x128 .f32) (harg18 : arg18.IsWhole)
    (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32)
    (X : Vec F S8192x256 .f32) (Y : Vec F S1024x256 .f32) (Z : Vec F S1024x128 .f32) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg16 fullShare X ∗ owns (c : Thread nD τ) arg17 fullShare Y ∗ owns (c : Thread nD τ) arg18 fullShare Z
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg16 fullShare (stepX i x3 x4 x5 x6 x7 x8 x9 x10 X) ∗ owns (c : Thread nD τ) arg17 fullShare (stepY (i 1).val (i 2).val x3 x4 x5 x6 x7 x8 x9 x10 Y) ∗ owns (c : Thread nD τ) arg18 fullShare (stepZ (i 1).val (i 2).val x3 x4 x5 x6 x7 x8 x9 x10 Z)) -∗ wp frame (wpE (defs₀ (F := F)) Variants.none c none) E (jp ⟨⟩) K))
      ⊢ wp frame (wpE (defs₀ (F := F)) Variants.none c none) E (stage3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 fun _ => stage4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 jp) K := by
  unfold stepX stepY stepZ stepQ
  by_cases h3 : k0_cond3 i = 1#1
  · have e := (c3_iff i).mp h3
    have h4 : ¬k0_cond4 i = 1#1 := fun h => absurd ((c4_iff i).mp h) e.ne
    rw [if_pos e.le, if_pos e, if_pos e, if_pos e]
    refine (?_ : _ ⊢ _).trans (stage3_run c i (fun _ => stage4 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 jp) E K arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h3 x3 x4 x5 x6 x7 x8 x9 x10 X Y Z)
    iintro ⟨H3, H4, H5, H6, H7, H8, H9, H10, H16, H17, H18, Hk⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H16]; · iexact H16
    isplitl [H17]; · iexact H17
    isplitl [H18]; · iexact H18
    iintro ⟨H3, H4, H5, H6, H7, H8, H9, H10, H16, H17, H18⟩
    unfold stage4; rw [dif_neg h4]
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H16]; · iexact H16
    isplitl [H17]; · iexact H17
    iexact H18
  · have e : ¬(i 1).val < (i 2).val := fun e => h3 ((c3_iff i).mpr e)
    unfold stage3; rw [dif_neg h3, if_neg e, if_neg e, if_neg e]
    by_cases h4 : k0_cond4 i = 1#1
    · have e' := (c4_iff i).mp h4
      rw [if_pos e'.le, if_pos e', if_pos e', if_pos e']
      exact stage4_run c i jp E K arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h4 x3 x4 x5 x6 x7 x8 x9 x10 X Y Z
    · have e' : ¬(i 1).val = (i 2).val := fun e => h4 ((c4_iff i).mpr e)
      unfold stage4
      rw [dif_neg h4, if_neg (fun h => e (lt_of_le_of_ne h e')), if_neg e', if_neg e']
      iintro ⟨H3, H4, H5, H6, H7, H8, H9, H10, H16, H17, H18, Hk⟩
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H16]; · iexact H16
      isplitl [H17]; · iexact H17
      iexact H18

theorem stage5_all (c : Dev nD) (i : grid0.Coords) (jp : PUnit.{1} → Prog (TpuEff nD τ sig (Elt F) Λ₀ .tc) PUnit) (E : Set ℕ) (K : PUnit → sProp 𝕄)
    (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg17 : Memref sig .tc .vmem S1024x256 .f32) (harg17 : arg17.IsWhole) (arg18 : Memref sig .tc .vmem S1024x128 .f32) (harg18 : arg18.IsWhole)
    (x13 : Vec F S1024x128 .f32) (x14 : Vec F S1024x128 .f32) (x15 : Vec F S1024x128 .f32) (Y : Vec F S1024x256 .f32) (Z : Vec F S1024x128 .f32) :
    iprop(owns (c : Thread nD τ) arg13 fullShare x13 ∗ owns (c : Thread nD τ) arg14 fullShare x14 ∗ owns (c : Thread nD τ) arg15 fullShare x15 ∗ owns (c : Thread nD τ) arg17 fullShare Y ∗ owns (c : Thread nD τ) arg18 fullShare Z
      ∗ (iprop(owns (c : Thread nD τ) arg13 fullShare (if (i 2).val = 7 then (halfL Y) else x13) ∗ owns (c : Thread nD τ) arg14 fullShare (if (i 2).val = 7 then (halfR Y) else x14) ∗ owns (c : Thread nD τ) arg15 fullShare (if (i 2).val = 7 then Z else x15) ∗ owns (c : Thread nD τ) arg17 fullShare Y ∗ owns (c : Thread nD τ) arg18 fullShare Z)
          -∗ wp frame (wpE (defs₀ (F := F)) Variants.none c none) E (jp ⟨⟩) K))
      ⊢ wp frame (wpE (defs₀ (F := F)) Variants.none c none) E (stage5 i arg13 arg14 arg15 arg17 arg18 jp) K := by
  by_cases h : k0_cond5 i = 1#1
  · have e := (c5_iff i).mp h
    rw [if_pos e, if_pos e, if_pos e]
    iintro ⟨H13, H14, H15, H17, H18, Hk⟩
    iapply (stage5_run c i jp E K arg13 harg13 arg14 harg14 arg15 harg15 arg17 harg17 arg18 harg18 h Y Z)
    isplitl [H13]; · iexists _; iexact H13
    isplitl [H14]; · iexists _; iexact H14
    isplitl [H15]; · iexists _; iexact H15
    isplitl [H17]; · iexact H17
    isplitl [H18]; · iexact H18
    iexact Hk
  · have e : ¬(i 2).val = 7 := fun e => h ((c5_iff i).mpr e)
    unfold stage5; rw [if_neg e, if_neg e, if_neg e, dif_neg h]
    iintro ⟨H13, H14, H15, H17, H18, Hk⟩
    iapply Hk
    isplitl [H13]; · iexact H13
    isplitl [H14]; · iexact H14
    isplitl [H15]; · iexact H15
    isplitl [H17]; · iexact H17
    iexact H18

theorem stage6_all (c : Dev nD) (i : grid0.Coords) (jp : PUnit.{1} → Prog (TpuEff nD τ sig (Elt F) Λ₀ .tc) PUnit) (E : Set ℕ) (K : PUnit → sProp 𝕄)
    (arg11 : Memref sig .tc .vmem S1024x128 .f32) (harg11 : arg11.IsWhole) (arg12 : Memref sig .tc .vmem S1024x128 .f32) (harg12 : arg12.IsWhole) (arg16 : Memref sig .tc .vmem S8192x256 .f32) (harg16 : arg16.IsWhole)
    (x11 : Vec F S1024x128 .f32) (x12 : Vec F S1024x128 .f32) (X : Vec F S8192x256 .f32) :
    iprop(owns (c : Thread nD τ) arg11 fullShare x11 ∗ owns (c : Thread nD τ) arg12 fullShare x12 ∗ owns (c : Thread nD τ) arg16 fullShare X
      ∗ (iprop(owns (c : Thread nD τ) arg11 fullShare (if (i 1).val = 7 then (halfL (rowsOf X (i 2).val (i 2).isLt)) else x11) ∗ owns (c : Thread nD τ) arg12 fullShare (if (i 1).val = 7 then (halfR (rowsOf X (i 2).val (i 2).isLt)) else x12) ∗ owns (c : Thread nD τ) arg16 fullShare X)
          -∗ wp frame (wpE (defs₀ (F := F)) Variants.none c none) E (jp ⟨⟩) K))
      ⊢ wp frame (wpE (defs₀ (F := F)) Variants.none c none) E (stage6 i arg11 arg12 arg16 jp) K := by
  by_cases h : k0_cond6 i = 1#1
  · have e := (c6_iff i).mp h
    rw [if_pos e, if_pos e]
    iintro ⟨H11, H12, H16, Hk⟩
    iapply (stage6_run c i jp E K arg11 harg11 arg12 harg12 arg16 harg16 h X)
    isplitl [H11]; · iexists _; iexact H11
    isplitl [H12]; · iexists _; iexact H12
    isplitl [H16]; · iexact H16
    iexact Hk
  · have e : ¬(i 1).val = 7 := fun e => h ((c6_iff i).mpr e)
    unfold stage6; rw [if_neg e, if_neg e, dif_neg h]
    iintro ⟨H11, H12, H16, Hk⟩
    iapply Hk
    isplitl [H11]; · iexact H11
    isplitl [H12]; · iexact H12
    iexact H16

/-- The whole body at one grid point. -/
theorem body_run (c : Dev nD) (i : grid0.Coords) (E : Set ℕ) (K : PUnit → sProp 𝕄)
    (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1x1024x1 .f32) (harg9 : arg9.IsWhole) (arg10 : Memref sig .tc .vmem S1x1024x1 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole) (arg16 : Memref sig .tc .vmem S8192x256 .f32) (harg16 : arg16.IsWhole) (arg17 : Memref sig .tc .vmem S1024x256 .f32) (harg17 : arg17.IsWhole) (arg18 : Memref sig .tc .vmem S1024x128 .f32) (harg18 : arg18.IsWhole)
    (x3 : Vec F S1024x128 .bf16) (x4 : Vec F S1024x128 .bf16) (x5 : Vec F S1024x128 .bf16) (x6 : Vec F S1024x128 .bf16) (x7 : Vec F S1024x128 .bf16) (x8 : Vec F S1024x128 .f32) (x9 : Vec F S1x1024x1 .f32) (x10 : Vec F S1x1024x1 .f32) (x11 : Vec F S1024x128 .f32) (x12 : Vec F S1024x128 .f32) (x13 : Vec F S1024x128 .f32) (x14 : Vec F S1024x128 .f32) (x15 : Vec F S1024x128 .f32)
    (X : Vec F S8192x256 .f32) (Y : Vec F S1024x256 .f32) (Z : Vec F S1024x128 .f32) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare X ∗ owns (c : Thread nD τ) arg17 fullShare Y ∗ owns (c : Thread nD τ) arg18 fullShare Z
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (if (i 1).val = 7 then (halfL (rowsOf (stepX i x3 x4 x5 x6 x7 x8 x9 x10 (X1 i X)) (i 2).val (i 2).isLt)) else x11) ∗ owns (c : Thread nD τ) arg12 fullShare (if (i 1).val = 7 then (halfR (rowsOf (stepX i x3 x4 x5 x6 x7 x8 x9 x10 (X1 i X)) (i 2).val (i 2).isLt)) else x12) ∗ owns (c : Thread nD τ) arg13 fullShare (if (i 2).val = 7 then (halfL (stepY (i 1).val (i 2).val x3 x4 x5 x6 x7 x8 x9 x10 (Y1 i Y))) else x13) ∗ owns (c : Thread nD τ) arg14 fullShare (if (i 2).val = 7 then (halfR (stepY (i 1).val (i 2).val x3 x4 x5 x6 x7 x8 x9 x10 (Y1 i Y))) else x14) ∗ owns (c : Thread nD τ) arg15 fullShare (if (i 2).val = 7 then (stepZ (i 1).val (i 2).val x3 x4 x5 x6 x7 x8 x9 x10 (Z1 i Z)) else x15) ∗ owns (c : Thread nD τ) arg16 fullShare (stepX i x3 x4 x5 x6 x7 x8 x9 x10 (X1 i X)) ∗ owns (c : Thread nD τ) arg17 fullShare (stepY (i 1).val (i 2).val x3 x4 x5 x6 x7 x8 x9 x10 (Y1 i Y)) ∗ owns (c : Thread nD τ) arg18 fullShare (stepZ (i 1).val (i 2).val x3 x4 x5 x6 x7 x8 x9 x10 (Z1 i Z))) -∗ K ⟨⟩))
      ⊢ wp frame (wpE (defs₀ (F := F)) Variants.none c none) E (cc0_attention_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_eq_stages]
  iintro ⟨H3, H4, H5, H6, H7, H8, H9, H10, H11, H12, H13, H14, H15, H16, H17, H18, Hk⟩
  iapply (stage1_all c i _ E K arg17 harg17 arg18 harg18 Y Z)
  isplitl [H17]; · iexact H17
  isplitl [H18]; · iexact H18
  iintro ⟨H17, H18⟩
  iapply (stage2_all c i _ E K arg16 harg16 X)
  isplitl [H16]; · iexact H16
  iintro H16
  iapply (stage34_all c i _ E K arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 x7 x8 x9 x10 (X1 i X) (Y1 i Y) (Z1 i Z))
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H16]; · iexact H16
  isplitl [H17]; · iexact H17
  isplitl [H18]; · iexact H18
  iintro ⟨H3, H4, H5, H6, H7, H8, H9, H10, H16, H17, H18⟩
  iapply (stage5_all c i _ E K arg13 harg13 arg14 harg14 arg15 harg15 arg17 harg17 arg18 harg18 x13 x14 x15 _ _)
  isplitl [H13]; · iexact H13
  isplitl [H14]; · iexact H14
  isplitl [H15]; · iexact H15
  isplitl [H17]; · iexact H17
  isplitl [H18]; · iexact H18
  iintro ⟨H13, H14, H15, H17, H18⟩
  iapply (stage6_all c i _ E K arg11 harg11 arg12 harg12 arg16 harg16 x11 x12 _)
  isplitl [H11]; · iexact H11
  isplitl [H12]; · iexact H12
  isplitl [H16]; · iexact H16
  iintro ⟨H11, H12, H16⟩
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Cert.Proof.Attn

end
-- ==== Proof.AttnRun.lean ====
/- The attention backward kernel's proof data, its body obligation, the launch and the frame, over any interpretation of the floats. -/
module

public import proofs.«01_k».proof.Proof.AttnBody

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Grid point number `n`. -/
def pt (n : ℕ) : Fin cfg0.N := ⟨n % 1024, by show _ < grid0.N; rw [N_0]; omega⟩

theorem pt_val (t : Fin cfg0.N) : pt t.val = t := by
  have h : t.val < grid0.N := t.isLt
  rw [N_0] at h
  exact Fin.ext (Nat.mod_eq_of_lt h)

/-- Point `n`'s step of the key gradient, on the point's own blocks. -/
def sY (c : Dev nD) (n : ℕ) (A : Vec F S1024x256 .f32) : Vec F S1024x256 .f32 :=
  stepY (n / 8 % 8) (n % 8) (iblk m c 0 (pt n)) (iblk m c 1 (pt n)) (iblk m c 2 (pt n)) (iblk m c 3 (pt n)) (iblk m c 4 (pt n)) (iblk m c 5 (pt n)) (iblk m c 6 (pt n)) (iblk m c 7 (pt n)) A
/-- Point `n`'s step of the value gradient, on the point's own blocks. -/
def sZ (c : Dev nD) (n : ℕ) (A : Vec F S1024x128 .f32) : Vec F S1024x128 .f32 :=
  stepZ (n / 8 % 8) (n % 8) (iblk m c 0 (pt n)) (iblk m c 1 (pt n)) (iblk m c 2 (pt n)) (iblk m c 3 (pt n)) (iblk m c 4 (pt n)) (iblk m c 5 (pt n)) (iblk m c 6 (pt n)) (iblk m c 7 (pt n)) A
/-- Point `n`'s step of the query gradient, on the point's own blocks. -/
def sQ (c : Dev nD) (n : ℕ) (A : Vec F S1024x256 .f32) : Vec F S1024x256 .f32 :=
  stepQ (n / 8 % 8) (n % 8) (iblk m c 0 (pt n)) (iblk m c 1 (pt n)) (iblk m c 2 (pt n)) (iblk m c 3 (pt n)) (iblk m c 4 (pt n)) (iblk m c 5 (pt n)) (iblk m c 6 (pt n)) (iblk m c 7 (pt n)) A

/-- The key-gradient accumulator of head `h` and key block `j` after `i` query blocks. -/
def dkS (c : Dev nD) (h j : ℕ) : ℕ → Vec F S1024x256 .f32
  | 0 => k0_pay1
  | i + 1 => sY m c (64 * h + 8 * j + i) (dkS c h j i)
/-- The value-gradient accumulator of head `h` and key block `j` after `i` query blocks. -/
def dvS (c : Dev nD) (h j : ℕ) : ℕ → Vec F S1024x128 .f32
  | 0 => k0_pay2
  | i + 1 => sZ m c (64 * h + 8 * j + i) (dvS c h j i)
/-- The query gradient of head `h` and query block `i` after `j` key blocks. -/
def dqS (c : Dev nD) (h i : ℕ) : ℕ → Vec F S1024x256 .f32
  | 0 => k0_pay3
  | j + 1 => sQ m c (64 * h + 8 * j + i) (dqS c h i j)

/-- What the three accumulators hold before point `n`. -/
def Inv (c : Dev nD) (n : ℕ) (X : Vec F S8192x256 .f32) (Y : Vec F S1024x256 .f32) (Z : Vec F S1024x128 .f32) : Prop :=
  (n % 8 ≠ 0 → Y = dkS m c (n / 64) (n / 8 % 8) (n % 8) ∧ Z = dvS m c (n / 64) (n / 8 % 8) (n % 8))
    ∧ ∀ r (hr : r < 8), (r < n % 8 → rowsOf X r hr = dqS m c (n / 64) r (n / 8 % 8 + 1))
        ∧ (¬r < n % 8 → n / 8 % 8 ≠ 0 → rowsOf X r hr = dqS m c (n / 64) r (n / 8 % 8))

theorem rowsOf_put_same (X : Vec F S8192x256 .f32) {r : ℕ} (hr : r < 8) (w : Vec F S1024x256 .f32) :
    rowsOf (VecWindow.put X ![1024 * r, 0] S1024x256.size w) r hr = w :=
  VecWindow.window_put_same X _ _ _ w

theorem rowsOf_put_ne (X : Vec F S8192x256 .f32) {r q : ℕ} (hr : r < 8) (h : r ≠ q) (w : Vec F S1024x256 .f32) :
    rowsOf (VecWindow.put X ![1024 * q, 0] S1024x256.size w) r hr = rowsOf X r hr :=
  VecWindow.window_put_of_disjoint X _ _ _ _ _ w (a := 0) (by
    show 1024 * r + 1024 ≤ 1024 * q ∨ 1024 * q + 1024 ≤ 1024 * r
    omega)

theorem rowsOf_congr (X : Vec F S8192x256 .f32) {a b : ℕ} (h : a = b) (ha : a < 8) (hb : b < 8) : rowsOf X a ha = rowsOf X b hb := by
  subst h; rfl

theorem co1 (t : Fin cfg0.N) : (grid0.coords t 1).val = t.val / 8 % 8 := Pipeline.Grid.coords_val t 1 (by decide) rfl
theorem co2 (t : Fin cfg0.N) : (grid0.coords t 2).val = t.val % 8 := by
  have e : (grid0.coords t 2).val = t.val / 1 % 8 := Pipeline.Grid.coords_val t 2 (by decide) rfl
  rw [e, Nat.div_one]

/-- What a point makes of the three accumulators. -/
def nX (c : Dev nD) (t : Fin cfg0.N) (X : Vec F S8192x256 .f32) : Vec F S8192x256 .f32 := stepX (grid0.coords t) (iblk m c 0 t) (iblk m c 1 t) (iblk m c 2 t) (iblk m c 3 t) (iblk m c 4 t) (iblk m c 5 t) (iblk m c 6 t) (iblk m c 7 t) (X1 (grid0.coords t) X)
def nY (c : Dev nD) (t : Fin cfg0.N) (Y : Vec F S1024x256 .f32) : Vec F S1024x256 .f32 := stepY (grid0.coords t 1).val (grid0.coords t 2).val (iblk m c 0 t) (iblk m c 1 t) (iblk m c 2 t) (iblk m c 3 t) (iblk m c 4 t) (iblk m c 5 t) (iblk m c 6 t) (iblk m c 7 t) (Y1 (grid0.coords t) Y)
def nZ (c : Dev nD) (t : Fin cfg0.N) (Z : Vec F S1024x128 .f32) : Vec F S1024x128 .f32 := stepZ (grid0.coords t 1).val (grid0.coords t 2).val (iblk m c 0 t) (iblk m c 1 t) (iblk m c 2 t) (iblk m c 3 t) (iblk m c 4 t) (iblk m c 5 t) (iblk m c 6 t) (iblk m c 7 t) (Z1 (grid0.coords t) Z)

theorem nY_eq (c : Dev nD) (t : Fin cfg0.N) {X Y Z} (h : Inv m c t.val X Y Z) :
    nY m c t Y = dkS m c (t.val / 64) (t.val / 8 % 8) (t.val % 8 + 1) := by
  have e : 64 * (t.val / 64) + 8 * (t.val / 8 % 8) + t.val % 8 = t.val := by omega
  have e1 : Y1 (grid0.coords t) Y = dkS m c (t.val / 64) (t.val / 8 % 8) (t.val % 8) := by
    unfold Y1
    rw [co2]
    split
    · rename_i h0; rw [h0]; rfl
    · rename_i h0; exact (h.1 h0).1
  unfold nY dkS sY
  rw [e, e1, co1, co2, pt_val]

theorem nZ_eq (c : Dev nD) (t : Fin cfg0.N) {X Y Z} (h : Inv m c t.val X Y Z) :
    nZ m c t Z = dvS m c (t.val / 64) (t.val / 8 % 8) (t.val % 8 + 1) := by
  have e : 64 * (t.val / 64) + 8 * (t.val / 8 % 8) + t.val % 8 = t.val := by omega
  have e1 : Z1 (grid0.coords t) Z = dvS m c (t.val / 64) (t.val / 8 % 8) (t.val % 8) := by
    unfold Z1
    rw [co2]
    split
    · rename_i h0; rw [h0]; rfl
    · rename_i h0; exact (h.1 h0).2
  unfold nZ dvS sZ
  rw [e, e1, co1, co2, pt_val]

/-- The step over a row block away from the point's own leaves it. -/
theorem rowsOf_nX_ne (c : Dev nD) (t : Fin cfg0.N) (X : Vec F S8192x256 .f32) {r : ℕ} (hr : r < 8) (h : r ≠ t.val % 8) :
    rowsOf (nX m c t X) r hr = rowsOf X r hr := by
  unfold nX stepX X1
  simp only [co2]
  split <;> split <;> simp only [rowsOf_put_ne _ hr h]

theorem rowsOf_nX (c : Dev nD) (t : Fin cfg0.N) {X Y Z} (h : Inv m c t.val X Y Z) {r : ℕ} (hr : r < 8) (e0 : r = t.val % 8) :
    rowsOf (nX m c t X) r hr = dqS m c (t.val / 64) r (t.val / 8 % 8 + 1) := by
  have e : 64 * (t.val / 64) + 8 * (t.val / 8 % 8) + r = t.val := by omega
  have e1 : rowsOf (X1 (grid0.coords t) X) r hr = dqS m c (t.val / 64) r (t.val / 8 % 8) := by
    unfold X1
    rw [co1, co2]
    split
    · rename_i h0; rw [h0, ← e0, rowsOf_put_same]; rfl
    · rename_i h0; exact (h.2 r hr).2 (by omega) h0
  unfold nX stepX dqS sQ
  simp only [co1, co2, ← e0]
  rw [e, ← e1, ← e0, pt_val]
  split
  · rw [rowsOf_put_same]
    exact congrArg _ (rowsOf_congr _ ((co2 t).trans e0.symm) _ _)
  · rename_i hn
    unfold stepQ
    rw [if_neg (fun e => hn (le_of_lt e)), if_neg (fun e => hn (le_of_eq e))]

/-- The invariant goes from a point to the next. -/
theorem Inv_step (c : Dev nD) (t : Fin cfg0.N) {X Y Z} (h : Inv m c t.val X Y Z) :
    Inv m c (t.val + 1) (nX m c t X) (nY m c t Y) (nZ m c t Z) := by
  refine ⟨fun hn => ?_, fun r hr => ⟨fun hlt => ?_, fun hge hj => ?_⟩⟩
  · rw [show (t.val + 1) / 64 = t.val / 64 by omega, show (t.val + 1) / 8 % 8 = t.val / 8 % 8 by omega, show (t.val + 1) % 8 = t.val % 8 + 1 by omega]
    exact ⟨nY_eq m c t h, nZ_eq m c t h⟩
  · rw [show (t.val + 1) / 64 = t.val / 64 by omega, show (t.val + 1) / 8 % 8 = t.val / 8 % 8 by omega]
    by_cases e : r = t.val % 8
    · exact rowsOf_nX m c t h hr e
    · rw [rowsOf_nX_ne m c t X hr e]
      exact (h.2 r hr).1 (by omega)
  · by_cases e7 : t.val % 8 = 7
    · rw [show (t.val + 1) / 64 = t.val / 64 by omega, show (t.val + 1) / 8 % 8 = t.val / 8 % 8 + 1 by omega]
      by_cases e : r = t.val % 8
      · exact rowsOf_nX m c t h hr e
      · rw [rowsOf_nX_ne m c t X hr e]
        exact (h.2 r hr).1 (by omega)
    · rw [show (t.val + 1) / 64 = t.val / 64 by omega, show (t.val + 1) / 8 % 8 = t.val / 8 % 8 by omega]
      rw [rowsOf_nX_ne m c t X hr (by omega)]
      exact (h.2 r hr).2 (by omega) (by omega)

theorem Inv_reset (c : Dev nD) {n : ℕ} (hn : n % 64 = 0) (X Y Z) : Inv m c n X Y Z :=
  ⟨fun h => absurd (by omega) h, fun r hr => ⟨fun h => absurd h (by omega), fun _ h => absurd (by omega) h⟩⟩

/-- The kernel's invariant before point `n`. -/
def PhiN (c : Dev nD) (n : ℕ) : sProp 𝕄 :=
  iprop(∃ X Y Z, ⌜Inv m c n X Y Z⌝ ∗ owns (c : Thread nD τ) sc0 fullShare X ∗ owns (c : Thread nD τ) sc1 fullShare Y
    ∗ owns (c : Thread nD τ) sc2 fullShare Z ∗ (∃ r, prngReg c r))

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem phi_in (c : Dev nD) : Pipeline.ΦA spec0 c ⊢ PhiN m c 0 := by
  rw [PhiA_eq]; unfold PhiN
  iintro ⟨⟨⟨%X, HX⟩, ⟨%Y, HY⟩, ⟨%Z, HZ⟩⟩, Hg⟩
  iexists X; iexists Y; iexists Z
  isplitr; · ipureintro; exact Inv_reset m c rfl X Y Z
  isplitl [HX]; · iexact HX
  isplitl [HY]; · iexact HY
  isplitl [HZ]; · iexact HZ
  iexact Hg

theorem phi_out (c : Dev nD) (n : ℕ) : PhiN m c n ⊢ Pipeline.ΦA spec0 c := by
  rw [PhiA_eq]; unfold PhiN
  iintro ⟨%X, %Y, %Z, %h, HX, HY, HZ, Hg⟩
  isplitl [HX HY HZ]
  · isplitl [HX]; · iexists _; iexact HX
    isplitl [HY]; · iexists _; iexact HY
    iexists _; iexact HZ
  iexact Hg

/-- The pipeline's proof data: inputs keep their blocks, each output holds the finished accumulator's half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => halfL (dqS m c (t.val / 64) (t.val % 8) 8)
    | ⟨9, _⟩ => halfR (dqS m c (t.val / 64) (t.val % 8) 8)
    | ⟨10, _⟩ => halfL (dkS m c (t.val / 64) (t.val / 8 % 8) 8)
    | ⟨11, _⟩ => halfR (dkS m c (t.val / 64) (t.val / 8 % 8) 8)
    | ⟨12, _⟩ => dvS m c (t.val / 64) (t.val / 8 % 8) 8
  Φ t := PhiN m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiN m c t.val := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = halfL (dqS m c (t.val / 64) (t.val % 8) 8) := by dsimp only [dats]
theorem after_9 (c : Dev nD) (t : Fin cfg0.N) : (dats m 0 c).after 9 t = halfR (dqS m c (t.val / 64) (t.val % 8) 8) := by dsimp only [dats]
theorem after_10 (c : Dev nD) (t : Fin cfg0.N) : (dats m 0 c).after 10 t = halfL (dkS m c (t.val / 64) (t.val / 8 % 8) 8) := by dsimp only [dats]
theorem after_11 (c : Dev nD) (t : Fin cfg0.N) : (dats m 0 c).after 11 t = halfR (dkS m c (t.val / 64) (t.val / 8 % 8) 8) := by dsimp only [dats]
theorem after_12 (c : Dev nD) (t : Fin cfg0.N) : (dats m 0 c).after 12 t = dvS m c (t.val / 64) (t.val / 8 % 8) 8 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem leaves_0 (c : Dev nD) (t : Fin cfg0.N) : (dats m 0 c).leavesExact 0 t = owns (c : Thread nD τ) (win0_0.stage (cfg0.slots t 0)) fullShare (iblk m c 0 t) := by
  rw [show (dats m 0 c).leavesExact 0 t = owns (c : Thread nD τ) (win0_0.stage (cfg0.slots t 0)) fullShare ((dats m 0 c).after 0 t) from by
    unfold Dat.leavesExact; rw [show cfg0.idle 0 (grid0.coords t) = false from rfl], after_0]
theorem leaves_1 (c : Dev nD) (t : Fin cfg0.N) : (dats m 0 c).leavesExact 1 t = owns (c : Thread nD τ) (win0_1.stage (cfg0.slots t 1)) fullShare (iblk m c 1 t) := by
  rw [show (dats m 0 c).leavesExact 1 t = owns (c : Thread nD τ) (win0_1.stage (cfg0.slots t 1)) fullShare ((dats m 0 c).after 1 t) from by
    unfold Dat.leavesExact; rw [show cfg0.idle 1 (grid0.coords t) = false from rfl], after_1]
theorem leaves_2 (c : Dev nD) (t : Fin cfg0.N) : (dats m 0 c).leavesExact 2 t = owns (c : Thread nD τ) (win0_2.stage (cfg0.slots t 2)) fullShare (iblk m c 2 t) := by
  rw [show (dats m 0 c).leavesExact 2 t = owns (c : Thread nD τ) (win0_2.stage (cfg0.slots t 2)) fullShare ((dats m 0 c).after 2 t) from by
    unfold Dat.leavesExact; rw [show cfg0.idle 2 (grid0.coords t) = false from rfl], after_2]
theorem leaves_3 (c : Dev nD) (t : Fin cfg0.N) : (dats m 0 c).leavesExact 3 t = owns (c : Thread nD τ) (win0_3.stage (cfg0.slots t 3)) fullShare (iblk m c 3 t) := by
  rw [show (dats m 0 c).leavesExact 3 t = owns (c : Thread nD τ) (win0_3.stage (cfg0.slots t 3)) fullShare ((dats m 0 c).after 3 t) from by
    unfold Dat.leavesExact; rw [show cfg0.idle 3 (grid0.coords t) = false from rfl], after_3]
theorem leaves_4 (c : Dev nD) (t : Fin cfg0.N) : (dats m 0 c).leavesExact 4 t = owns (c : Thread nD τ) (win0_4.stage (cfg0.slots t 4)) fullShare (iblk m c 4 t) := by
  rw [show (dats m 0 c).leavesExact 4 t = owns (c : Thread nD τ) (win0_4.stage (cfg0.slots t 4)) fullShare ((dats m 0 c).after 4 t) from by
    unfold Dat.leavesExact; rw [show cfg0.idle 4 (grid0.coords t) = false from rfl], after_4]
theorem leaves_5 (c : Dev nD) (t : Fin cfg0.N) : (dats m 0 c).leavesExact 5 t = owns (c : Thread nD τ) (win0_5.stage (cfg0.slots t 5)) fullShare (iblk m c 5 t) := by
  rw [show (dats m 0 c).leavesExact 5 t = owns (c : Thread nD τ) (win0_5.stage (cfg0.slots t 5)) fullShare ((dats m 0 c).after 5 t) from by
    unfold Dat.leavesExact; rw [show cfg0.idle 5 (grid0.coords t) = false from rfl], after_5]
theorem leaves_6 (c : Dev nD) (t : Fin cfg0.N) : (dats m 0 c).leavesExact 6 t = owns (c : Thread nD τ) (win0_6.stage (cfg0.slots t 6)) fullShare (iblk m c 6 t) := by
  rw [show (dats m 0 c).leavesExact 6 t = owns (c : Thread nD τ) (win0_6.stage (cfg0.slots t 6)) fullShare ((dats m 0 c).after 6 t) from by
    unfold Dat.leavesExact; rw [show cfg0.idle 6 (grid0.coords t) = false from rfl], after_6]
theorem leaves_7 (c : Dev nD) (t : Fin cfg0.N) : (dats m 0 c).leavesExact 7 t = owns (c : Thread nD τ) (win0_7.stage (cfg0.slots t 7)) fullShare (iblk m c 7 t) := by
  rw [show (dats m 0 c).leavesExact 7 t = owns (c : Thread nD τ) (win0_7.stage (cfg0.slots t 7)) fullShare ((dats m 0 c).after 7 t) from by
    unfold Dat.leavesExact; rw [show cfg0.idle 7 (grid0.coords t) = false from rfl], after_7]
theorem live_8 : ∀ t : Fin cfg0.N, t.val / 8 % 8 = 7 → cfg0.idle 8 (grid0.coords t) = false := by decide +kernel
theorem idle_8 : ∀ t : Fin cfg0.N, ¬t.val / 8 % 8 = 7 → cfg0.idle 8 (grid0.coords t) = true := by decide +kernel
theorem noflush_8 : ∀ t : Fin cfg0.N, ¬t.val / 8 % 8 = 7 → (cfg0.win 8).flush t = false := by decide +kernel
theorem leaves_8 (c : Dev nD) (t : Fin cfg0.N) (d) (v : Vec F S1024x128 .f32) (hv : t.val / 8 % 8 = 7 → v = (dats m 0 c).after 8 t) :
    owns (c : Thread nD τ) (win0_8.stage (cfg0.slots t 8)) fullShare (if t.val / 8 % 8 = 7 then v else (dats m 0 c).before 8 t d) ⊢ (dats m 0 c).leavesExact 8 t := by
  by_cases h : t.val / 8 % 8 = 7
  · rw [if_pos h, hv h, show (dats m 0 c).leavesExact 8 t = owns (c : Thread nD τ) (win0_8.stage (cfg0.slots t 8)) fullShare ((dats m 0 c).after 8 t) from by
      unfold Dat.leavesExact; rw [live_8 t h]]
  · rw [if_neg h, Dat.leavesExact_idle (dats m 0 c) 8 t (idle_8 t h) (noflush_8 t h)]
    iintro H
    iexists _; iexact H

theorem live_9 : ∀ t : Fin cfg0.N, t.val / 8 % 8 = 7 → cfg0.idle 9 (grid0.coords t) = false := by decide +kernel
theorem idle_9 : ∀ t : Fin cfg0.N, ¬t.val / 8 % 8 = 7 → cfg0.idle 9 (grid0.coords t) = true := by decide +kernel
theorem noflush_9 : ∀ t : Fin cfg0.N, ¬t.val / 8 % 8 = 7 → (cfg0.win 9).flush t = false := by decide +kernel
theorem leaves_9 (c : Dev nD) (t : Fin cfg0.N) (d) (v : Vec F S1024x128 .f32) (hv : t.val / 8 % 8 = 7 → v = (dats m 0 c).after 9 t) :
    owns (c : Thread nD τ) (win0_9.stage (cfg0.slots t 9)) fullShare (if t.val / 8 % 8 = 7 then v else (dats m 0 c).before 9 t d) ⊢ (dats m 0 c).leavesExact 9 t := by
  by_cases h : t.val / 8 % 8 = 7
  · rw [if_pos h, hv h, show (dats m 0 c).leavesExact 9 t = owns (c : Thread nD τ) (win0_9.stage (cfg0.slots t 9)) fullShare ((dats m 0 c).after 9 t) from by
      unfold Dat.leavesExact; rw [live_9 t h]]
  · rw [if_neg h, Dat.leavesExact_idle (dats m 0 c) 9 t (idle_9 t h) (noflush_9 t h)]
    iintro H
    iexists _; iexact H

theorem live_10 : ∀ t : Fin cfg0.N, t.val % 8 = 7 → cfg0.idle 10 (grid0.coords t) = false := by decide +kernel
theorem idle_10 : ∀ t : Fin cfg0.N, ¬t.val % 8 = 7 → cfg0.idle 10 (grid0.coords t) = true := by decide +kernel
theorem noflush_10 : ∀ t : Fin cfg0.N, ¬t.val % 8 = 7 → (cfg0.win 10).flush t = false := by decide +kernel
theorem leaves_10 (c : Dev nD) (t : Fin cfg0.N) (d) (v : Vec F S1024x128 .f32) (hv : t.val % 8 = 7 → v = (dats m 0 c).after 10 t) :
    owns (c : Thread nD τ) (win0_10.stage (cfg0.slots t 10)) fullShare (if t.val % 8 = 7 then v else (dats m 0 c).before 10 t d) ⊢ (dats m 0 c).leavesExact 10 t := by
  by_cases h : t.val % 8 = 7
  · rw [if_pos h, hv h, show (dats m 0 c).leavesExact 10 t = owns (c : Thread nD τ) (win0_10.stage (cfg0.slots t 10)) fullShare ((dats m 0 c).after 10 t) from by
      unfold Dat.leavesExact; rw [live_10 t h]]
  · rw [if_neg h, Dat.leavesExact_idle (dats m 0 c) 10 t (idle_10 t h) (noflush_10 t h)]
    iintro H
    iexists _; iexact H

theorem live_11 : ∀ t : Fin cfg0.N, t.val % 8 = 7 → cfg0.idle 11 (grid0.coords t) = false := by decide +kernel
theorem idle_11 : ∀ t : Fin cfg0.N, ¬t.val % 8 = 7 → cfg0.idle 11 (grid0.coords t) = true := by decide +kernel
theorem noflush_11 : ∀ t : Fin cfg0.N, ¬t.val % 8 = 7 → (cfg0.win 11).flush t = false := by decide +kernel
theorem leaves_11 (c : Dev nD) (t : Fin cfg0.N) (d) (v : Vec F S1024x128 .f32) (hv : t.val % 8 = 7 → v = (dats m 0 c).after 11 t) :
    owns (c : Thread nD τ) (win0_11.stage (cfg0.slots t 11)) fullShare (if t.val % 8 = 7 then v else (dats m 0 c).before 11 t d) ⊢ (dats m 0 c).leavesExact 11 t := by
  by_cases h : t.val % 8 = 7
  · rw [if_pos h, hv h, show (dats m 0 c).leavesExact 11 t = owns (c : Thread nD τ) (win0_11.stage (cfg0.slots t 11)) fullShare ((dats m 0 c).after 11 t) from by
      unfold Dat.leavesExact; rw [live_11 t h]]
  · rw [if_neg h, Dat.leavesExact_idle (dats m 0 c) 11 t (idle_11 t h) (noflush_11 t h)]
    iintro H
    iexists _; iexact H

theorem live_12 : ∀ t : Fin cfg0.N, t.val % 8 = 7 → cfg0.idle 12 (grid0.coords t) = false := by decide +kernel
theorem idle_12 : ∀ t : Fin cfg0.N, ¬t.val % 8 = 7 → cfg0.idle 12 (grid0.coords t) = true := by decide +kernel
theorem noflush_12 : ∀ t : Fin cfg0.N, ¬t.val % 8 = 7 → (cfg0.win 12).flush t = false := by decide +kernel
theorem leaves_12 (c : Dev nD) (t : Fin cfg0.N) (d) (v : Vec F S1024x128 .f32) (hv : t.val % 8 = 7 → v = (dats m 0 c).after 12 t) :
    owns (c : Thread nD τ) (win0_12.stage (cfg0.slots t 12)) fullShare (if t.val % 8 = 7 then v else (dats m 0 c).before 12 t d) ⊢ (dats m 0 c).leavesExact 12 t := by
  by_cases h : t.val % 8 = 7
  · rw [if_pos h, hv h, show (dats m 0 c).leavesExact 12 t = owns (c : Thread nD τ) (win0_12.stage (cfg0.slots t 12)) fullShare ((dats m 0 c).after 12 t) from by
      unfold Dat.leavesExact; rw [live_12 t h]]
  · rw [if_neg h, Dat.leavesExact_idle (dats m 0 c) 12 t (idle_12 t h) (noflush_12 t h)]
    iintro H
    iexists _; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem rows_done (c : Dev nD) (t : Fin cfg0.N) {X Y Z} (h : Inv m c t.val X Y Z) (h7 : t.val / 8 % 8 = 7) :
    rowsOf (nX m c t X) (grid0.coords t 2).val (grid0.coords t 2).isLt = dqS m c (t.val / 64) (t.val % 8) 8 := by
  have e := rowsOf_nX m c t h (grid0.coords t 2).isLt (co2 t)
  rw [e, h7, co2]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [leaves_0, leaves_1, leaves_2, leaves_3, leaves_4, leaves_5, leaves_6, leaves_7]
  rw [show (dats m 0 c).owesAt () t.succ = (dats m 0 c).owesAt () t.castSucc from rfl, Phi_castSucc, show (dats m 0 c).Φ t.succ = PhiN m c (t.val + 1) from rfl]
  unfold PhiN
  iintro ⟨⟨%X, %Y, %Z, %hI, HX, HY, HZ, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c (grid0.coords t) Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ _ X Y Z)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HX]; · iexact HX
  isplitl [HY]; · iexact HY
  isplitl [HZ]; · iexact HZ
  iintro ⟨H0, H1, H2, H3, H4, H5, H6, H7, H8, H9, H10, H11, H12, HX, HY, HZ⟩
  isplitl [HX HY HZ Hg]
  · iexists (nX m c t X); iexists (nY m c t Y); iexists (nZ m c t Z)
    isplitr; · ipureintro; exact Inv_step m c t hI
    isplitl [HX]; · iexact HX
    isplitl [HY]; · iexact HY
    isplitl [HZ]; · iexact HZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves_8 m c t _ (halfL (rowsOf (nX m c t X) (grid0.coords t 2).val (grid0.coords t 2).isLt)) (fun h7 => by rw [after_8]; exact congrArg halfL (rows_done m c t hI h7)))
    rw [← co1]
    iexact H8
  isplitl [H9]
  · iapply (leaves_9 m c t _ (halfR (rowsOf (nX m c t X) (grid0.coords t 2).val (grid0.coords t 2).isLt)) (fun h7 => by rw [after_9]; exact congrArg halfR (rows_done m c t hI h7)))
    rw [← co1]
    iexact H9
  isplitl [H10]
  · iapply (leaves_10 m c t _ (halfL (nY m c t Y)) (fun h7 => by rw [after_10, nY_eq m c t hI, h7]))
    rw [← co2]
    iexact H10
  isplitl [H11]
  · iapply (leaves_11 m c t _ (halfR (nY m c t Y)) (fun h7 => by rw [after_11, nY_eq m c t hI, h7]))
    rw [← co2]
    iexact H11
  iapply (leaves_12 m c t _ ((nZ m c t Z)) (fun h7 => by rw [after_12, nZ_eq m c t hI, h7]))
  rw [← co2]
  iexact H12

theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiN m c 0 from rfl]
  exact phi_in m c

theorem hout (c : Dev nD) : (dats m 0 c).Φ (Fin.last cfg0.N) ⊢ Pipeline.ΦA spec0 c := by
  rw [show (dats m 0 c).Φ (Fin.last cfg0.N) = PhiN m c (Fin.last cfg0.N).val from rfl]
  exact phi_out m c _

set_option backward.isDefEq.respectTransparency.types false in
/-- Every run ends with the pipeline's arrays at the proof data's and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (run_quiet m ρ)

/-- The frame over any floats: the arguments end unchanged and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_quiet m ρ))

end Cert.Proof.Attn

end
-- ==== Proof.NamedWord.lean ====
/- On machine words the mask's name stands for the mask's own word, so the attention gradient with the
   name and the one without are the same program: their bodies, their tables of calls and their host
   programs are equal. -/
module

public import proofs.«01_k».proof.Proof.AttnRun
public import proofs.«01_k».proof.Proof.Gen.Kernel
public import proofs.«01_k».proof.Proof.Gen.Kernel.Skeleton

@[expose] public section

set_option maxRecDepth 65536

noncomputable section

namespace Cert.Proof

open Idealize.ShloMosaic Idealize.SL.Sem

/-- On machine words a named constant is its own word. -/
instance namedBits : Named Bits where
  named _ _ {φ} b := Scalar.ofBits (F := Bits) φ b

theorem same_body : @Cert.Kernel.cc0_attention_bwd Bits _ Cert.Kernel.Gen.facts
    = @Cert.KernelIdeal.cc0_attention_bwd Bits _ _ Cert.KernelIdeal.Gen.facts := rfl

set_option maxHeartbeats 2000000 in
theorem same_bodies : @Cert.Kernel.defs₀ Bits _ Cert.Kernel.Gen.facts
    = @Cert.KernelIdeal.defs₀ Bits _ _ Cert.KernelIdeal.Gen.facts := by
  unfold Cert.Kernel.defs₀ Cert.KernelIdeal.defs₀
  refine congrArg Defs.onTc (funext fun l => funext fun a => ?_)
  match l, a with
  | 0, (t, s) =>
    dsimp only
    iterate 33 refine congrFun ?_ _
    exact same_body

set_option maxHeartbeats 2000000 in
theorem same_defs : @Cert.Kernel.defs Bits _ Cert.Kernel.Gen.facts
    = @Cert.KernelIdeal.defs Bits _ _ Cert.KernelIdeal.Gen.facts := by
  unfold Cert.Kernel.defs Cert.KernelIdeal.defs
  exact congrArg (Pipeline.defs Cert.KernelIdeal.pcfgs) same_bodies

set_option maxHeartbeats 8000000 in
theorem same_main : @Cert.Kernel.main Bits _ Cert.Kernel.Gen.facts
    = @Cert.KernelIdeal.main Bits _ Cert.KernelIdeal.Gen.facts := rfl

end Cert.Proof

end
-- ==== Proof.Frames.lean ====
/- The frames of the attention gradient and of its reference, and the named constant. -/
module

public import proofs.«01_k».proof.Defs
public import proofs.«01_k».proof.Proof.NamedWord
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.SL.Sem

set_option maxHeartbeats 4000000 in
theorem frame_kernel : Cert.quiescent_Kernel := fun m ρ _ => by
  have h := Attn.frame_any (F := Bits) m ρ
  rw [← same_defs, ← same_main] at h
  exact h

theorem frame_kernelIdeal : Cert.quiescent_KernelIdeal := fun m ρ _ => Attn.frame_any (F := Ideal) m ρ

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem mask_named : Cert.preserves_Kernel_KernelIdeal := IdealRules.named_const.statement _ _ _ _ _ rfl

end Cert.Proof

end
-- ==== Proof.AttnSpec.lean ====
module
public import Idealize.ShloMosaic.Lib.Pointwise
public import Idealize.ShloMosaic.Lib.Claim
@[expose] public section
noncomputable section
/-! The gradient of one head of causal attention, over the real numbers. -/
namespace Cert.Proof.Attn
open Idealize.ShloMosaic
open Finset

/-- A finite sum of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The arrays of one head: queries and keys without and with rotation, values, incoming gradient, and the scale. -/
structure Head where
  qn : ℕ → ℕ → ℝ
  qp : ℕ → ℕ → ℝ
  kn : ℕ → ℕ → ℝ
  kp : ℕ → ℕ → ℝ
  v : ℕ → ℕ → ℝ
  g : ℕ → ℕ → ℝ
  s : ℝ

namespace Head
variable (H : Head)
/-- The scaled score of query `r` and key `k`. -/
def S (r k : ℕ) : ℝ := (∑ x ∈ range 128, H.qn r x * H.kn k x + ∑ x ∈ range 64, H.qp r x * H.kp k x) * H.s
/-- Its exponential, zero above the diagonal. -/
def W (r k : ℕ) : ℝ := if k ≤ r then Real.exp (H.S r k) else 0
/-- The sum of a row's exponentials. -/
def Z (r : ℕ) : ℝ := ∑ k ∈ range 8192, H.W r k
/-- The attention weight. -/
def P (r k : ℕ) : ℝ := H.W r k / H.Z r
/-- The gradient of the weight. -/
def dP (r k : ℕ) : ℝ := ∑ d ∈ range 128, H.g r d * H.v k d
/-- The row's mean of it. -/
def D (r : ℕ) : ℝ := ∑ k ∈ range 8192, H.P r k * H.dP r k
/-- The gradient of the product of query and key. -/
def T (r k : ℕ) : ℝ := H.P r k * (H.dP r k - H.D r) * H.s
/-- The 256 lanes of a query: plain, rotated, zeros. -/
def qc (r x : ℕ) : ℝ := if x < 128 then H.qn r x else if x - 128 < 64 then H.qp r (x - 128) else 0
/-- The 256 lanes of a key. -/
def kc (k x : ℕ) : ℝ := if x < 128 then H.kn k x else if x - 128 < 64 then H.kp k (x - 128) else 0
/-- The gradient of the values. -/
def dv (k d : ℕ) : ℝ := ∑ r ∈ range 8192, H.P r k * H.g r d
/-- The gradient of the keys. -/
def dk (k x : ℕ) : ℝ := ∑ r ∈ range 8192, H.T r k * H.qc r x
/-- The gradient of the queries. -/
def dq (r x : ℕ) : ℝ := ∑ k ∈ range 8192, H.T r k * H.kc k x

theorem W_nonneg (r k : ℕ) : 0 ≤ H.W r k := by
  unfold W; split
  · exact (Real.exp_pos _).le
  · exact le_rfl
theorem Z_pos (r : ℕ) : 0 < H.Z r := by
  unfold Z
  refine Finset.sum_pos' (fun k _ => H.W_nonneg r k) ⟨0, by simp, ?_⟩
  unfold W; rw [if_pos (Nat.zero_le _)]; exact Real.exp_pos _
theorem P_above {r k : ℕ} (h : r < k) : H.P r k = 0 := by
  unfold P W; rw [if_neg (by omega), zero_div]
theorem P_below {r k : ℕ} (h : k ≤ r) : H.P r k = Real.exp (H.S r k - Real.log (H.Z r)) := by
  unfold P W; rw [if_pos h, Real.exp_sub, Real.exp_log (H.Z_pos r)]
theorem T_above {r k : ℕ} (h : r < k) : H.T r k = 0 := by
  unfold T; rw [H.P_above h]; ring
/-- The row's mean as the product of output and incoming gradient. -/
theorem D_eq (r : ℕ) : ∑ d ∈ range 128, (∑ k ∈ range 8192, H.v k d * H.P r k) * H.g r d = H.D r := by
  unfold D dP
  simp only [Finset.sum_mul, Finset.mul_sum]
  rw [Finset.sum_comm]
  exact Finset.sum_congr rfl fun k _ => Finset.sum_congr rfl fun d _ => by ring
end Head

/-- A sum over tiles of equal length. -/
theorem sum_tiles (n w : ℕ) (f : ℕ → ℝ) : ∑ i ∈ range n, ∑ a ∈ range w, f (w * i + a) = ∑ r ∈ range (w * n), f r := by
  induction n with
  | zero => simp
  | succ n ih => rw [Finset.sum_range_succ, ih, Nat.mul_succ, Finset.sum_range_add]

/-- A sum over `Fin` of a function of the number. -/
theorem sum_fin (n : ℕ) (f : ℕ → ℝ) : ∑ i : Fin n, ((f i : ℝ) : EReal) = ((∑ i ∈ range n, f i : ℝ) : EReal) := by
  rw [← coe_sum, Finset.sum_range]

/-- The sum of products, zeros beyond the first `a` lanes. -/
theorem sum_pad (a b : ℕ) (hab : a ≤ b) (f g : ℕ → ℝ) :
    ∑ x ∈ range b, (if x < a then f x else 0) * (if x < a then g x else 0) = ∑ x ∈ range a, f x * g x := by
  rw [← Finset.sum_subset (Finset.range_subset_range.2 hab) (f := fun x => (if x < a then f x else 0) * (if x < a then g x else 0))]
  · exact Finset.sum_congr rfl fun x hx => by simp [Finset.mem_range.1 hx]
  · intro x _ hx; simp only [Finset.mem_range] at hx; simp [hx]

/-- A row's maximum of scores some of which are masked is a real number. -/
theorem max_real (n : ℕ) (s : Fin n → EReal) (hs : ∀ k, s k ≠ ⊤) (k₀ : Fin n) (h₀ : s k₀ ≠ ⊥) :
    ∃ M : ℝ, Finset.fold max (⊥ : EReal) s univ = (M : EReal) := by
  have h1 : Finset.fold max (⊥ : EReal) s univ ≠ ⊤ := by
    intro h
    have : (⊤ : EReal) ≤ Finset.fold max (⊥ : EReal) s univ := h.ge
    rw [Finset.le_fold_max] at this
    rcases this with h | ⟨k, _, h⟩
    · exact absurd (top_le_iff.1 h) (by simp)
    · exact hs k (top_le_iff.1 h)
  have h2 : Finset.fold max (⊥ : EReal) s univ ≠ ⊥ := by
    intro h
    have : s k₀ ≤ Finset.fold max (⊥ : EReal) s univ := (Finset.le_fold_max _).2 (Or.inr ⟨k₀, Finset.mem_univ _, le_rfl⟩)
    rw [h] at this
    exact h₀ (le_bot_iff.1 this)
  exact ⟨_, (EReal.coe_toReal h1 h2).symm⟩

end Cert.Proof.Attn
-- ==== Proof.AttnHost.lean ====
module
public import proofs.«01_k».proof.Proof.AttnRun
public import Idealize.ShloMosaic.Lib.Pointwise
public import Idealize.ShloMosaic.Lib.Claim
@[expose] public section
set_option maxRecDepth 16384
noncomputable section
/-! The arrays the host code prepares for the attention kernel, read entry by entry. -/
namespace Cert.Proof.Attn
open Cert.KernelIdeal Cert.KernelIdeal.Gen
open Idealize.ShloMosaic Idealize.ShloMosaic.TcCoe
section
variable (c : Dev nD) (σ : (b : DevRef τ sig) → Buf (Elt Ideal) (c, b))
/-- The scaled scores of every head. -/
def scA (x0 : FVec Ideal S8192x16x192 .f32) (x1 : FVec Ideal S8192x16x128 .f32) (x2 : FVec Ideal S8192x64 .f32) : FVec Ideal S16x8192x8192 .f32 :=
  mulf (Host.dotGeneral dot_S8192x16x192_S8192x16x192_S16x8192x8192_2_2_0_0_1_1 none x0
    (concatenate S8192x16x192 2 [⟨S8192x16x128, x1⟩, ⟨S8192x16x64,
      broadcastInDim S8192x16x64 ![0, 1, 2] bcast_S8192x1x64_S8192x16x64_0_1_2 (broadcastInDim S8192x1x64 ![0, 2] bcast_S8192x64_S8192x1x64_0_2 x2)⟩]
      concatenates_S8192x16x128_S8192x16x64_S8192x16x192_d2))
    (broadcastInDim S16x8192x8192 ![] bcast_S_S16x8192x8192 (constant S_ FTy.f32 0x3D93CD3A#32))
/-- The causal mask. -/
def mkA : IVec S8192x8192 1 :=
  cmpi .sge (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))
/-- The scores with the masked ones at minus infinity. -/
def msA (M : IVec S8192x8192 1) (X : FVec Ideal S16x8192x8192 .f32) (z : FVec Ideal S_ .f32) : FVec Ideal S16x8192x8192 .f32 :=
  select (broadcastInDim S16x8192x8192 ![1, 2] bcast_S8192x8192_S16x8192x8192_1_2 M) X (broadcastInDim S16x8192x8192 ![] bcast_S_S16x8192x8192 z)
/-- The largest score of each row. -/
def mxA (X : FVec Ideal S16x8192x8192 .f32) : FVec Ideal S16x8192 .f32 :=
  Host.reduce FloatOps.maximumf X (constant S_ .f32 0xFF800000#32) reducesTo_S16x8192x8192_S16x8192_d2 h_S_
/-- The exponentials of the scores less the row's largest. -/
def exA (X : FVec Ideal S16x8192x8192 .f32) : FVec Ideal S16x8192x8192 .f32 :=
  Host.exp (subf X (broadcastInDim S16x8192x8192 ![0, 1, 2] bcast_S16x8192x1_S16x8192x8192_0_1_2 (broadcastInDim S16x8192x1 ![0, 1] bcast_S16x8192_S16x8192x1_0_1 (mxA X))))
/-- The sum of each row's exponentials. -/
def smA (X : FVec Ideal S16x8192x8192 .f32) : FVec Ideal S16x8192 .f32 :=
  Host.reduceAdd (exA X) (constant S_ .f32 0x00000000#32) reducesTo_S16x8192x8192_S16x8192_d2 h_S_
/-- The logarithm of each row's sum of exponentials. -/
def lsA (X : FVec Ideal S16x8192x8192 .f32) : FVec Ideal S16x8192x1 .f32 :=
  addf (broadcastInDim S16x8192x1 ![0, 1] bcast_S16x8192_S16x8192x1_0_1 (mxA X))
   (Host.log (broadcastInDim S16x8192x1 ![0, 1] bcast_S16x8192_S16x8192x1_0_1 (smA X)))
/-- The attention's output. -/
def otA (X : FVec Ideal S16x8192x8192 .f32) (x3 : FVec Ideal S8192x16x128 .f32) : FVec Ideal S8192x16x128 .f32 :=
  transpose S8192x16x128 [2, 0, 1] (Host.dotGeneral dot_S8192x16x128_S16x8192x8192_S16x128x8192_0_2_2_1_1_0 none x3
    (Host.divf (exA X) (broadcastInDim S16x8192x8192 ![0, 1, 2] bcast_S16x8192x1_S16x8192x8192_0_1_2 (broadcastInDim S16x8192x1 ![0, 1] bcast_S16x8192_S16x8192x1_0_1 (smA X)))))
    transposes_S16x128x8192_S8192x16x128_2_0_1
/-- The product of output and incoming gradient, summed over the lanes. -/
def dlA (X : FVec Ideal S16x8192x8192 .f32) (x3 x4 : FVec Ideal S8192x16x128 .f32) : FVec Ideal S16x8192x1 .f32 :=
  broadcastInDim S16x8192x1 ![0, 1] bcast_S16x8192_S16x8192x1_0_1 (transpose S16x8192 [1, 0]
    (Host.reduceAdd (mulf (otA X x3) x4) (constant S_ .f32 0x00000000#32) reducesTo_S8192x16x128_S8192x16_d2 h_S_) transposes_S8192x16_S16x8192_1_0)
/-- Queries, the first 128 lanes of each head. -/
def qnA (x0 : FVec Ideal S8192x16x192 .f32) : FVec Ideal S8192x2048 .bf16 :=
  truncf .bf16 (shapeCast S8192x2048 (extractStridedSlice S8192x16x128 ![0, 0, 0] x0 slices_S8192x16x192_S8192x16x128_0_0_0) shapeCasts_S8192x16x128_S8192x2048) bitsLt_bf16_f32
/-- Queries, the 64 rotary lanes of each head followed by zeros. -/
def qpA (x0 : FVec Ideal S8192x16x192 .f32) : FVec Ideal S8192x2048 .bf16 :=
  truncf .bf16 (shapeCast S8192x2048 (pad S8192x16x128 ![0, 0, 0] ![0, 0, 64] ![0, 0, 0] (extractStridedSlice S8192x16x64 ![0, 0, 128] x0 slices_S8192x16x192_S8192x16x64_0_0_128)
    (sitofp .f32 (constantI S_ 32 0#32)) pads_S8192x16x64_S8192x16x128_000_000_0640 h_S_) shapeCasts_S8192x16x128_S8192x2048) bitsLt_bf16_f32
/-- An array of heads laid out flat and rounded. -/
def flA (x1 : FVec Ideal S8192x16x128 .f32) : FVec Ideal S8192x2048 .bf16 :=
  truncf .bf16 (shapeCast S8192x2048 x1 shapeCasts_S8192x16x128_S8192x2048) bitsLt_bf16_f32
/-- The shared rotary keys followed by zeros. -/
def kpA (x2 : FVec Ideal S8192x64 .f32) : FVec Ideal S8192x128 .bf16 :=
  truncf .bf16 (pad S8192x128 ![0, 0] ![0, 64] ![0, 0] x2 (sitofp .f32 (constantI S_ 32 0#32)) pads_S8192x64_S8192x128_000_0640 h_S_) bitsLt_bf16_f32
theorem h0_v5 : StableHlo.after hostOps0 σ (Proc.tc.devRef main_v5) = scA (σ (Proc.tc.devRef main_arg0)) (σ (Proc.tc.devRef main_arg1)) (σ (Proc.tc.devRef main_arg2)) := by
  simp only [hostOps0]
  entry_read
  rfl
theorem h0_v11 : StableHlo.after hostOps0 σ (Proc.tc.devRef main_v11) = mkA := by
  simp only [hostOps0]
  entry_read
  rfl
theorem h0_z : StableHlo.after hostOps0 σ (Proc.tc.devRef main_cst_0) = (constant S_ FTy.f32 0xFF800000#32 : FVec Ideal S_ .f32) := by
  simp only [hostOps0]
  entry_read
  rfl
theorem h1_v12 : StableHlo.after hostOps0_1 σ (Proc.tc.devRef main_v12) = msA (σ (Proc.tc.devRef main_v11)) (σ (Proc.tc.devRef main_v5)) (σ (Proc.tc.devRef main_cst_0)) := by
  simp only [hostOps0_1]
  entry_read
  rfl
theorem h2_v25 : StableHlo.after hostOps0_2 σ (Proc.tc.devRef main_v25) = lsA (σ (Proc.tc.devRef main_v12)) := by
  simp only [hostOps0_2]
  entry_read
  rfl
theorem h2_v29 : StableHlo.after hostOps0_2 σ (Proc.tc.devRef main_v29) = dlA (σ (Proc.tc.devRef main_v12)) (σ (Proc.tc.devRef main_arg3)) (σ (Proc.tc.devRef main_arg4)) := by
  simp only [hostOps0_2]
  entry_read
  rfl
theorem h2_v32 : StableHlo.after hostOps0_2 σ (Proc.tc.devRef main_v32) = qnA (σ (Proc.tc.devRef main_arg0)) := by
  simp only [hostOps0_2]
  entry_read
  rfl
/-- Two stretches of host operations, one after the other. -/
theorem after_app (l₁ l₂ : List (HloOp τ sig (Elt Ideal))) : StableHlo.after (l₁ ++ l₂) σ = StableHlo.after l₂ (StableHlo.after l₁ σ) := by
  induction l₁ generalizing σ with
  | nil => rfl
  | cons o l ih => exact ih _
/-- The host operations after the attention's saved arrays. -/
def restOps : List (HloOp τ sig (Elt Ideal)) := hostOps0_3 ++ (hostOps0_4 ++ (hostOps0_5 ++ hostOps0_6))
/-- The host operations before the saved arrays. -/
def headOps : List (HloOp τ sig (Elt Ideal)) := hostOps0 ++ hostOps0_1
theorem rest_v25 : StableHlo.after restOps σ (Proc.tc.devRef main_v25) = σ (Proc.tc.devRef main_v25) := by
  simp only [restOps, hostOps0_3, hostOps0_4, hostOps0_5, hostOps0_6, List.cons_append, List.nil_append]
  entry_read
  rfl
theorem rest_v29 : StableHlo.after restOps σ (Proc.tc.devRef main_v29) = σ (Proc.tc.devRef main_v29) := by
  simp only [restOps, hostOps0_3, hostOps0_4, hostOps0_5, hostOps0_6, List.cons_append, List.nil_append]
  entry_read
  rfl
theorem rest_v32 : StableHlo.after restOps σ (Proc.tc.devRef main_v32) = σ (Proc.tc.devRef main_v32) := by
  simp only [restOps, hostOps0_3, hostOps0_4, hostOps0_5, hostOps0_6, List.cons_append, List.nil_append]
  entry_read
  rfl
theorem rest_v36 : StableHlo.after restOps σ (Proc.tc.devRef main_v36) = (truncf .bf16 (shapeCast S8192x2048 (pad S8192x16x128 ![0, 0, 0] ![0, 0, 64] ![0, 0, 0] (σ (Proc.tc.devRef main_v33)) (sitofp .f32 (σ (Proc.tc.devRef main_c))) pads_S8192x16x64_S8192x16x128_000_000_0640 h_S_) shapeCasts_S8192x16x128_S8192x2048) bitsLt_bf16_f32 : FVec Ideal S8192x2048 .bf16) := by
  simp only [restOps, hostOps0_3, hostOps0_4, hostOps0_5, hostOps0_6, List.cons_append, List.nil_append]
  entry_read
  rfl
theorem rest_v38 : StableHlo.after restOps σ (Proc.tc.devRef main_v38) = flA (σ (Proc.tc.devRef main_arg1)) := by
  simp only [restOps, hostOps0_3, hostOps0_4, hostOps0_5, hostOps0_6, List.cons_append, List.nil_append]
  entry_read
  rfl
theorem rest_v40 : StableHlo.after restOps σ (Proc.tc.devRef main_v40) = kpA (σ (Proc.tc.devRef main_arg2)) := by
  simp only [restOps, hostOps0_3, hostOps0_4, hostOps0_5, hostOps0_6, List.cons_append, List.nil_append]
  entry_read
  rfl
theorem rest_v42 : StableHlo.after restOps σ (Proc.tc.devRef main_v42) = flA (σ (Proc.tc.devRef main_arg3)) := by
  simp only [restOps, hostOps0_3, hostOps0_4, hostOps0_5, hostOps0_6, List.cons_append, List.nil_append]
  entry_read
  rfl
theorem rest_v43 : StableHlo.after restOps σ (Proc.tc.devRef main_v43) = (shapeCast S8192x2048 (σ (Proc.tc.devRef main_arg4)) shapeCasts_S8192x16x128_S8192x2048 : FVec Ideal S8192x2048 .f32) := by
  simp only [restOps, hostOps0_3, hostOps0_4, hostOps0_5, hostOps0_6, List.cons_append, List.nil_append]
  entry_read
  rfl
theorem h2_v33 : StableHlo.after hostOps0_2 σ (Proc.tc.devRef main_v33) = (extractStridedSlice S8192x16x64 ![0, 0, 128] (σ (Proc.tc.devRef main_arg0)) slices_S8192x16x192_S8192x16x64_0_0_128 : FVec Ideal S8192x16x64 .f32) := by
  simp only [hostOps0_2]
  entry_read
  rfl
theorem h2_c : StableHlo.after hostOps0_2 σ (Proc.tc.devRef main_c) = (constantI S_ 32 0#32 : IVec S_ 32) := by
  simp only [hostOps0_2]
  entry_read
  rfl
theorem h2_arg0 : StableHlo.after hostOps0_2 σ (Proc.tc.devRef main_arg0) = σ (Proc.tc.devRef main_arg0) := by
  simp only [hostOps0_2]
  entry_read
  rfl
theorem head_arg0 : StableHlo.after headOps σ (Proc.tc.devRef main_arg0) = σ (Proc.tc.devRef main_arg0) := by
  simp only [headOps, hostOps0, hostOps0_1, List.cons_append, List.nil_append]
  entry_read
  rfl
theorem h2_arg1 : StableHlo.after hostOps0_2 σ (Proc.tc.devRef main_arg1) = σ (Proc.tc.devRef main_arg1) := by
  simp only [hostOps0_2]
  entry_read
  rfl
theorem head_arg1 : StableHlo.after headOps σ (Proc.tc.devRef main_arg1) = σ (Proc.tc.devRef main_arg1) := by
  simp only [headOps, hostOps0, hostOps0_1, List.cons_append, List.nil_append]
  entry_read
  rfl
theorem h2_arg2 : StableHlo.after hostOps0_2 σ (Proc.tc.devRef main_arg2) = σ (Proc.tc.devRef main_arg2) := by
  simp only [hostOps0_2]
  entry_read
  rfl
theorem head_arg2 : StableHlo.after headOps σ (Proc.tc.devRef main_arg2) = σ (Proc.tc.devRef main_arg2) := by
  simp only [headOps, hostOps0, hostOps0_1, List.cons_append, List.nil_append]
  entry_read
  rfl
theorem h2_arg3 : StableHlo.after hostOps0_2 σ (Proc.tc.devRef main_arg3) = σ (Proc.tc.devRef main_arg3) := by
  simp only [hostOps0_2]
  entry_read
  rfl
theorem head_arg3 : StableHlo.after headOps σ (Proc.tc.devRef main_arg3) = σ (Proc.tc.devRef main_arg3) := by
  simp only [headOps, hostOps0, hostOps0_1, List.cons_append, List.nil_append]
  entry_read
  rfl
theorem h2_arg4 : StableHlo.after hostOps0_2 σ (Proc.tc.devRef main_arg4) = σ (Proc.tc.devRef main_arg4) := by
  simp only [hostOps0_2]
  entry_read
  rfl
theorem head_arg4 : StableHlo.after headOps σ (Proc.tc.devRef main_arg4) = σ (Proc.tc.devRef main_arg4) := by
  simp only [headOps, hostOps0, hostOps0_1, List.cons_append, List.nil_append]
  entry_read
  rfl
end
theorem scA_apply (x0 : FVec Ideal S8192x16x192 .f32) (x1 : FVec Ideal S8192x16x128 .f32) (x2 : FVec Ideal S8192x64 .f32) (h : Fin 16) (r k : Fin 8192) : scA x0 x1 x2 (ix3 h r k) =
    (∑ x : Fin 128, x0 (ix3 r h ⟨x, by omega⟩) * x1 (ix3 k h x) + ∑ x : Fin 64, x0 (ix3 r h ⟨128 + x, by omega⟩) * x2 (ix2 k x)) * Ideal.ofBits FTy.f32 0x3D93CD3A#32 := by
  pointwise [scA]
theorem mkA_apply (r k : Fin 8192) : mkA (ix2 r k) = IntOp.cmpi CmpIPredicate.sge (BitVec.ofNat 32 r) (BitVec.ofNat 32 k) := by
  pointwise [mkA]
theorem msA_apply (M : IVec S8192x8192 1) (X : FVec Ideal S16x8192x8192 .f32) (z : FVec Ideal S_ .f32) (h : Fin 16) (r k : Fin 8192) : msA M X z (ix3 h r k) = Scalar.select (M (ix2 r k)) (X (ix3 h r k)) (z ix0) := by
  pointwise [msA]
theorem mxA_apply (X : FVec Ideal S16x8192x8192 .f32) (h : Fin 16) (r : Fin 8192) : mxA X (ix2 h r) = Finset.fold max (Ideal.ofBits FTy.f32 0xFF800000#32) (fun x => X (ix3 h r x)) Finset.univ := by
  pointwise [mxA]
theorem exA_apply (X : FVec Ideal S16x8192x8192 .f32) (h : Fin 16) (r k : Fin 8192) : exA X (ix3 h r k) = Ideal.exp (X (ix3 h r k) - mxA X (ix2 h r)) := by
  pointwise [exA]
theorem smA_apply (X : FVec Ideal S16x8192x8192 .f32) (h : Fin 16) (r : Fin 8192) : smA X (ix2 h r) = ∑ k, exA X (ix3 h r k) := by
  pointwise [smA]
theorem addLog (a b : FVec Ideal S16x8192 .f32) (h : Fin 16) (r : Fin 8192) : (addf (broadcastInDim S16x8192x1 ![0, 1] bcast_S16x8192_S16x8192x1_0_1 a)
   (Host.log (broadcastInDim S16x8192x1 ![0, 1] bcast_S16x8192_S16x8192x1_0_1 b)) : FVec Ideal S16x8192x1 .f32) (ix3 h r 0) = a (ix2 h r) + Ideal.log (b (ix2 h r)) := by
  pointwise
theorem lsA_apply (X : FVec Ideal S16x8192x8192 .f32) (h : Fin 16) (r : Fin 8192) : lsA X (ix3 h r 0) = mxA X (ix2 h r) + Ideal.log (smA X (ix2 h r)) :=
  addLog (mxA X) (smA X) h r
theorem otA_apply (X : FVec Ideal S16x8192x8192 .f32) (x3 : FVec Ideal S8192x16x128 .f32) (h : Fin 16) (r : Fin 8192) (d : Fin 128) :
    otA X x3 (ix3 r h d) = ∑ k, x3 (ix3 k h d) * Ideal.div (exA X (ix3 h r k)) (smA X (ix2 h r)) := by
  pointwise [otA]
theorem dlA_apply (X : FVec Ideal S16x8192x8192 .f32) (x3 x4 : FVec Ideal S8192x16x128 .f32) (h : Fin 16) (r : Fin 8192) :
    dlA X x3 x4 (ix3 h r 0) = ∑ d, otA X x3 (ix3 r h d) * x4 (ix3 r h d) := by
  pointwise [dlA]
theorem zero_word : (FloatOps.sitofp (F := Ideal) FTy.f32 (0#32 : BitVec 32) : EReal) = 0 := by
  show (((0#32 : BitVec 32).toInt : ℝ) : EReal) = 0
  simp
theorem qnA_apply (x0 : FVec Ideal S8192x16x192 .f32) (r : Fin 8192) (l : Fin 2048) : qnA x0 (ix2 r l) = x0 (ix3 r ⟨l / 128, by omega⟩ ⟨l % 128, by omega⟩) := by
  pointwise [qnA]
theorem qpA_apply (x0 : FVec Ideal S8192x16x192 .f32) (r : Fin 8192) (l : Fin 2048) : qpA x0 (ix2 r l) =
    if h : (l : ℕ) / 128 < 16 ∧ (l : ℕ) % 128 < 64 then x0 (ix3 r ⟨l / 128, by omega⟩ ⟨128 + l % 128, by omega⟩) else FloatOps.sitofp (F := Ideal) FTy.f32 (0#32 : BitVec 32) := by
  pointwise [qpA]
theorem flA_apply (x0 : FVec Ideal S8192x16x128 .f32) (r : Fin 8192) (l : Fin 2048) : flA x0 (ix2 r l) = x0 (ix3 r ⟨l / 128, by omega⟩ ⟨l % 128, by omega⟩) := by
  pointwise [flA]
theorem kpA_apply (x0 : FVec Ideal S8192x64 .f32) (r : Fin 8192) (l : Fin 128) : kpA x0 (ix2 r l) =
    if h : (l : ℕ) < 64 then x0 (ix2 r ⟨l, h⟩) else FloatOps.sitofp (F := Ideal) FTy.f32 (0#32 : BitVec 32) := by
  pointwise [kpA]

section
variable (m : (ℓ : Loc nD τ sig) → Buf (Elt Ideal) ℓ) (c : Dev nD)
/-- The arguments. -/
def A0 : FVec Ideal S8192x16x192 .f32 := m ((c.tc : Thread nD τ).loc main_arg0)
def A1 : FVec Ideal S8192x16x128 .f32 := m ((c.tc : Thread nD τ).loc main_arg1)
def A2 : FVec Ideal S8192x64 .f32 := m ((c.tc : Thread nD τ).loc main_arg2)
def A3 : FVec Ideal S8192x16x128 .f32 := m ((c.tc : Thread nD τ).loc main_arg3)
def A4 : FVec Ideal S8192x16x128 .f32 := m ((c.tc : Thread nD τ).loc main_arg4)
/-- The masked scores. -/
def mscA (x0 : FVec Ideal S8192x16x192 .f32) (x1 : FVec Ideal S8192x16x128 .f32) (x2 : FVec Ideal S8192x64 .f32) : FVec Ideal S16x8192x8192 .f32 :=
  msA mkA (scA x0 x1 x2) (constant S_ FTy.f32 0xFF800000#32)
theorem V_eq (b : Ref sig .tc) : V m c b = StableHlo.after restOps (StableHlo.after hostOps0_2 (StableHlo.after headOps (fun b => m (c, b)))) (Proc.tc.devRef b) := by
  rw [← after_app c, ← after_app c]
  rfl
theorem head_v12 (σ : (b : DevRef τ sig) → Buf (Elt Ideal) (c, b)) : StableHlo.after headOps σ (Proc.tc.devRef main_v12) = mscA (σ (Proc.tc.devRef main_arg0)) (σ (Proc.tc.devRef main_arg1)) (σ (Proc.tc.devRef main_arg2)) := by
  rw [headOps, after_app c, h1_v12 c, h0_v5 c, h0_v11 c, h0_z c]
  rfl
theorem V_v25 : V m c main_v25 = lsA (mscA (A0 m c) (A1 m c) (A2 m c)) := by
  rw [V_eq, rest_v25 c, h2_v25 c, head_v12 c]; rfl
theorem V_v29 : V m c main_v29 = dlA (mscA (A0 m c) (A1 m c) (A2 m c)) (A3 m c) (A4 m c) := by
  rw [V_eq, rest_v29 c, h2_v29 c, head_v12 c, head_arg3 c, head_arg4 c]; rfl
theorem V_v32 : V m c main_v32 = qnA (A0 m c) := by
  rw [V_eq, rest_v32 c, h2_v32 c, head_arg0 c]; rfl
theorem V_v36 : V m c main_v36 = qpA (A0 m c) := by
  rw [V_eq, rest_v36 c, h2_v33 c, h2_c c, head_arg0 c]; rfl
theorem V_v38 : V m c main_v38 = flA (A1 m c) := by
  rw [V_eq, rest_v38 c, h2_arg1 c, head_arg1 c]; rfl
theorem V_v40 : V m c main_v40 = kpA (A2 m c) := by
  rw [V_eq, rest_v40 c, h2_arg2 c, head_arg2 c]; rfl
theorem V_v42 : V m c main_v42 = flA (A3 m c) := by
  rw [V_eq, rest_v42 c, h2_arg3 c, head_arg3 c]; rfl
/-- An array of heads laid out flat. -/
def frA (x1 : FVec Ideal S8192x16x128 .f32) : FVec Ideal S8192x2048 .f32 := shapeCast S8192x2048 x1 shapeCasts_S8192x16x128_S8192x2048
theorem V_v43 : V m c main_v43 = frA (A4 m c) := by
  rw [V_eq, rest_v43 c, h2_arg4 c, head_arg4 c]; rfl
theorem frA_apply (x0 : FVec Ideal S8192x16x128 .f32) (r : Fin 8192) (l : Fin 2048) : frA x0 (ix2 r l) = x0 (ix3 r ⟨l / 128, by omega⟩ ⟨l % 128, by omega⟩) := by
  pointwise [frA]
end
end Cert.Proof.Attn
-- ==== Proof.AttnReal.lean ====
module
public import proofs.«01_k».proof.Proof.AttnSpec
public import proofs.«01_k».proof.Proof.AttnHost
public import Idealize.ShloMosaic.Lib.WordCmp
@[expose] public section
set_option maxRecDepth 16384
noncomputable section
/-! The attention's arrays as real numbers, when the arguments are finite. -/
namespace Cert.Proof.Attn
open Cert.KernelIdeal
open Idealize.ShloMosaic
open Finset

/-- One of the five arguments, finite everywhere. -/
def AllReal {s : Shape} (x : FVec Ideal s .f32) : Prop := ∀ i, (x i : EReal) ≠ ⊤ ∧ (x i : EReal) ≠ ⊥

/-- The literal of the scale is a real number. -/
theorem scale_real : ((Ideal.ofBits FTy.f32 0x3D93CD3A#32).toReal : EReal) = Ideal.ofBits FTy.f32 0x3D93CD3A#32 := by
  have e : Ideal.ofBits FTy.f32 0x3D93CD3A#32 = ((9686330 * ((2 : ℝ) ^ 27)⁻¹ : ℝ) : EReal) := by
    simp [Ideal.ofBits, Ideal.ieee, EReal.coe_mul]
  rw [e, EReal.toReal_coe]
theorem minus_inf : Ideal.ofBits FTy.f32 0xFF800000#32 = ⊥ := by
  simp [Ideal.ofBits, Ideal.ieee]
theorem plus_inf : Ideal.ofBits FTy.f32 0x7F800000#32 = ⊤ := by
  simp [Ideal.ofBits, Ideal.ieee]

/-- The choice by comparing two row numbers. -/
theorem select_sge {α : Type} (r k : ℕ) (hr : r < 8192) (hk : k < 8192) (a b : α) :
    Scalar.select (IntOp.cmpi CmpIPredicate.sge (BitVec.ofNat 32 r) (BitVec.ofNat 32 k)) a b = if k ≤ r then a else b := by
  unfold Scalar.select
  exact if_congr (WordCmp.cmpi_sge_ofNat_eq_one_iff (w := 32) (by omega) (by omega)) rfl rfl

section
variable (x0 : FVec Ideal S8192x16x192 .f32) (x1 : FVec Ideal S8192x16x128 .f32) (x2 : FVec Ideal S8192x64 .f32)
  (x3 x4 : FVec Ideal S8192x16x128 .f32) (h : Fin 16)

/-- The arrays of head `h`, as real numbers. -/
def headOf : Head where
  qn r x := if hh : r < 8192 ∧ x < 128 then (x0 (ix3 ⟨r, hh.1⟩ h ⟨x, by omega⟩)).toReal else 0
  qp r x := if hh : r < 8192 ∧ x < 64 then (x0 (ix3 ⟨r, hh.1⟩ h ⟨128 + x, by omega⟩)).toReal else 0
  kn r x := if hh : r < 8192 ∧ x < 128 then (x1 (ix3 ⟨r, hh.1⟩ h ⟨x, hh.2⟩)).toReal else 0
  kp r x := if hh : r < 8192 ∧ x < 64 then (x2 (ix2 ⟨r, hh.1⟩ ⟨x, hh.2⟩)).toReal else 0
  v r x := if hh : r < 8192 ∧ x < 128 then (x3 (ix3 ⟨r, hh.1⟩ h ⟨x, hh.2⟩)).toReal else 0
  g r x := if hh : r < 8192 ∧ x < 128 then (x4 (ix3 ⟨r, hh.1⟩ h ⟨x, hh.2⟩)).toReal else 0
  s := (Ideal.ofBits FTy.f32 0x3D93CD3A#32).toReal

variable {x0 x1 x2 x3 x4}
theorem qn_eq (hf : AllReal x0) (r x : ℕ) (hr : r < 8192) (hx : x < 128) :
    x0 (ix3 ⟨r, hr⟩ h ⟨x, by omega⟩) = (((headOf x0 x1 x2 x3 x4 h).qn r x : ℝ) : EReal) := by
  show _ = ((dite _ _ _ : ℝ) : EReal); rw [dif_pos ⟨hr, hx⟩, EReal.coe_toReal (hf _).1 (hf _).2]
theorem qp_eq (hf : AllReal x0) (r x : ℕ) (hr : r < 8192) (hx : x < 64) :
    x0 (ix3 ⟨r, hr⟩ h ⟨128 + x, by omega⟩) = (((headOf x0 x1 x2 x3 x4 h).qp r x : ℝ) : EReal) := by
  show _ = ((dite _ _ _ : ℝ) : EReal); rw [dif_pos ⟨hr, hx⟩, EReal.coe_toReal (hf _).1 (hf _).2]
theorem kn_eq (hf : AllReal x1) (r x : ℕ) (hr : r < 8192) (hx : x < 128) :
    x1 (ix3 ⟨r, hr⟩ h ⟨x, hx⟩) = (((headOf x0 x1 x2 x3 x4 h).kn r x : ℝ) : EReal) := by
  show _ = ((dite _ _ _ : ℝ) : EReal); rw [dif_pos ⟨hr, hx⟩, EReal.coe_toReal (hf _).1 (hf _).2]
theorem kp_eq (hf : AllReal x2) (r x : ℕ) (hr : r < 8192) (hx : x < 64) :
    x2 (ix2 ⟨r, hr⟩ ⟨x, hx⟩) = (((headOf x0 x1 x2 x3 x4 h).kp r x : ℝ) : EReal) := by
  show _ = ((dite _ _ _ : ℝ) : EReal); rw [dif_pos ⟨hr, hx⟩, EReal.coe_toReal (hf _).1 (hf _).2]
theorem v_eq (hf : AllReal x3) (r x : ℕ) (hr : r < 8192) (hx : x < 128) :
    x3 (ix3 ⟨r, hr⟩ h ⟨x, hx⟩) = (((headOf x0 x1 x2 x3 x4 h).v r x : ℝ) : EReal) := by
  show _ = ((dite _ _ _ : ℝ) : EReal); rw [dif_pos ⟨hr, hx⟩, EReal.coe_toReal (hf _).1 (hf _).2]
theorem g_eq (hf : AllReal x4) (r x : ℕ) (hr : r < 8192) (hx : x < 128) :
    x4 (ix3 ⟨r, hr⟩ h ⟨x, hx⟩) = (((headOf x0 x1 x2 x3 x4 h).g r x : ℝ) : EReal) := by
  show _ = ((dite _ _ _ : ℝ) : EReal); rw [dif_pos ⟨hr, hx⟩, EReal.coe_toReal (hf _).1 (hf _).2]

variable (x3 x4)
/-- The scores are real. -/
theorem sc_eq (h0 : AllReal x0) (h1 : AllReal x1) (h2 : AllReal x2) (r k : Fin 8192) :
    (∑ x : Fin 128, x0 (ix3 r h ⟨x, by omega⟩) * x1 (ix3 k h x) + ∑ x : Fin 64, x0 (ix3 r h ⟨128 + x, by omega⟩) * x2 (ix2 k x)) * Ideal.ofBits FTy.f32 0x3D93CD3A#32
      = (((headOf x0 x1 x2 x3 x4 h).S r k : ℝ) : EReal) := by
  unfold Head.S
  rw [EReal.coe_mul, EReal.coe_add, ← sum_fin, ← sum_fin]
  congr 1
  · congr 1
    · refine Finset.sum_congr rfl fun x _ => ?_
      rw [EReal.coe_mul]
      exact congrArg₂ _ (qn_eq h h0 r x r.2 x.2) (kn_eq h h1 k x k.2 x.2)
    · refine Finset.sum_congr rfl fun x _ => ?_
      rw [EReal.coe_mul]
      exact congrArg₂ _ (qp_eq h h0 r x r.2 x.2) (kp_eq h h2 k x k.2 x.2)
/-- The masked scores. -/
theorem msc_eq (h0 : AllReal x0) (h1 : AllReal x1) (h2 : AllReal x2) (r k : Fin 8192) :
    mscA x0 x1 x2 (ix3 h r k) = if (k : ℕ) ≤ r then (((headOf x0 x1 x2 x3 x4 h).S r k : ℝ) : EReal) else ⊥ := by
  unfold mscA
  rw [msA_apply, mkA_apply, select_sge _ _ r.2 k.2, scA_apply, sc_eq x3 x4 h h0 h1 h2]
  exact if_congr Iff.rfl rfl minus_inf
end

/-! Rows of masked scores. -/
section
variable (H : Head) (r : Fin 8192) (X : Fin 8192 → EReal)
  (hX : ∀ k : Fin 8192, X k = if (k : ℕ) ≤ r then ((H.S r k : ℝ) : EReal) else ⊥)
include hX
theorem row_max : ∃ M : ℝ, Finset.fold max (⊥ : EReal) X univ = (M : EReal) := by
  refine max_real 8192 X (fun k => ?_) r ?_
  · rw [hX]; split
    · exact EReal.coe_ne_top _
    · exact bot_ne_top
  · rw [hX, if_pos le_rfl]; exact EReal.coe_ne_bot _
theorem row_exp (M : ℝ) (k : Fin 8192) : Ideal.exp (X k - (M : EReal)) = ((H.W r k * Real.exp (-M) : ℝ) : EReal) := by
  rw [hX]; unfold Head.W
  split
  · rw [← EReal.coe_sub, Ideal.exp_coe, ← Real.exp_add, sub_eq_add_neg]
  · rw [EReal.bot_sub, Ideal.exp_bot, zero_mul, EReal.coe_zero]
theorem row_sum (M : ℝ) : ∑ k, Ideal.exp (X k - (M : EReal)) = ((H.Z r * Real.exp (-M) : ℝ) : EReal) := by
  unfold Head.Z
  rw [Finset.sum_congr rfl fun k _ => row_exp H r X hX M k, Finset.sum_mul]
  exact sum_fin 8192 fun k => H.W r k * Real.exp (-M)
omit hX in
theorem row_log (M : ℝ) : (M : EReal) + Ideal.log ((H.Z r * Real.exp (-M) : ℝ) : EReal) = ((Real.log (H.Z r) : ℝ) : EReal) := by
  have hz := H.Z_pos r
  rw [Ideal.log_coe, if_neg (not_le.2 (mul_pos hz (Real.exp_pos _))), ← EReal.coe_add, Real.log_mul hz.ne' (Real.exp_pos _).ne', Real.log_exp]
  congr 1; ring
omit hX in
theorem div_real (a b : ℝ) (hb : b ≠ 0) : Ideal.div (a : EReal) (b : EReal) = ((a / b : ℝ) : EReal) := by
  rw [Ideal.div_coe hb, ← EReal.coe_mul, mul_one_div]
omit hX in
theorem row_div (M : ℝ) (k : ℕ) : Ideal.div ((H.W r k * Real.exp (-M) : ℝ) : EReal) ((H.Z r * Real.exp (-M) : ℝ) : EReal) = ((H.P r k : ℝ) : EReal) := by
  have hz := H.Z_pos r
  rw [div_real _ _ (mul_pos hz (Real.exp_pos _)).ne', mul_div_mul_right _ _ (Real.exp_pos _).ne']
  rfl
end

section
variable {x0 : FVec Ideal S8192x16x192 .f32} {x1 : FVec Ideal S8192x16x128 .f32} {x2 : FVec Ideal S8192x64 .f32}
  {x3 x4 : FVec Ideal S8192x16x128 .f32} (h0 : AllReal x0) (h1 : AllReal x1) (h2 : AllReal x2) (h3 : AllReal x3) (h4 : AllReal x4) (h : Fin 16) (r : Fin 8192)
include h0 h1 h2
theorem mx_eq : ∃ M : ℝ, mxA (mscA x0 x1 x2) (ix2 h r) = (M : EReal) := by
  rw [mxA_apply, minus_inf]
  exact row_max (headOf x0 x1 x2 (fun _ => (0 : EReal)) (fun _ => (0 : EReal)) h) r _ fun k => msc_eq _ _ h h0 h1 h2 r k
/-- The saved row logarithms. -/
theorem ls_eq : lsA (mscA x0 x1 x2) (ix3 h r 0) = ((Real.log ((headOf x0 x1 x2 x3 x4 h).Z r) : ℝ) : EReal) := by
  obtain ⟨M, hM⟩ := mx_eq h0 h1 h2 h r
  rw [lsA_apply, smA_apply]
  simp only [exA_apply]
  rw [hM, row_sum (headOf x0 x1 x2 x3 x4 h) r _ (fun k => msc_eq x3 x4 h h0 h1 h2 r k) M, row_log]
include h3 h4
/-- The saved products of output and gradient. -/
theorem dl_eq : dlA (mscA x0 x1 x2) x3 x4 (ix3 h r 0) = (((headOf x0 x1 x2 x3 x4 h).D r : ℝ) : EReal) := by
  obtain ⟨M, hM⟩ := mx_eq h0 h1 h2 h r
  rw [dlA_apply, ← Head.D_eq, ← sum_fin]
  refine Finset.sum_congr rfl fun d _ => ?_
  rw [otA_apply, smA_apply]
  simp only [exA_apply]
  rw [hM, row_sum (headOf x0 x1 x2 x3 x4 h) r _ (fun k => msc_eq x3 x4 h h0 h1 h2 r k) M, EReal.coe_mul (Finset.sum _ _), ← sum_fin]
  refine congrArg₂ _ (Finset.sum_congr rfl fun k _ => ?_) (g_eq h h4 r d r.2 d.2)
  rw [row_exp (headOf x0 x1 x2 x3 x4 h) r _ (fun k => msc_eq x3 x4 h h0 h1 h2 r k) M k, row_div, EReal.coe_mul]
  exact congrArg₂ _ (v_eq h h3 k d k.2 d.2) rfl
end
end Cert.Proof.Attn
-- ==== Proof.AttnBlocks.lean ====
module
public import proofs.«01_k».proof.Proof.AttnReal
@[expose] public section
set_option maxRecDepth 16384
noncomputable section
/-! One grid point of the attention kernel, as real numbers. -/
namespace Cert.Proof.Attn
open Cert.KernelIdeal Cert.KernelIdeal.Gen
open Idealize.ShloMosaic
open Finset

/-! The contractions of the body, entry by entry. -/
theorem pay4_apply (Z D : FVec Ideal S1024x128 .f32) (a : Fin 1024) (d : Fin 128) : k0_pay4 Z D (ix2 a d) = Z (ix2 a d) + D (ix2 a d) := by
  pointwise [k0_pay4]
theorem pay5_apply (Q : FVec Ideal S1024x256 .bf16) (D : FVec Ideal S1024x1024 .bf16) (Y : FVec Ideal S1024x256 .f32) (a : Fin 1024) (l : Fin 256) :
    k0_pay5 Q D Y (ix2 a l) = Y (ix2 a l) + ∑ x, D (ix2 x a) * Q (ix2 x l) := by
  pointwise [k0_pay5]
theorem pay6_apply (Q : FVec Ideal S1024x256 .bf16) (D : FVec Ideal S1024x1024 .bf16) (Y : FVec Ideal S1024x256 .f32) (a : Fin 1024) (l : Fin 256) :
    k0_pay6 Q D Y (ix2 a l) = Y (ix2 a l) + ∑ x, D (ix2 a x) * Q (ix2 x l) := by
  pointwise [k0_pay6]
theorem pay8_apply (Q : FVec Ideal S1024x256 .bf16) (D : FVec Ideal S1024x1024 .bf16) (Y : FVec Ideal S1024x256 .f32) (a : Fin 1024) (l : Fin 256) :
    k0_pay8 Q D Y (ix2 a l) = Y (ix2 a l) + ∑ x, D (ix2 x a) * Q (ix2 x l) := by
  pointwise [k0_pay8]
theorem pay9_apply (Q : FVec Ideal S1024x256 .bf16) (D : FVec Ideal S1024x1024 .bf16) (Y : FVec Ideal S1024x256 .f32) (a : Fin 1024) (l : Fin 256) :
    k0_pay9 Q D Y (ix2 a l) = Y (ix2 a l) + ∑ x, D (ix2 a x) * Q (ix2 x l) := by
  pointwise [k0_pay9]
theorem pay1_apply (a : Fin 1024) (l : Fin 256) : (k0_pay1 : FVec Ideal S1024x256 .f32) (ix2 a l) = 0 := by
  pointwise [k0_pay1]
theorem pay2_apply (a : Fin 1024) (l : Fin 128) : (k0_pay2 : FVec Ideal S1024x128 .f32) (ix2 a l) = 0 := by
  pointwise [k0_pay2]
theorem pay3_apply (a : Fin 1024) (l : Fin 256) : (k0_pay3 : FVec Ideal S1024x256 .f32) (ix2 a l) = 0 := by
  pointwise [k0_pay3]
section
variable (x3 x4 x5 x6 x7 : FVec Ideal S1024x128 .bf16) (x8 : FVec Ideal S1024x128 .f32) (x9 x10 : FVec Ideal S1x1024x1 .f32)
theorem pay10_apply (a : Fin 1024) (l : Fin 256) : k0_pay10 x3 x4 (ix2 a l) = if h : (l : ℕ) < 128 then x3 (ix2 a ⟨l, h⟩) else x4 (ix2 a ⟨l - 128, by omega⟩) := by
  pointwise [k0_pay10]
theorem pay11_apply (a : Fin 1024) (l : Fin 256) : k0_pay11 x5 x6 (ix2 a l) = if h : (l : ℕ) < 128 then x5 (ix2 a ⟨l, h⟩) else x6 (ix2 a ⟨l - 128, by omega⟩) := by
  pointwise [k0_pay11]
theorem pay16_apply (a : Fin 1024) (l : Fin 256) : k0_pay16 x3 x4 (ix2 a l) = if h : (l : ℕ) < 128 then x3 (ix2 a ⟨l, h⟩) else x4 (ix2 a ⟨l - 128, by omega⟩) := by
  pointwise [k0_pay16]
theorem pay17_apply (a : Fin 1024) (l : Fin 256) : k0_pay17 x5 x6 (ix2 a l) = if h : (l : ℕ) < 128 then x5 (ix2 a ⟨l, h⟩) else x6 (ix2 a ⟨l - 128, by omega⟩) := by
  pointwise [k0_pay17]
theorem pay12_apply (a b : Fin 1024) : k0_pay12 (F := Ideal) x3 x4 x5 x6 x9 (ix2 a b) =
    Ideal.exp ((∑ x, x3 (ix2 a x) * x5 (ix2 b x) + ∑ x, x4 (ix2 a x) * x6 (ix2 b x)) * Ideal.ofBits FTy.f32 0x3D93CD3A#32 - x9 (ix3 0 a 0)) := by
  pointwise [k0_pay12, k0_pay10, k0_pay11]
theorem pay18_apply (a b : Fin 1024) : k0_pay18 (F := Ideal) x3 x4 x5 x6 x9 (ix2 a b) =
    Ideal.exp (Scalar.select (IntOp.cmpi .sge (BitVec.ofNat 32 a) (BitVec.ofNat 32 b))
      ((∑ x, x3 (ix2 a x) * x5 (ix2 b x) + ∑ x, x4 (ix2 a x) * x6 (ix2 b x)) * Ideal.ofBits FTy.f32 0x3D93CD3A#32)
      (Named.named (F := Ideal) κ "mask" (φ := .f32) 0xFF7FFFFF#32) - x9 (ix3 0 a 0)) := by
  pointwise [k0_pay18, k0_pay16, k0_pay17]
theorem pay14_apply (a b : Fin 1024) : k0_pay14 (F := Ideal) x3 x4 x5 x6 x9 x8 x7 x10 (ix2 a b) =
    k0_pay12 (F := Ideal) x3 x4 x5 x6 x9 (ix2 a b) * (∑ x, x8 (ix2 a x) * x7 (ix2 b x) - x10 (ix3 0 a 0)) * Ideal.ofBits FTy.f32 0x3D93CD3A#32 := by
  pointwise [k0_pay14, k0_pay13]
theorem pay20_apply (a b : Fin 1024) : k0_pay20 (F := Ideal) x3 x4 x5 x6 x9 x8 x7 x10 (ix2 a b) =
    k0_pay18 (F := Ideal) x3 x4 x5 x6 x9 (ix2 a b) * (∑ x, x8 (ix2 a x) * x7 (ix2 b x) - x10 (ix3 0 a 0)) * Ideal.ofBits FTy.f32 0x3D93CD3A#32 := by
  pointwise [k0_pay20, k0_pay19]
theorem pay15_apply (a : Fin 1024) (d : Fin 128) : k0_pay15 x3 x4 x5 x6 x9 x8 (ix2 a d) = ∑ x, k0_pay12 (F := Ideal) x3 x4 x5 x6 x9 (ix2 x a) * x8 (ix2 x d) := by
  pointwise [k0_pay15, k0_pay13]
theorem upZ4_apply (Z : FVec Ideal S1024x128 .f32) (a : Fin 1024) (d : Fin 128) : upZ4 (F := Ideal) x3 x4 x5 x6 x7 x8 x9 x10 Z (ix2 a d) = Z (ix2 a d) + ∑ x, k0_pay18 (F := Ideal) x3 x4 x5 x6 x9 (ix2 x a) * x8 (ix2 x d) := by
  pointwise [upZ4, k0_pay7, k0_pay19]

/-- The blocks of query block `i` and key block `j` hold the head's numbers. -/
structure Blk (H : Head) (i j : ℕ) : Prop where
  q0 : ∀ (a : Fin 1024) (x : Fin 128), x3 (ix2 a x) = ((H.qn (1024 * i + a) x : ℝ) : EReal)
  q1 : ∀ (a : Fin 1024) (x : Fin 128), x4 (ix2 a x) = ((if (x : ℕ) < 64 then H.qp (1024 * i + a) x else 0 : ℝ) : EReal)
  k0 : ∀ (a : Fin 1024) (x : Fin 128), x5 (ix2 a x) = ((H.kn (1024 * j + a) x : ℝ) : EReal)
  k1 : ∀ (a : Fin 1024) (x : Fin 128), x6 (ix2 a x) = ((if (x : ℕ) < 64 then H.kp (1024 * j + a) x else 0 : ℝ) : EReal)
  vv : ∀ (a : Fin 1024) (x : Fin 128), x7 (ix2 a x) = ((H.v (1024 * j + a) x : ℝ) : EReal)
  gg : ∀ (a : Fin 1024) (x : Fin 128), x8 (ix2 a x) = ((H.g (1024 * i + a) x : ℝ) : EReal)
  ll : ∀ a : Fin 1024, x9 (ix3 0 a 0) = ((Real.log (H.Z (1024 * i + a)) : ℝ) : EReal)
  dd : ∀ a : Fin 1024, x10 (ix3 0 a 0) = ((H.D (1024 * i + a) : ℝ) : EReal)
  ss : Ideal.ofBits FTy.f32 0x3D93CD3A#32 = ((H.s : ℝ) : EReal)

variable {x3 x4 x5 x6 x7 x8 x9 x10} {H : Head} {i j : ℕ} (B : Blk x3 x4 x5 x6 x7 x8 x9 x10 H i j)
include B
theorem Blk.score (a b : Fin 1024) : (∑ x, x3 (ix2 a x) * x5 (ix2 b x) + ∑ x, x4 (ix2 a x) * x6 (ix2 b x)) * Ideal.ofBits FTy.f32 0x3D93CD3A#32
    = ((H.S (1024 * i + a) (1024 * j + b) : ℝ) : EReal) := by
  unfold Head.S
  rw [EReal.coe_mul, EReal.coe_add, ← sum_pad 64 128 (by norm_num), ← sum_fin, ← sum_fin, B.ss]
  congr 2
  · exact Finset.sum_congr rfl fun x _ => by rw [B.q0, B.k0, EReal.coe_mul]
  · exact Finset.sum_congr rfl fun x _ => by rw [B.q1, B.k1, EReal.coe_mul]
theorem Blk.p_low (hij : j < i) (a b : Fin 1024) : k0_pay12 (F := Ideal) x3 x4 x5 x6 x9 (ix2 a b) = ((H.P (1024 * i + a) (1024 * j + b) : ℝ) : EReal) := by
  rw [pay12_apply, B.score, B.ll, ← EReal.coe_sub, Ideal.exp_coe, H.P_below (by omega)]
theorem Blk.p_diag (hij : j = i) (a b : Fin 1024) : k0_pay18 (F := Ideal) x3 x4 x5 x6 x9 (ix2 a b) = ((H.P (1024 * i + a) (1024 * j + b) : ℝ) : EReal) := by
  rw [pay18_apply, B.score, B.ll, select_sge _ _ (by omega) (by omega)]
  split
  · rw [← EReal.coe_sub, Ideal.exp_coe, H.P_below (by omega)]
  · rw [H.P_above (by omega)]
    show Ideal.exp ((⊥ : EReal) - _) = _
    rw [EReal.bot_sub, Ideal.exp_bot, EReal.coe_zero]
theorem Blk.dp (a b : Fin 1024) : ∑ x, x8 (ix2 a x) * x7 (ix2 b x) = ((H.dP (1024 * i + a) (1024 * j + b) : ℝ) : EReal) := by
  unfold Head.dP
  rw [← sum_fin]
  exact Finset.sum_congr rfl fun x _ => by rw [B.gg, B.vv, EReal.coe_mul]
theorem Blk.t_low (hij : j < i) (a b : Fin 1024) : k0_pay14 (F := Ideal) x3 x4 x5 x6 x9 x8 x7 x10 (ix2 a b) = ((H.T (1024 * i + a) (1024 * j + b) : ℝ) : EReal) := by
  rw [pay14_apply, B.p_low hij, B.dp, B.dd, B.ss, ← EReal.coe_sub, ← EReal.coe_mul, ← EReal.coe_mul]; rfl
theorem Blk.t_diag (hij : j = i) (a b : Fin 1024) : k0_pay20 (F := Ideal) x3 x4 x5 x6 x9 x8 x7 x10 (ix2 a b) = ((H.T (1024 * i + a) (1024 * j + b) : ℝ) : EReal) := by
  rw [pay20_apply, B.p_diag hij, B.dp, B.dd, B.ss, ← EReal.coe_sub, ← EReal.coe_mul, ← EReal.coe_mul]; rfl
theorem Blk.qcat (a : Fin 1024) (l : Fin 256) : (if h : (l : ℕ) < 128 then x3 (ix2 a ⟨l, h⟩) else x4 (ix2 a ⟨l - 128, by omega⟩)) = ((H.qc (1024 * i + a) l : ℝ) : EReal) := by
  unfold Head.qc
  split
  · rw [B.q0]
  · rw [B.q1]
theorem Blk.kcat (a : Fin 1024) (l : Fin 256) : (if h : (l : ℕ) < 128 then x5 (ix2 a ⟨l, h⟩) else x6 (ix2 a ⟨l - 128, by omega⟩)) = ((H.kc (1024 * j + a) l : ℝ) : EReal) := by
  unfold Head.kc
  split
  · rw [B.k0]
  · rw [B.k1]
omit B
variable (hB : j ≤ i → Blk x3 x4 x5 x6 x7 x8 x9 x10 H i j)
include hB
/-- The point's step of the key gradient. -/
theorem Blk.stepY {Y : FVec Ideal S1024x256 .f32} {y : ℝ} (a : Fin 1024) (l : Fin 256) (hY : Y (ix2 a l) = (y : EReal)) :
    stepY (F := Ideal) j i x3 x4 x5 x6 x7 x8 x9 x10 Y (ix2 a l) = ((y + ∑ x ∈ range 1024, H.T (1024 * i + x) (1024 * j + a) * H.qc (1024 * i + x) l : ℝ) : EReal) := by
  rw [EReal.coe_add, ← sum_fin]
  unfold Attn.stepY
  split
  · next hij =>
    rw [upY3, pay5_apply, hY]
    exact congrArg _ (Finset.sum_congr rfl fun x _ => by rw [(hB (by omega)).t_low hij, pay10_apply, (hB (by omega)).qcat, EReal.coe_mul])
  · split
    · next hij =>
      rw [upY4, pay8_apply, hY]
      exact congrArg _ (Finset.sum_congr rfl fun x _ => by rw [(hB (by omega)).t_diag hij, pay16_apply, (hB (by omega)).qcat, EReal.coe_mul])
    · rw [hY, Finset.sum_eq_zero fun x _ => by rw [H.T_above (by omega), zero_mul, EReal.coe_zero], add_zero]
/-- The point's step of the query gradient. -/
theorem Blk.stepQ {Y : FVec Ideal S1024x256 .f32} {y : ℝ} (a : Fin 1024) (l : Fin 256) (hY : Y (ix2 a l) = (y : EReal)) :
    stepQ (F := Ideal) j i x3 x4 x5 x6 x7 x8 x9 x10 Y (ix2 a l) = ((y + ∑ x ∈ range 1024, H.T (1024 * i + a) (1024 * j + x) * H.kc (1024 * j + x) l : ℝ) : EReal) := by
  rw [EReal.coe_add, ← sum_fin]
  unfold Attn.stepQ
  split
  · next hij =>
    rw [upQ3, pay6_apply, hY]
    exact congrArg _ (Finset.sum_congr rfl fun x _ => by rw [(hB (by omega)).t_low hij, pay11_apply, (hB (by omega)).kcat, EReal.coe_mul])
  · split
    · next hij =>
      rw [upQ4, pay9_apply, hY]
      exact congrArg _ (Finset.sum_congr rfl fun x _ => by rw [(hB (by omega)).t_diag hij, pay17_apply, (hB (by omega)).kcat, EReal.coe_mul])
    · rw [hY, Finset.sum_eq_zero fun x _ => by rw [H.T_above (by omega), zero_mul, EReal.coe_zero], add_zero]
/-- The point's step of the value gradient. -/
theorem Blk.stepZ {Y : FVec Ideal S1024x128 .f32} {y : ℝ} (a : Fin 1024) (l : Fin 128) (hY : Y (ix2 a l) = (y : EReal)) :
    stepZ (F := Ideal) j i x3 x4 x5 x6 x7 x8 x9 x10 Y (ix2 a l) = ((y + ∑ x ∈ range 1024, H.P (1024 * i + x) (1024 * j + a) * H.g (1024 * i + x) l : ℝ) : EReal) := by
  rw [EReal.coe_add, ← sum_fin]
  unfold Attn.stepZ
  split
  · next hij =>
    rw [upZ3, pay4_apply, pay15_apply, hY]
    exact congrArg _ (Finset.sum_congr rfl fun x _ => by rw [(hB (by omega)).p_low hij, (hB (by omega)).gg, EReal.coe_mul])
  · split
    · next hij =>
      rw [upZ4_apply, hY]
      exact congrArg _ (Finset.sum_congr rfl fun x _ => by rw [(hB (by omega)).p_diag hij, (hB (by omega)).gg, EReal.coe_mul])
    · rw [hY, Finset.sum_eq_zero fun x _ => by rw [H.P_above (by omega), zero_mul, EReal.coe_zero], add_zero]
end
end Cert.Proof.Attn
-- ==== Proof.AttnWin.lean ====
module
public import proofs.«01_k».proof.Proof.AttnBlocks
public import Idealize.ShloMosaic.Lib.Pipeline.ValueKit
@[expose] public section
set_option maxRecDepth 65536
noncomputable section
/-! The attention kernel's blocks as parts of their arrays. -/
namespace Cert.Proof.Attn
open Cert.KernelIdeal Cert.KernelIdeal.Gen
open Idealize.ShloMosaic Idealize.ShloMosaic.TcCoe
variable (m : (ℓ : Loc nD τ sig) → Buf (Elt Ideal) ℓ) (c : Dev nD)
theorem idx_in : ∀ t : Fin cfg0.N,
    win0_0.index t = ![max (t.val % 8) (t.val / 8 % 8), t.val / 64] ∧ win0_1.index t = ![max (t.val % 8) (t.val / 8 % 8), t.val / 64]
    ∧ win0_2.index t = ![t.val / 8 % 8, t.val / 64] ∧ win0_3.index t = ![t.val / 8 % 8, 0] ∧ win0_4.index t = ![t.val / 8 % 8, t.val / 64]
    ∧ win0_5.index t = ![max (t.val % 8) (t.val / 8 % 8), t.val / 64]
    ∧ win0_6.index t = ![t.val / 64, max (t.val % 8) (t.val / 8 % 8), 0] ∧ win0_7.index t = ![t.val / 64, max (t.val % 8) (t.val / 8 % 8), 0] :=
  (by decide +kernel : ∀ t : Fin grid0.N, _)
theorem idx_out : ∀ t : Fin cfg0.N,
    win0_8.index t = ![if t.val / 8 % 8 = 7 then t.val % 8 else 0, t.val / 64] ∧ win0_9.index t = ![if t.val / 8 % 8 = 7 then t.val % 8 else 0, t.val / 64]
    ∧ win0_10.index t = ![t.val / 8 % 8, t.val / 64] ∧ win0_11.index t = ![t.val / 8 % 8, t.val / 64] ∧ win0_12.index t = ![t.val / 8 % 8, t.val / 64] :=
  (by decide +kernel : ∀ t : Fin grid0.N, _)
theorem pt_lt (t : Fin cfg0.N) : t.val < 1024 := by
  have h : t.val < grid0.N := t.isLt
  rwa [N_0] at h
theorem ib0 (t : Fin cfg0.N) (a : Fin 1024) (x : Fin 128) (h1 h2) : (iblk m c 0 t : FVec Ideal S1024x128 .bf16) (ix2 a x)
    = (V m c main_v32 : FVec Ideal S8192x2048 .bf16) (ix2 ⟨1024 * max (t.val % 8) (t.val / 8 % 8) + a, h1⟩ ⟨128 * (t.val / 64) + x, h2⟩) := by
  have ht := pt_lt t
  blk_ext [iblk, idx_in t]
theorem ib1 (t : Fin cfg0.N) (a : Fin 1024) (x : Fin 128) (h1 h2) : (iblk m c 1 t : FVec Ideal S1024x128 .bf16) (ix2 a x)
    = (V m c main_v36 : FVec Ideal S8192x2048 .bf16) (ix2 ⟨1024 * max (t.val % 8) (t.val / 8 % 8) + a, h1⟩ ⟨128 * (t.val / 64) + x, h2⟩) := by
  have ht := pt_lt t
  blk_ext [iblk, idx_in t]
theorem ib2 (t : Fin cfg0.N) (a : Fin 1024) (x : Fin 128) (h1 h2) : (iblk m c 2 t : FVec Ideal S1024x128 .bf16) (ix2 a x)
    = (V m c main_v38 : FVec Ideal S8192x2048 .bf16) (ix2 ⟨1024 * (t.val / 8 % 8) + a, h1⟩ ⟨128 * (t.val / 64) + x, h2⟩) := by
  have ht := pt_lt t
  blk_ext [iblk, idx_in t]
theorem ib4 (t : Fin cfg0.N) (a : Fin 1024) (x : Fin 128) (h1 h2) : (iblk m c 4 t : FVec Ideal S1024x128 .bf16) (ix2 a x)
    = (V m c main_v42 : FVec Ideal S8192x2048 .bf16) (ix2 ⟨1024 * (t.val / 8 % 8) + a, h1⟩ ⟨128 * (t.val / 64) + x, h2⟩) := by
  have ht := pt_lt t
  blk_ext [iblk, idx_in t]
theorem ib5 (t : Fin cfg0.N) (a : Fin 1024) (x : Fin 128) (h1 h2) : (iblk m c 5 t : FVec Ideal S1024x128 .f32) (ix2 a x)
    = (V m c main_v43 : FVec Ideal S8192x2048 .f32) (ix2 ⟨1024 * max (t.val % 8) (t.val / 8 % 8) + a, h1⟩ ⟨128 * (t.val / 64) + x, h2⟩) := by
  have ht := pt_lt t
  blk_ext [iblk, idx_in t]
theorem ib3 (t : Fin cfg0.N) (a : Fin 1024) (x : Fin 128) (h1) : (iblk m c 3 t : FVec Ideal S1024x128 .bf16) (ix2 a x)
    = (V m c main_v40 : FVec Ideal S8192x128 .bf16) (ix2 ⟨1024 * (t.val / 8 % 8) + a, h1⟩ x) := by
  have ht := pt_lt t
  blk_ext [iblk, idx_in t]
theorem wr6 (X : Buf (Elt Ideal) ((c : Thread nD τ).loc main_v25)) (t : Fin cfg0.N) (a : Fin 1024) (h1 h2) :
    (((cfg0.win 6).blk t).view.read (Elt Ideal) X : FVec Ideal S1x1024x1 .f32) (ix3 0 a 0) = (X : FVec Ideal S16x8192x1 .f32) (ix3 ⟨t.val / 64, h2⟩ ⟨1024 * max (t.val % 8) (t.val / 8 % 8) + a, h1⟩ 0) := by
  have ht := pt_lt t
  blk_ext [idx_in t]
theorem ib6 (t : Fin cfg0.N) (a : Fin 1024) (h1 h2) : (iblk m c 6 t : FVec Ideal S1x1024x1 .f32) (ix3 0 a 0)
    = (V m c main_v25 : FVec Ideal S16x8192x1 .f32) (ix3 ⟨t.val / 64, h2⟩ ⟨1024 * max (t.val % 8) (t.val / 8 % 8) + a, h1⟩ 0) :=
  wr6 c (V m c main_v25) t a h1 h2
theorem wr7 (X : Buf (Elt Ideal) ((c : Thread nD τ).loc main_v29)) (t : Fin cfg0.N) (a : Fin 1024) (h1 h2) :
    (((cfg0.win 7).blk t).view.read (Elt Ideal) X : FVec Ideal S1x1024x1 .f32) (ix3 0 a 0) = (X : FVec Ideal S16x8192x1 .f32) (ix3 ⟨t.val / 64, h2⟩ ⟨1024 * max (t.val % 8) (t.val / 8 % 8) + a, h1⟩ 0) := by
  have ht := pt_lt t
  blk_ext [idx_in t]
theorem ib7 (t : Fin cfg0.N) (a : Fin 1024) (h1 h2) : (iblk m c 7 t : FVec Ideal S1x1024x1 .f32) (ix3 0 a 0)
    = (V m c main_v29 : FVec Ideal S16x8192x1 .f32) (ix3 ⟨t.val / 64, h2⟩ ⟨1024 * max (t.val % 8) (t.val / 8 % 8) + a, h1⟩ 0) :=
  wr7 c (V m c main_v29) t a h1 h2
end Cert.Proof.Attn
-- ==== Proof.AttnVal.lean ====
module
public import proofs.«01_k».proof.Proof.AttnWin
@[expose] public section
set_option maxRecDepth 16384
noncomputable section
/-! The values of the attention kernel's blocks, accumulators and results. -/
namespace Cert.Proof.Attn
open Cert.KernelIdeal Cert.KernelIdeal.Gen
open Idealize.ShloMosaic Idealize.ShloMosaic.TcCoe
open Finset
variable (m : (ℓ : Loc nD τ sig) → Buf (Elt Ideal) ℓ) (c : Dev nD)

/-- Head `h` of the run's arguments. -/
def hd (h : ℕ) : Head := headOf (A0 m c) (A1 m c) (A2 m c) (A3 m c) (A4 m c) ⟨h % 16, by omega⟩
/-- The run's arguments are real. -/
structure Reals : Prop where
  h0 : AllReal (A0 m c)
  h1 : AllReal (A1 m c)
  h2 : AllReal (A2 m c)
  h3 : AllReal (A3 m c)
  h4 : AllReal (A4 m c)

theorem at3 {α : Type} {n0 n1 n2 : ℕ} (f : Shape.Idx ⟨3, ![n0, n1, n2]⟩ → α) {a a' : Fin n0} {b b' : Fin n1} {d d' : Fin n2}
    (ha : a.val = a'.val) (hb : b.val = b'.val) (hd : d.val = d'.val) : f (ix3 a b d) = f (ix3 a' b' d') := by
  rw [Fin.ext ha, Fin.ext hb, Fin.ext hd]

variable {m c} (hf : Reals m c)
include hf
theorem blk_pt (t : Fin cfg0.N) (hji : t.val / 8 % 8 ≤ t.val % 8) :
    Blk (iblk m c 0 t) (iblk m c 1 t) (iblk m c 2 t) (iblk m c 3 t) (iblk m c 4 t) (iblk m c 5 t) (iblk m c 6 t) (iblk m c 7 t)
      (hd m c (t.val / 64)) (t.val % 8) (t.val / 8 % 8) where
  q0 a x := by
    have ht := pt_lt t
    rw [ib0 m c t a x (by omega) (by omega), V_v32, qnA_apply]
    exact (at3 (A0 m c) (by dsimp only; omega) (by dsimp only; omega) (by dsimp only; omega)).trans
      (qn_eq (x1 := A1 m c) (x2 := A2 m c) (x3 := A3 m c) (x4 := A4 m c) _ hf.h0 _ _ (by omega) x.isLt)
  q1 a x := by
    have ht := pt_lt t
    rw [ib1 m c t a x (by omega) (by omega), V_v36, qpA_apply]
    by_cases hx : (x : ℕ) < 64
    · rw [dif_pos (by dsimp only; omega), if_pos hx]
      exact (at3 (A0 m c) (by dsimp only; omega) (by dsimp only; omega) (by dsimp only; omega)).trans
        (qp_eq (x1 := A1 m c) (x2 := A2 m c) (x3 := A3 m c) (x4 := A4 m c) _ hf.h0 _ _ (by omega) hx)
    · rw [dif_neg (by dsimp only; omega), if_neg hx, zero_word, EReal.coe_zero]
  k0 a x := by
    have ht := pt_lt t
    rw [ib2 m c t a x (by omega) (by omega), V_v38, flA_apply]
    exact (at3 (A1 m c) (by dsimp only) (by dsimp only; omega) (by dsimp only; omega)).trans
      (kn_eq (x0 := A0 m c) (x2 := A2 m c) (x3 := A3 m c) (x4 := A4 m c) _ hf.h1 _ _ (by omega) x.isLt)
  k1 a x := by
    have ht := pt_lt t
    rw [ib3 m c t a x (by omega), V_v40, kpA_apply]
    by_cases hx : (x : ℕ) < 64
    · rw [dif_pos hx, if_pos hx]
      exact kp_eq (x0 := A0 m c) (x1 := A1 m c) (x3 := A3 m c) (x4 := A4 m c) _ hf.h2 _ _ (by omega) hx
    · rw [dif_neg hx, if_neg hx, zero_word, EReal.coe_zero]
  vv a x := by
    have ht := pt_lt t
    rw [ib4 m c t a x (by omega) (by omega), V_v42, flA_apply]
    exact (at3 (A3 m c) (by dsimp only) (by dsimp only; omega) (by dsimp only; omega)).trans
      (v_eq (x0 := A0 m c) (x1 := A1 m c) (x2 := A2 m c) (x4 := A4 m c) _ hf.h3 _ _ (by omega) x.isLt)
  gg a x := by
    have ht := pt_lt t
    rw [ib5 m c t a x (by omega) (by omega), V_v43, frA_apply]
    exact (at3 (A4 m c) (by dsimp only; omega) (by dsimp only; omega) (by dsimp only; omega)).trans
      (g_eq (x0 := A0 m c) (x1 := A1 m c) (x2 := A2 m c) (x3 := A3 m c) _ hf.h4 _ _ (by omega) x.isLt)
  ll a := by
    have ht := pt_lt t
    rw [ib6 m c t a (by omega) (by omega), V_v25]
    refine (at3 (lsA (mscA (A0 m c) (A1 m c) (A2 m c))) (a' := ⟨t.val / 64 % 16, by omega⟩) (b' := ⟨1024 * (t.val % 8) + a, by omega⟩) (d' := 0) (by dsimp only; omega) (by dsimp only; omega) rfl).trans ?_
    exact ls_eq (x3 := A3 m c) (x4 := A4 m c) hf.h0 hf.h1 hf.h2 _ _
  dd a := by
    have ht := pt_lt t
    rw [ib7 m c t a (by omega) (by omega), V_v29]
    refine (at3 (dlA (mscA (A0 m c) (A1 m c) (A2 m c)) (A3 m c) (A4 m c)) (a' := ⟨t.val / 64 % 16, by omega⟩) (b' := ⟨1024 * (t.val % 8) + a, by omega⟩) (d' := 0) (by dsimp only; omega) (by dsimp only; omega) rfl).trans ?_
    exact dl_eq hf.h0 hf.h1 hf.h2 hf.h3 hf.h4 _ _
  ss := scale_real.symm

theorem blk_at (h i j : ℕ) (hh : h < 16) (hi : i < 8) (hj : j < 8) (hji : j ≤ i) {n : ℕ} (hn : n = 64 * h + 8 * j + i) :
    Blk (iblk m c 0 (pt n)) (iblk m c 1 (pt n)) (iblk m c 2 (pt n)) (iblk m c 3 (pt n)) (iblk m c 4 (pt n)) (iblk m c 5 (pt n)) (iblk m c 6 (pt n)) (iblk m c 7 (pt n))
      (hd m c h) i j := by
  have e : (pt n).val = n := Nat.mod_eq_of_lt (by omega)
  have B := blk_pt hf (pt n) (by rw [e]; omega)
  rw [e, show n / 64 = h by omega, show n % 8 = i by omega, show n / 8 % 8 = j by omega] at B
  exact B

theorem dkS_val (h j : ℕ) (hh : h < 16) (hj : j < 8) (b : Fin 1024) (l : Fin 256) : ∀ n, n ≤ 8 → (dkS m c h j n : FVec Ideal S1024x256 .f32) (ix2 b l)
    = ((∑ i ∈ range n, ∑ x ∈ range 1024, (hd m c h).T (1024 * i + x) (1024 * j + b) * (hd m c h).qc (1024 * i + x) l : ℝ) : EReal)
  | 0, _ => by rw [Finset.range_zero, Finset.sum_empty, EReal.coe_zero]; exact pay1_apply b l
  | n + 1, hn => by
    rw [Finset.sum_range_succ]
    have ih := dkS_val h j hh hj b l n (by omega)
    show (sY m c (64 * h + 8 * j + n) (dkS m c h j n) : FVec Ideal S1024x256 .f32) (ix2 b l) = _
    unfold sY
    rw [show (64 * h + 8 * j + n) / 8 % 8 = j by omega, show (64 * h + 8 * j + n) % 8 = n by omega]
    exact Blk.stepY (fun hji => blk_at hf h n j hh (by omega) hj hji rfl) b l ih
theorem dvS_val (h j : ℕ) (hh : h < 16) (hj : j < 8) (b : Fin 1024) (l : Fin 128) : ∀ n, n ≤ 8 → (dvS m c h j n : FVec Ideal S1024x128 .f32) (ix2 b l)
    = ((∑ i ∈ range n, ∑ x ∈ range 1024, (hd m c h).P (1024 * i + x) (1024 * j + b) * (hd m c h).g (1024 * i + x) l : ℝ) : EReal)
  | 0, _ => by rw [Finset.range_zero, Finset.sum_empty, EReal.coe_zero]; exact pay2_apply b l
  | n + 1, hn => by
    rw [Finset.sum_range_succ]
    have ih := dvS_val h j hh hj b l n (by omega)
    show (sZ m c (64 * h + 8 * j + n) (dvS m c h j n) : FVec Ideal S1024x128 .f32) (ix2 b l) = _
    unfold sZ
    rw [show (64 * h + 8 * j + n) / 8 % 8 = j by omega, show (64 * h + 8 * j + n) % 8 = n by omega]
    exact Blk.stepZ (fun hji => blk_at hf h n j hh (by omega) hj hji rfl) b l ih
theorem dqS_val (h i : ℕ) (hh : h < 16) (hi : i < 8) (b : Fin 1024) (l : Fin 256) : ∀ n, n ≤ 8 → (dqS m c h i n : FVec Ideal S1024x256 .f32) (ix2 b l)
    = ((∑ j ∈ range n, ∑ x ∈ range 1024, (hd m c h).T (1024 * i + b) (1024 * j + x) * (hd m c h).kc (1024 * j + x) l : ℝ) : EReal)
  | 0, _ => by rw [Finset.range_zero, Finset.sum_empty, EReal.coe_zero]; exact pay3_apply b l
  | n + 1, hn => by
    rw [Finset.sum_range_succ]
    have ih := dqS_val h i hh hi b l n (by omega)
    show (sQ m c (64 * h + 8 * n + i) (dqS m c h i n) : FVec Ideal S1024x256 .f32) (ix2 b l) = _
    unfold sQ
    rw [show (64 * h + 8 * n + i) / 8 % 8 = n by omega, show (64 * h + 8 * n + i) % 8 = i by omega]
    exact Blk.stepQ (fun hji => blk_at hf h i n hh hi (by omega) hji rfl) b l ih

theorem dk_val (h j : ℕ) (hh : h < 16) (hj : j < 8) (b : Fin 1024) (l : Fin 256) :
    (dkS m c h j 8 : FVec Ideal S1024x256 .f32) (ix2 b l) = (((hd m c h).dk (1024 * j + b) l : ℝ) : EReal) := by
  rw [dkS_val hf h j hh hj b l 8 le_rfl]
  exact congrArg _ (sum_tiles 8 1024 fun r => (hd m c h).T r (1024 * j + b) * (hd m c h).qc r l)
theorem dv_val (h j : ℕ) (hh : h < 16) (hj : j < 8) (b : Fin 1024) (l : Fin 128) :
    (dvS m c h j 8 : FVec Ideal S1024x128 .f32) (ix2 b l) = (((hd m c h).dv (1024 * j + b) l : ℝ) : EReal) := by
  rw [dvS_val hf h j hh hj b l 8 le_rfl]
  exact congrArg _ (sum_tiles 8 1024 fun r => (hd m c h).P r (1024 * j + b) * (hd m c h).g r l)
theorem dq_val (h i : ℕ) (hh : h < 16) (hi : i < 8) (b : Fin 1024) (l : Fin 256) :
    (dqS m c h i 8 : FVec Ideal S1024x256 .f32) (ix2 b l) = (((hd m c h).dq (1024 * i + b) l : ℝ) : EReal) := by
  rw [dqS_val hf h i hh hi b l 8 le_rfl]
  exact congrArg _ (sum_tiles 8 1024 fun k => (hd m c h).T (1024 * i + b) k * (hd m c h).kc k l)

omit hf
theorem halfL_apply (Y : FVec Ideal S1024x256 .f32) (a : Fin 1024) (l : Fin 128) : halfL (F := Ideal) Y (ix2 a l) = Y (ix2 a ⟨l, by omega⟩) := by
  show Y _ = Y _
  refine congrArg Y (funext fun i => Fin.ext ?_)
  fin_cases i
  · first | (show 0 + a.val * 1 = a.val; omega) | (show 0 + 1 * a.val = a.val; omega)
  · first | (show 0 + l.val * 1 = l.val; omega) | (show 0 + 1 * l.val = l.val; omega)
theorem halfR_apply (Y : FVec Ideal S1024x256 .f32) (a : Fin 1024) (l : Fin 128) : halfR (F := Ideal) Y (ix2 a l) = Y (ix2 a ⟨128 + l, by omega⟩) := by
  show Y _ = Y _
  refine congrArg Y (funext fun i => Fin.ext ?_)
  fin_cases i
  · first | (show 0 + a.val * 1 = a.val; omega) | (show 0 + 1 * a.val = a.val; omega)
  · first | (show 128 + l.val * 1 = 128 + l.val; omega) | (show 128 + 1 * l.val = 128 + l.val; omega)
end Cert.Proof.Attn
-- ==== Proof.AttnFin.lean ====
module
public import proofs.«01_k».proof.Proof.AttnVal
@[expose] public section
set_option maxRecDepth 16384
noncomputable section
/-! The attention kernel's five results. -/
namespace Cert.Proof.Attn
open Cert.KernelIdeal Cert.KernelIdeal.Gen
open Idealize.ShloMosaic Idealize.ShloMosaic.TcCoe
variable (m : (ℓ : Loc nD τ sig) → Buf (Elt Ideal) ℓ) (c : Dev nD)
/-- The gradient of the plain query lanes. -/
def dqR : FVec Ideal S8192x2048 .f32 := fun i => (((hd m c ((i 1).val / 128)).dq (i 0).val ((i 1).val % 128) : ℝ) : EReal)
/-- The gradient of the rotated query lanes. -/
def dqpR : FVec Ideal S8192x2048 .f32 := fun i => (((hd m c ((i 1).val / 128)).dq (i 0).val (128 + (i 1).val % 128) : ℝ) : EReal)
/-- The gradient of the plain key lanes. -/
def dkR : FVec Ideal S8192x2048 .f32 := fun i => (((hd m c ((i 1).val / 128)).dk (i 0).val ((i 1).val % 128) : ℝ) : EReal)
/-- The gradient of the rotated key lanes. -/
def dkpR : FVec Ideal S8192x2048 .f32 := fun i => (((hd m c ((i 1).val / 128)).dk (i 0).val (128 + (i 1).val % 128) : ℝ) : EReal)
/-- The gradient of the value lanes. -/
def dvR : FVec Ideal S8192x2048 .f32 := fun i => (((hd m c ((i 1).val / 128)).dv (i 0).val ((i 1).val % 128) : ℝ) : EReal)
variable {m c} (hf : Reals m c)
include hf
theorem fin8 : (dats m 0 c).arrAt 8 cfg0.N = dqR m c := by
  refine (dats m 0 c).arrAt_eq_of_covers 8 _ (by decide +kernel) fun t hfl y => ?_
  have ht := pt_lt t
  have hl : t.val / 8 % 8 = 7 := by
    by_contra hn
    rw [noflush_8 t hn] at hfl
    exact absurd hfl (by decide)
  have e0 : ((win0_8.blk t).view.emb y 0).val = 1024 * (t.val % 8) + (y 0).val := by
    blk_simp [idx_out t]
    first | omega | (rw [if_pos hl]; omega)
  have e1 : ((win0_8.blk t).view.emb y 1).val = 128 * (t.val / 64) + (y 1).val := by
    blk_simp [idx_out t]
    omega
  blk_simp
  rw [after_8]
  obtain ⟨a, l, rfl⟩ : ∃ (a : Fin 1024) (l : Fin 128), y = ix2 a l := ⟨y 0, y 1, by funext i; fin_cases i <;> rfl⟩
  rw [halfL_apply, dq_val hf _ _ (by omega) (by omega)]
  show _ = (((hd m c (((win0_8.blk t).view.emb (ix2 a l) 1).val / 128)).dq ((win0_8.blk t).view.emb (ix2 a l) 0).val (((win0_8.blk t).view.emb (ix2 a l) 1).val % 128) : ℝ) : EReal)
  rw [e0, e1]
  have z1 : (128 * (t.val / 64) + ((ix2 a l : S1024x128.Idx) 1).val) / 128 = t.val / 64 := by show (128 * (t.val / 64) + l.val) / 128 = _; omega
  have z2 : (128 * (t.val / 64) + ((ix2 a l : S1024x128.Idx) 1).val) % 128 = l.val := by show (128 * (t.val / 64) + l.val) % 128 = _; omega
  rw [z1, z2]
  rfl
theorem fin9 : (dats m 0 c).arrAt 9 cfg0.N = dqpR m c := by
  refine (dats m 0 c).arrAt_eq_of_covers 9 _ (by decide +kernel) fun t hfl y => ?_
  have ht := pt_lt t
  have hl : t.val / 8 % 8 = 7 := by
    by_contra hn
    rw [noflush_9 t hn] at hfl
    exact absurd hfl (by decide)
  have e0 : ((win0_9.blk t).view.emb y 0).val = 1024 * (t.val % 8) + (y 0).val := by
    blk_simp [idx_out t]
    first | omega | (rw [if_pos hl]; omega)
  have e1 : ((win0_9.blk t).view.emb y 1).val = 128 * (t.val / 64) + (y 1).val := by
    blk_simp [idx_out t]
    omega
  blk_simp
  rw [after_9]
  obtain ⟨a, l, rfl⟩ : ∃ (a : Fin 1024) (l : Fin 128), y = ix2 a l := ⟨y 0, y 1, by funext i; fin_cases i <;> rfl⟩
  rw [halfR_apply, dq_val hf _ _ (by omega) (by omega)]
  show _ = (((hd m c (((win0_9.blk t).view.emb (ix2 a l) 1).val / 128)).dq ((win0_9.blk t).view.emb (ix2 a l) 0).val (128 + ((win0_9.blk t).view.emb (ix2 a l) 1).val % 128) : ℝ) : EReal)
  rw [e0, e1]
  have z1 : (128 * (t.val / 64) + ((ix2 a l : S1024x128.Idx) 1).val) / 128 = t.val / 64 := by show (128 * (t.val / 64) + l.val) / 128 = _; omega
  have z2 : (128 * (t.val / 64) + ((ix2 a l : S1024x128.Idx) 1).val) % 128 = l.val := by show (128 * (t.val / 64) + l.val) % 128 = _; omega
  rw [z1, z2]
  rfl
theorem fin10 : (dats m 0 c).arrAt 10 cfg0.N = dkR m c := by
  refine (dats m 0 c).arrAt_eq_of_covers 10 _ (by decide +kernel) fun t hfl y => ?_
  have ht := pt_lt t
  have hl : t.val % 8 = 7 := by
    by_contra hn
    rw [noflush_10 t hn] at hfl
    exact absurd hfl (by decide)
  have e0 : ((win0_10.blk t).view.emb y 0).val = 1024 * (t.val / 8 % 8) + (y 0).val := by
    blk_simp [idx_out t]
    first | omega | (rw [if_pos hl]; omega)
  have e1 : ((win0_10.blk t).view.emb y 1).val = 128 * (t.val / 64) + (y 1).val := by
    blk_simp [idx_out t]
    omega
  blk_simp
  rw [after_10]
  obtain ⟨a, l, rfl⟩ : ∃ (a : Fin 1024) (l : Fin 128), y = ix2 a l := ⟨y 0, y 1, by funext i; fin_cases i <;> rfl⟩
  rw [halfL_apply, dk_val hf _ _ (by omega) (by omega)]
  show _ = (((hd m c (((win0_10.blk t).view.emb (ix2 a l) 1).val / 128)).dk ((win0_10.blk t).view.emb (ix2 a l) 0).val (((win0_10.blk t).view.emb (ix2 a l) 1).val % 128) : ℝ) : EReal)
  rw [e0, e1]
  have z1 : (128 * (t.val / 64) + ((ix2 a l : S1024x128.Idx) 1).val) / 128 = t.val / 64 := by show (128 * (t.val / 64) + l.val) / 128 = _; omega
  have z2 : (128 * (t.val / 64) + ((ix2 a l : S1024x128.Idx) 1).val) % 128 = l.val := by show (128 * (t.val / 64) + l.val) % 128 = _; omega
  rw [z1, z2]
  rfl
theorem fin11 : (dats m 0 c).arrAt 11 cfg0.N = dkpR m c := by
  refine (dats m 0 c).arrAt_eq_of_covers 11 _ (by decide +kernel) fun t hfl y => ?_
  have ht := pt_lt t
  have hl : t.val % 8 = 7 := by
    by_contra hn
    rw [noflush_11 t hn] at hfl
    exact absurd hfl (by decide)
  have e0 : ((win0_11.blk t).view.emb y 0).val = 1024 * (t.val / 8 % 8) + (y 0).val := by
    blk_simp [idx_out t]
    first | omega | (rw [if_pos hl]; omega)
  have e1 : ((win0_11.blk t).view.emb y 1).val = 128 * (t.val / 64) + (y 1).val := by
    blk_simp [idx_out t]
    omega
  blk_simp
  rw [after_11]
  obtain ⟨a, l, rfl⟩ : ∃ (a : Fin 1024) (l : Fin 128), y = ix2 a l := ⟨y 0, y 1, by funext i; fin_cases i <;> rfl⟩
  rw [halfR_apply, dk_val hf _ _ (by omega) (by omega)]
  show _ = (((hd m c (((win0_11.blk t).view.emb (ix2 a l) 1).val / 128)).dk ((win0_11.blk t).view.emb (ix2 a l) 0).val (128 + ((win0_11.blk t).view.emb (ix2 a l) 1).val % 128) : ℝ) : EReal)
  rw [e0, e1]
  have z1 : (128 * (t.val / 64) + ((ix2 a l : S1024x128.Idx) 1).val) / 128 = t.val / 64 := by show (128 * (t.val / 64) + l.val) / 128 = _; omega
  have z2 : (128 * (t.val / 64) + ((ix2 a l : S1024x128.Idx) 1).val) % 128 = l.val := by show (128 * (t.val / 64) + l.val) % 128 = _; omega
  rw [z1, z2]
  rfl
theorem fin12 : (dats m 0 c).arrAt 12 cfg0.N = dvR m c := by
  refine (dats m 0 c).arrAt_eq_of_covers 12 _ (by decide +kernel) fun t hfl y => ?_
  have ht := pt_lt t
  have hl : t.val % 8 = 7 := by
    by_contra hn
    rw [noflush_12 t hn] at hfl
    exact absurd hfl (by decide)
  have e0 : ((win0_12.blk t).view.emb y 0).val = 1024 * (t.val / 8 % 8) + (y 0).val := by
    blk_simp [idx_out t]
    first | omega | (rw [if_pos hl]; omega)
  have e1 : ((win0_12.blk t).view.emb y 1).val = 128 * (t.val / 64) + (y 1).val := by
    blk_simp [idx_out t]
    omega
  blk_simp
  rw [after_12]
  obtain ⟨a, l, rfl⟩ : ∃ (a : Fin 1024) (l : Fin 128), y = ix2 a l := ⟨y 0, y 1, by funext i; fin_cases i <;> rfl⟩
  rw [dv_val hf _ _ (by omega) (by omega)]
  show _ = (((hd m c (((win0_12.blk t).view.emb (ix2 a l) 1).val / 128)).dv ((win0_12.blk t).view.emb (ix2 a l) 0).val (((win0_12.blk t).view.emb (ix2 a l) 1).val % 128) : ℝ) : EReal)
  rw [e0, e1]
  have z1 : (128 * (t.val / 64) + ((ix2 a l : S1024x128.Idx) 1).val) / 128 = t.val / 64 := by show (128 * (t.val / 64) + l.val) / 128 = _; omega
  have z2 : (128 * (t.val / 64) + ((ix2 a l : S1024x128.Idx) 1).val) % 128 = l.val := by show (128 * (t.val / 64) + l.val) % 128 = _; omega
  rw [z1, z2]
  rfl
end Cert.Proof.Attn
-- ==== Proof.AttnRef.lean ====
module
public import proofs.«01_k».proof.Proof.AttnReal
public import proofs.«01_k».proof.Proof.Gen.ReferenceIdeal.Read
@[expose] public section
set_option maxRecDepth 16384
noncomputable section
/-! The stages of the reference, read entry by entry. -/
namespace Cert.Proof.Attn
open Cert.ReferenceIdeal Cert.ReferenceIdeal.Gen Cert.ReferenceIdeal.Read
open Idealize.ShloMosaic Idealize.ShloMosaic.TcCoe
section
variable (x0 : FVec Ideal S8192x16x192 .f32) (x1 : FVec Ideal S8192x16x128 .f32) (x2 : FVec Ideal S8192x64 .f32)
  (x3 x4 : FVec Ideal S8192x16x128 .f32) (h : Fin 16) (r k : Fin 8192)
theorem r12_1 : (val_main_v12_1 (F := Ideal) : IVec S16x8192x8192 1) (ix3 h r k) = IntOp.cmpi CmpIPredicate.sge (BitVec.ofNat 32 r) (BitVec.ofNat 32 k) := by
  pointwise [val_main_v12_1, val_main_v11, val_main_v10, val_main_v9, val_main_v8, val_main_v7, val_main_v6]
theorem r5 : (val_main_v5 (F := Ideal) x0 x1 x2 : FVec Ideal S16x8192x8192 .f32) (ix3 h r k) =
    (∑ x : Fin 128, x0 (ix3 r h ⟨x, by omega⟩) * x1 (ix3 k h x) + ∑ x : Fin 64, x0 (ix3 r h ⟨128 + x, by omega⟩) * x2 (ix2 k x)) * Ideal.ofBits FTy.f32 0x3D93CD3A#32 := by
  pointwise [val_main_v5, val_main_v4, val_main_v3, val_main_v2, val_main_v1, val_main_v0, val_main_cst]
theorem r12_0 : (val_main_v12_0 (F := Ideal) x0 x1 x2 : FVec Ideal S16x8192x8192 .f32) (ix3 h r k) =
    Scalar.select ((val_main_v12_1 (F := Ideal) : IVec S16x8192x8192 1) (ix3 h r k)) ((val_main_v5 (F := Ideal) x0 x1 x2 : FVec Ideal S16x8192x8192 .f32) (ix3 h r k)) (Ideal.ofBits FTy.f32 0xFF800000#32) := by
  pointwise [val_main_v12_0, val_main_call0_v2, val_main_call0_v0, val_main_cst_0]
  rfl
theorem maxBot (b : FVec Ideal S16x8192 .f32) : (maximumf (val_main_v19 (F := Ideal)) b : FVec Ideal S16x8192 .f32) (ix2 h r) = max (Ideal.ofBits FTy.f32 0xFF800000#32) (b (ix2 h r)) := by
  pointwise [val_main_v19, val_main_cst_3]
theorem foldMax (X : FVec Ideal S16x8192x8192 .f32) : (Host.reduce FloatOps.maximumf X (val_main_cst_1 (F := Ideal)) reducesTo_S16x8192x8192_S16x8192_d2 h_S_ : FVec Ideal S16x8192 .f32) (ix2 h r) =
    Finset.fold max (Ideal.ofBits FTy.f32 0xFF800000#32) (fun x => X (ix3 h r x)) Finset.univ := by
  pointwise [val_main_cst_1]
theorem r20 : (val_main_v20 (F := Ideal) x0 x1 x2 : FVec Ideal S16x8192 .f32) (ix2 h r) =
    max (Ideal.ofBits FTy.f32 0xFF800000#32) (Finset.fold max (Ideal.ofBits FTy.f32 0xFF800000#32) (fun x => (val_main_v12_0 (F := Ideal) x0 x1 x2 : FVec Ideal S16x8192x8192 .f32) (ix3 h r x)) Finset.univ) := by
  unfold val_main_v20
  rw [maxBot]
  unfold val_main_v13
  rw [foldMax]
theorem r33 : (val_main_v33 (F := Ideal) x0 x1 x2 : FVec Ideal S16x8192x8192 .f32) (ix3 h r k) =
    Ideal.exp ((val_main_v12_0 (F := Ideal) x0 x1 x2 : FVec Ideal S16x8192x8192 .f32) (ix3 h r k) - (val_main_v20 (F := Ideal) x0 x1 x2 : FVec Ideal S16x8192 .f32) (ix2 h r)) := by
  pointwise [val_main_v33, val_main_v32, val_main_v31, val_main_v30]
theorem r34 : (val_main_v34 (F := Ideal) x0 x1 x2 : FVec Ideal S16x8192 .f32) (ix2 h r) = ∑ k, (val_main_v33 (F := Ideal) x0 x1 x2 : FVec Ideal S16x8192x8192 .f32) (ix3 h r k) := by
  pointwise [val_main_v34, val_main_cst_9]
theorem r37 : (val_main_v37 (F := Ideal) x0 x1 x2 : FVec Ideal S16x8192x8192 .f32) (ix3 h r k) =
    Ideal.div ((val_main_v33 (F := Ideal) x0 x1 x2 : FVec Ideal S16x8192x8192 .f32) (ix3 h r k)) ((val_main_v34 (F := Ideal) x0 x1 x2 : FVec Ideal S16x8192 .f32) (ix2 h r)) := by
  pointwise [val_main_v37, val_main_v36, val_main_v35]
theorem r40 : (val_main_v40 (F := Ideal) x0 x1 x2 : FVec Ideal S16x8192x1 .f32) (ix3 h r 0) =
    Ideal.div (Ideal.ofBits FTy.f32 0x3F800000#32) ((val_main_v34 (F := Ideal) x0 x1 x2 : FVec Ideal S16x8192 .f32) (ix2 h r) * (val_main_v34 (F := Ideal) x0 x1 x2 : FVec Ideal S16x8192 .f32) (ix2 h r)) := by
  pointwise [val_main_v40, val_main_v39, val_main_v38, val_main_v35, val_main_cst_10]
theorem r44 : (val_main_v44 (F := Ideal) x3 x4 : FVec Ideal S16x8192x8192 .f32) (ix3 h r k) = ∑ d : Fin 128, x4 (ix3 r h d) * x3 (ix3 k h d) := by
  pointwise [val_main_v44, val_main_v43]
theorem r46 (d : Fin 128) : (val_main_v46 (F := Ideal) x0 x1 x2 x4 : FVec Ideal S8192x16x128 .f32) (ix3 k h d) =
    ∑ r : Fin 8192, x4 (ix3 r h d) * (val_main_v37 (F := Ideal) x0 x1 x2 : FVec Ideal S16x8192x8192 .f32) (ix3 h r k) := by
  pointwise [val_main_v46, val_main_v45, val_main_v43]
theorem r50 : (val_main_v50 (F := Ideal) x0 x1 x2 x3 x4 : FVec Ideal S16x8192 .f32) (ix2 h r) =
    ∑ k, (val_main_v44 (F := Ideal) x3 x4 : FVec Ideal S16x8192x8192 .f32) (ix3 h r k) * (val_main_v40 (F := Ideal) x0 x1 x2 : FVec Ideal S16x8192x1 .f32) (ix3 h r 0)
      * (val_main_v33 (F := Ideal) x0 x1 x2 : FVec Ideal S16x8192x8192 .f32) (ix3 h r k) := by
  pointwise [val_main_v50, val_main_v49, val_main_v48, val_main_v47, val_main_cst_11]
theorem r55 : (val_main_v55 (F := Ideal) x0 x1 x2 x3 x4 : FVec Ideal S16x8192 .f32) (ix2 h r) = -(val_main_v50 (F := Ideal) x0 x1 x2 x3 x4 : FVec Ideal S16x8192 .f32) (ix2 h r) := by
  pointwise [val_main_v55, val_main_v52, val_main_v51, val_main_cst_12]
  exact Fintype.sum_unique _
theorem r58 : (val_main_v58 (F := Ideal) x0 x1 x2 x3 x4 : FVec Ideal S16x8192x8192 .f32) (ix3 h r k) =
    (Ideal.div ((val_main_v44 (F := Ideal) x3 x4 : FVec Ideal S16x8192x8192 .f32) (ix3 h r k)) ((val_main_v34 (F := Ideal) x0 x1 x2 : FVec Ideal S16x8192 .f32) (ix2 h r))
      + (val_main_v55 (F := Ideal) x0 x1 x2 x3 x4 : FVec Ideal S16x8192 .f32) (ix2 h r)) * (val_main_v33 (F := Ideal) x0 x1 x2 : FVec Ideal S16x8192x8192 .f32) (ix3 h r k) := by
  pointwise [val_main_v58, val_main_v57, val_main_v56, val_main_v54, val_main_v53, val_main_v35]
theorem r61 : (val_main_v61 (F := Ideal) x0 x1 x2 x3 x4 : FVec Ideal S16x8192x8192 .f32) (ix3 h r k) =
    Scalar.select ((val_main_v12_1 (F := Ideal) : IVec S16x8192x8192 1) (ix3 h r k)) ((val_main_v58 (F := Ideal) x0 x1 x2 x3 x4 : FVec Ideal S16x8192x8192 .f32) (ix3 h r k))
      (Ideal.ofBits FTy.f32 0x00000000#32) * Ideal.ofBits FTy.f32 0x3D93CD3A#32 := by
  pointwise [val_main_v61, val_main_v60, val_main_v59, val_main_call1_v0, val_main_call1_cst, val_main_cst_13]
theorem r63 (l : Fin 192) : (val_main_v63 (F := Ideal) x0 x1 x2 x3 x4 : FVec Ideal S8192x16x192 .f32) (ix3 k h l) =
    ∑ r, (val_main_v61 (F := Ideal) x0 x1 x2 x3 x4 : FVec Ideal S16x8192x8192 .f32) (ix3 h r k) * x0 (ix3 r h l) := by
  pointwise [val_main_v63, val_main_v62]
theorem r2 (l : Fin 192) : (val_main_v2 (F := Ideal) x1 x2 : FVec Ideal S8192x16x192 .f32) (ix3 k h l) =
    if hl : (l : ℕ) < 128 then x1 (ix3 k h ⟨l, hl⟩) else x2 (ix2 k ⟨l - 128, by omega⟩) := by
  pointwise [val_main_v2, val_main_v1, val_main_v0]
theorem r65 (l : Fin 192) : (val_main_v65 (F := Ideal) x0 x1 x2 x3 x4 : FVec Ideal S8192x16x192 .f32) (ix3 r h l) =
    ∑ k, (val_main_v61 (F := Ideal) x0 x1 x2 x3 x4 : FVec Ideal S16x8192x8192 .f32) (ix3 h r k) * (val_main_v2 (F := Ideal) x1 x2 : FVec Ideal S8192x16x192 .f32) (ix3 k h l) := by
  pointwise [val_main_v65, val_main_v64]
theorem r69 (l : Fin 2048) : (val_main_v69 (F := Ideal) x0 x1 x2 x3 x4 : FVec Ideal S8192x2048 .f32) (ix2 r l) =
    (val_main_v65 (F := Ideal) x0 x1 x2 x3 x4 : FVec Ideal S8192x16x192 .f32) (ix3 r ⟨l / 128, by omega⟩ ⟨l % 128, by omega⟩) := by
  pointwise [val_main_v69, val_main_v68]
theorem r73 (l : Fin 2048) : (val_main_v73 (F := Ideal) x0 x1 x2 x3 x4 : FVec Ideal S8192x2048 .f32) (ix2 r l) =
    (val_main_v63 (F := Ideal) x0 x1 x2 x3 x4 : FVec Ideal S8192x16x192 .f32) (ix3 r ⟨l / 128, by omega⟩ ⟨l % 128, by omega⟩) := by
  pointwise [val_main_v73, val_main_v66]
theorem r76 (l : Fin 2048) : (val_main_v76 (F := Ideal) x0 x1 x2 x4 : FVec Ideal S8192x2048 .f32) (ix2 r l) =
    (val_main_v46 (F := Ideal) x0 x1 x2 x4 : FVec Ideal S8192x16x128 .f32) (ix3 r ⟨l / 128, by omega⟩ ⟨l % 128, by omega⟩) := by
  pointwise [val_main_v76]
theorem r72 (l : Fin 2048) : (val_main_v72 (F := Ideal) x0 x1 x2 x3 x4 : FVec Ideal S8192x2048 .f32) (ix2 r l) =
    if hl : (l : ℕ) / 128 < 16 ∧ (l : ℕ) % 128 < 64 then (val_main_v65 (F := Ideal) x0 x1 x2 x3 x4 : FVec Ideal S8192x16x192 .f32) (ix3 r ⟨l / 128, by omega⟩ ⟨128 + l % 128, by omega⟩)
    else FloatOps.sitofp (F := Ideal) FTy.f32 (0#32 : BitVec 32) := by
  pointwise [val_main_v72, val_main_v71, val_main_v70, val_main_call2_v0, val_main_c]
theorem r75 (l : Fin 2048) : (val_main_v75 (F := Ideal) x0 x1 x2 x3 x4 : FVec Ideal S8192x2048 .f32) (ix2 r l) =
    if hl : (l : ℕ) / 128 < 16 ∧ (l : ℕ) % 128 < 64 then (val_main_v63 (F := Ideal) x0 x1 x2 x3 x4 : FVec Ideal S8192x16x192 .f32) (ix3 r ⟨l / 128, by omega⟩ ⟨128 + l % 128, by omega⟩)
    else FloatOps.sitofp (F := Ideal) FTy.f32 (0#32 : BitVec 32) := by
  pointwise [val_main_v75, val_main_v74, val_main_v67, val_main_call3_v0, val_main_c_14]
end
end Cert.Proof.Attn
-- ==== Proof.AttnRefVal.lean ====
module
public import proofs.«01_k».proof.Proof.AttnRef
@[expose] public section
set_option maxRecDepth 16384
noncomputable section
/-! The reference's results, in the numbers of each head. -/
namespace Cert.Proof.Attn
open Cert.ReferenceIdeal Cert.ReferenceIdeal.Gen Cert.ReferenceIdeal.Read
open Idealize.ShloMosaic Idealize.ShloMosaic.TcCoe
open Finset
theorem one_word : Ideal.ofBits FTy.f32 0x3F800000#32 = ((1 : ℝ) : EReal) := by
  rw [Ideal.ofBits_one_f32]; rfl
theorem zero_bits : Ideal.ofBits FTy.f32 0x00000000#32 = ((0 : ℝ) : EReal) := by
  rw [Ideal.ofBits_zero]; rfl
/-- The gradient through a quotient of exponentials, simplified. -/
theorem softmax_alg (H : Head) (r k : ℕ) (e : ℝ) (he : e ≠ 0) :
    (H.dP r k / (H.Z r * e) + -∑ x ∈ range 8192, H.dP r x * (1 / ((H.Z r * e) * (H.Z r * e))) * (H.W r x * e)) * (H.W r k * e) = H.P r k * (H.dP r k - H.D r) := by
  have hz := (H.Z_pos r).ne'
  have hD : ∑ x ∈ range 8192, H.dP r x * (1 / ((H.Z r * e) * (H.Z r * e))) * (H.W r x * e) = H.D r * (1 / (H.Z r * e)) := by
    unfold Head.D Head.P
    rw [Finset.sum_mul]
    exact Finset.sum_congr rfl fun x _ => by field_simp
  rw [hD]
  unfold Head.P
  field_simp
  ring
section
variable {x0 : FVec Ideal S8192x16x192 .f32} {x1 : FVec Ideal S8192x16x128 .f32} {x2 : FVec Ideal S8192x64 .f32}
  {x3 x4 : FVec Ideal S8192x16x128 .f32} (h0 : AllReal x0) (h1 : AllReal x1) (h2 : AllReal x2) (h3 : AllReal x3) (h4 : AllReal x4) (h : Fin 16)
local notation "HH" => headOf x0 x1 x2 x3 x4 h
include h0 h1 h2
variable (x3 x4) in
theorem e12 (r k : Fin 8192) : (val_main_v12_0 (F := Ideal) x0 x1 x2 : FVec Ideal S16x8192x8192 .f32) (ix3 h r k) = if (k : ℕ) ≤ r then (((HH).S r k : ℝ) : EReal) else ⊥ := by
  rw [r12_0, r12_1, select_sge _ _ r.2 k.2, r5, sc_eq x3 x4 h h0 h1 h2]
  exact if_congr Iff.rfl rfl minus_inf
theorem e20 (r : Fin 8192) : ∃ M : ℝ, (val_main_v20 (F := Ideal) x0 x1 x2 : FVec Ideal S16x8192 .f32) (ix2 h r) = (M : EReal) := by
  rw [r20, minus_inf]
  obtain ⟨M, hM⟩ := row_max (headOf x0 x1 x2 (fun _ => (0 : EReal)) (fun _ => (0 : EReal)) h) r _ fun k => e12 _ _ h0 h1 h2 h r k
  exact ⟨M, by rw [hM]; exact max_eq_right bot_le⟩
include h3 h4
theorem e44 (r k : Fin 8192) : (val_main_v44 (F := Ideal) x3 x4 : FVec Ideal S16x8192x8192 .f32) (ix3 h r k) = (((HH).dP r k : ℝ) : EReal) := by
  rw [r44]
  unfold Head.dP
  rw [← sum_fin]
  exact Finset.sum_congr rfl fun d _ => by
    rw [EReal.coe_mul]; exact congrArg₂ _ (g_eq h h4 r d r.2 d.2) (v_eq h h3 k d k.2 d.2)
omit h3 h4 in
theorem e37 (r k : Fin 8192) : (val_main_v37 (F := Ideal) x0 x1 x2 : FVec Ideal S16x8192x8192 .f32) (ix3 h r k) = (((HH).P r k : ℝ) : EReal) := by
  obtain ⟨M, hM⟩ := e20 h0 h1 h2 h r
  rw [r37, r34]
  simp only [r33]
  rw [hM, row_sum (HH) r _ (fun k => e12 x3 x4 h0 h1 h2 h r k) M, row_exp (HH) r _ (fun k => e12 x3 x4 h0 h1 h2 h r k) M k, row_div]
theorem e61 (r k : Fin 8192) : (val_main_v61 (F := Ideal) x0 x1 x2 x3 x4 : FVec Ideal S16x8192x8192 .f32) (ix3 h r k) = (((HH).T r k : ℝ) : EReal) := by
  rw [r61, r12_1, select_sge _ _ r.2 k.2]
  by_cases hk : (k : ℕ) ≤ r
  · obtain ⟨M, hM⟩ := e20 h0 h1 h2 h r
    have ew : ∀ x : Fin 8192, (val_main_v33 (F := Ideal) x0 x1 x2 : FVec Ideal S16x8192x8192 .f32) (ix3 h r x) = (((HH).W r x * Real.exp (-M) : ℝ) : EReal) := fun x => by
      rw [r33, hM]; exact row_exp (HH) r _ (fun k => e12 x3 x4 h0 h1 h2 h r k) M x
    have ez : (val_main_v34 (F := Ideal) x0 x1 x2 : FVec Ideal S16x8192 .f32) (ix2 h r) = (((HH).Z r * Real.exp (-M) : ℝ) : EReal) := by
      rw [r34]; simp only [r33]; rw [hM]; exact row_sum (HH) r _ (fun k => e12 x3 x4 h0 h1 h2 h r k) M
    have hz : (HH).Z r * Real.exp (-M) ≠ 0 := (mul_pos ((HH).Z_pos r) (Real.exp_pos _)).ne'
    have e50 : (val_main_v50 (F := Ideal) x0 x1 x2 x3 x4 : FVec Ideal S16x8192 .f32) (ix2 h r) =
        ((∑ x ∈ range 8192, (HH).dP r x * (1 / (((HH).Z r * Real.exp (-M)) * ((HH).Z r * Real.exp (-M)))) * ((HH).W r x * Real.exp (-M)) : ℝ) : EReal) := by
      rw [r50, r40, ez, one_word, ← EReal.coe_mul, div_real _ _ (mul_ne_zero hz hz), ← sum_fin]
      exact Finset.sum_congr rfl fun x _ => by rw [e44 h0 h1 h2 h3 h4 h r x, ew, ← EReal.coe_mul, ← EReal.coe_mul]
    rw [if_pos hk, r58, r55, e50, ez, ew, e44 h0 h1 h2 h3 h4 h r k, div_real _ _ hz, ← EReal.coe_neg, ← EReal.coe_add, ← EReal.coe_mul,
      softmax_alg (HH) r k _ (Real.exp_pos _).ne']
    unfold Head.T
    rw [EReal.coe_mul _ (HH).s]
    exact congrArg _ scale_real.symm
  · rw [if_neg hk, (HH).T_above (by omega), zero_bits, EReal.coe_zero, zero_mul]
omit h1 h2 h3 h4 in
theorem eq192 (r : Fin 8192) (l : Fin 192) : x0 (ix3 r h l) = (((HH).qc r l : ℝ) : EReal) := by
  unfold Head.qc
  split
  · next hl => exact qn_eq h h0 r l r.2 hl
  · next hl =>
    rw [if_pos (by omega)]
    refine Eq.trans ?_ (qp_eq h h0 r (l - 128) r.2 (by omega))
    exact congrArg (fun z => x0 (ix3 r h z)) (Fin.ext (by dsimp only; omega))
omit h0 h3 h4 in
theorem ek192 (k : Fin 8192) (l : Fin 192) : (val_main_v2 (F := Ideal) x1 x2 : FVec Ideal S8192x16x192 .f32) (ix3 k h l) = (((HH).kc k l : ℝ) : EReal) := by
  rw [r2]
  unfold Head.kc
  split
  · next hl => exact kn_eq h h1 k l k.2 hl
  · next hl =>
    rw [if_pos (by omega)]
    exact kp_eq h h2 k (l - 128) k.2 (by omega)
theorem e63 (k : Fin 8192) (l : Fin 192) : (val_main_v63 (F := Ideal) x0 x1 x2 x3 x4 : FVec Ideal S8192x16x192 .f32) (ix3 k h l) = (((HH).dk k l : ℝ) : EReal) := by
  rw [r63]; unfold Head.dk; rw [← sum_fin]
  exact Finset.sum_congr rfl fun r _ => by rw [e61 h0 h1 h2 h3 h4 h r k, eq192 h0 h r l, EReal.coe_mul]
theorem e65 (r : Fin 8192) (l : Fin 192) : (val_main_v65 (F := Ideal) x0 x1 x2 x3 x4 : FVec Ideal S8192x16x192 .f32) (ix3 r h l) = (((HH).dq r l : ℝ) : EReal) := by
  rw [r65]; unfold Head.dq; rw [← sum_fin]
  exact Finset.sum_congr rfl fun k _ => by rw [e61 h0 h1 h2 h3 h4 h r k, ek192 h1 h2 h k l, EReal.coe_mul]
omit h3 in
theorem e46 (k : Fin 8192) (d : Fin 128) : (val_main_v46 (F := Ideal) x0 x1 x2 x4 : FVec Ideal S8192x16x128 .f32) (ix3 k h d) = (((HH).dv k d : ℝ) : EReal) := by
  rw [r46]; unfold Head.dv; rw [← sum_fin]
  exact Finset.sum_congr rfl fun r _ => by rw [e37 h0 h1 h2 h r k, mul_comm, EReal.coe_mul]; exact congrArg _ (g_eq h h4 r d r.2 d.2)
end
theorem dk_zero (H : Head) (k x : ℕ) (hx : 192 ≤ x) : H.dk k x = 0 := by
  unfold Head.dk Head.qc
  simp [show ¬x < 128 by omega, show ¬x - 128 < 64 by omega]
theorem dq_zero (H : Head) (r x : ℕ) (hx : 192 ≤ x) : H.dq r x = 0 := by
  unfold Head.dq Head.kc
  simp [show ¬x < 128 by omega, show ¬x - 128 < 64 by omega]
end Cert.Proof.Attn
-- ==== Proof.AttnClaim.lean ====
module
public import proofs.«01_k».proof.Defs
public import proofs.«01_k».proof.Proof.AttnFin
public import proofs.«01_k».proof.Proof.AttnRefVal
public import proofs.«01_k».proof.Proof.Frames
@[expose] public section
set_option maxRecDepth 16384
noncomputable section
/-! Kernel and reference compute one function of finite arguments. -/
namespace Cert.Proof.Attn
open Cert.KernelIdeal Cert.KernelIdeal.Gen
open Idealize.ShloMosaic Idealize.ShloMosaic.TcCoe Idealize.SL.Sem
section
variable {m : (ℓ : Loc nD τ sig) → Buf (Elt Ideal) ℓ} {c : Dev nD} (hf : Reals m c)
include hf
theorem ref0 : Cert.ReferenceIdeal.Read.val_main_v69 (F := Ideal) (A0 m c) (A1 m c) (A2 m c) (A3 m c) (A4 m c) = dqR m c := by
  funext i
  obtain ⟨r, l, rfl⟩ : ∃ (r : Fin 8192) (l : Fin 2048), i = ix2 r l := ⟨i 0, i 1, by funext a; fin_cases a <;> rfl⟩
  refine (r69 _ _ _ _ _ r l).trans ((e65 hf.h0 hf.h1 hf.h2 hf.h3 hf.h4 _ r _).trans ?_)
  show ((Head.dq _ _ _ : ℝ) : EReal) = ((Head.dq (headOf _ _ _ _ _ ⟨l.val / 128 % 16, _⟩) _ _ : ℝ) : EReal)
  simp only [Nat.mod_eq_of_lt (show l.val / 128 < 16 by omega)]
  rfl
theorem ref1 : Cert.ReferenceIdeal.Read.val_main_v72 (F := Ideal) (A0 m c) (A1 m c) (A2 m c) (A3 m c) (A4 m c) = dqpR m c := by
  funext i
  obtain ⟨r, l, rfl⟩ : ∃ (r : Fin 8192) (l : Fin 2048), i = ix2 r l := ⟨i 0, i 1, by funext a; fin_cases a <;> rfl⟩
  refine (r72 _ _ _ _ _ r l).trans ?_
  show _ = ((Head.dq (headOf _ _ _ _ _ ⟨l.val / 128 % 16, _⟩) _ _ : ℝ) : EReal)
  by_cases hl : l.val % 128 < 64
  · rw [dif_pos ⟨by omega, hl⟩]
    refine (e65 hf.h0 hf.h1 hf.h2 hf.h3 hf.h4 _ r _).trans ?_
    simp only [Nat.mod_eq_of_lt (show l.val / 128 < 16 by omega)]
    rfl
  · rw [dif_neg (fun h => hl h.2), zero_word, dq_zero _ _ _ (by show 192 ≤ 128 + l.val % 128; omega), EReal.coe_zero]
theorem ref2 : Cert.ReferenceIdeal.Read.val_main_v73 (F := Ideal) (A0 m c) (A1 m c) (A2 m c) (A3 m c) (A4 m c) = dkR m c := by
  funext i
  obtain ⟨r, l, rfl⟩ : ∃ (r : Fin 8192) (l : Fin 2048), i = ix2 r l := ⟨i 0, i 1, by funext a; fin_cases a <;> rfl⟩
  refine (r73 _ _ _ _ _ r l).trans ((e63 hf.h0 hf.h1 hf.h2 hf.h3 hf.h4 _ r _).trans ?_)
  show ((Head.dk _ _ _ : ℝ) : EReal) = ((Head.dk (headOf _ _ _ _ _ ⟨l.val / 128 % 16, _⟩) _ _ : ℝ) : EReal)
  simp only [Nat.mod_eq_of_lt (show l.val / 128 < 16 by omega)]
  rfl
theorem ref3 : Cert.ReferenceIdeal.Read.val_main_v75 (F := Ideal) (A0 m c) (A1 m c) (A2 m c) (A3 m c) (A4 m c) = dkpR m c := by
  funext i
  obtain ⟨r, l, rfl⟩ : ∃ (r : Fin 8192) (l : Fin 2048), i = ix2 r l := ⟨i 0, i 1, by funext a; fin_cases a <;> rfl⟩
  refine (r75 _ _ _ _ _ r l).trans ?_
  show _ = ((Head.dk (headOf _ _ _ _ _ ⟨l.val / 128 % 16, _⟩) _ _ : ℝ) : EReal)
  by_cases hl : l.val % 128 < 64
  · rw [dif_pos ⟨by omega, hl⟩]
    refine (e63 hf.h0 hf.h1 hf.h2 hf.h3 hf.h4 _ r _).trans ?_
    simp only [Nat.mod_eq_of_lt (show l.val / 128 < 16 by omega)]
    rfl
  · rw [dif_neg (fun h => hl h.2), zero_word, dk_zero _ _ _ (by show 192 ≤ 128 + l.val % 128; omega), EReal.coe_zero]
theorem ref4 : Cert.ReferenceIdeal.Read.val_main_v76 (F := Ideal) (A0 m c) (A1 m c) (A2 m c) (A4 m c) = dvR m c := by
  funext i
  obtain ⟨r, l, rfl⟩ : ∃ (r : Fin 8192) (l : Fin 2048), i = ix2 r l := ⟨i 0, i 1, by funext a; fin_cases a <;> rfl⟩
  refine (r76 _ _ _ _ r l).trans ((e46 (x3 := A3 m c) hf.h0 hf.h1 hf.h2 hf.h4 _ r _).trans ?_)
  show ((Head.dv _ _ _ : ℝ) : EReal) = ((Head.dv (headOf _ _ _ _ _ ⟨l.val / 128 % 16, _⟩) _ _ : ℝ) : EReal)
  simp only [Nat.mod_eq_of_lt (show l.val / 128 < 16 by omega)]
  rfl
end

/-- An array whose magnitudes are below infinity is real. -/
theorem real_of_pre {s : Shape} (x : FVec Ideal s .f32) (hb : (⟨0, ![]⟩ : Shape).BroadcastsInDim s (![] : Fin 0 → Fin s.rank))
    (e : cmpf .olt (Host.absf x) (broadcastInDim s ![] hb (constant ⟨0, ![]⟩ .f32 0x7F800000#32)) = fun _ => 1#1) : AllReal x := fun i => by
  have h : Ideal.cmp .olt (max (x i : EReal) (-(x i : EReal))) (Ideal.ofBits FTy.f32 0x7F800000#32) = 1#1 := congrFun e i
  rw [plus_inf] at h
  have h' : max (x i : EReal) (-(x i : EReal)) < ⊤ := by
    by_contra hn
    have : Ideal.cmp .olt (max (x i : EReal) (-(x i : EReal))) ⊤ = 0#1 := by
      show BitVec.ofBool (decide _) = _
      rw [decide_eq_false hn]; rfl
    rw [this] at h
    exact absurd h (by decide)
  constructor
  · intro ht; rw [ht] at h'; simp at h'
  · intro ht; rw [ht] at h'; simp at h'

theorem finite_facts : Cert.Pre_finite.Facts where
  bcast_S_S8192x16x192 := by decide
  bcast_S_S8192x16x128 := by decide
  bcast_S_S8192x64 := by decide

theorem frame_kernelIdeal_finite : Cert.quiescent_KernelIdeal_pre_finite (hPre_finite := finite_facts) := fun m ρ _ => frame_kernelIdeal m ρ trivial
theorem frame_reference_finite : Cert.quiescent_ReferenceIdeal_pre_finite (hPre_finite := finite_facts) := fun m ρ _ => frame_reference m ρ trivial

theorem reals_of_pre {m : (ℓ : Loc nD τ sig) → Buf (Elt Ideal) ℓ} (h : Cert.Pre_KernelIdeal_finite (hPre_finite := finite_facts) m) (c : Dev nD) : Reals m c where
  h0 := real_of_pre _ _ (h c).1
  h1 := real_of_pre _ _ (h c).2.1
  h2 := real_of_pre _ _ (h c).2.2.1
  h3 := real_of_pre _ _ (h c).2.2.2.1
  h4 := real_of_pre _ _ (h c).2.2.2.2

set_option maxHeartbeats 4000000 in
theorem values : Cert.algebraic_KernelIdeal_ReferenceIdeal_pre_finite (hPre_finite := finite_facts) := by
  intro m g m' g' hpre hargs
  refine ⟨dqR m, dqpR m, dkR m, dkpR m, dvR m, ?_, ?_⟩
  · refine (θ_run defs _ _).mono (fun r h c => ?_) (θ_run_and (run_post m g) (frame_any m g))
    have hf := reals_of_pre hpre c
    exact ⟨((h.1 c).1 8).trans (fin8 hf), ((h.1 c).1 9).trans (fin9 hf), ((h.1 c).1 10).trans (fin10 hf), ((h.1 c).1 11).trans (fin11 hf),
      ((h.1 c).1 12).trans (fin12 hf), h.2.1 c⟩
  · refine (θ_run Cert.ReferenceIdeal.defs _ _).mono (fun r h c => ?_) (Cert.ReferenceIdeal.Value.run (F := Ideal) m' g')
    have hf := reals_of_pre hpre c
    obtain ⟨a0, a1, a2, a3, a4⟩ := hargs c
    have hc := h c
    refine ⟨hc.1.trans ?_, hc.2.1.trans ?_, hc.2.2.1.trans ?_, hc.2.2.2.1.trans ?_, hc.2.2.2.2.1.trans ?_, hc.2.2.2.2.2⟩
    · rw [Cert.ReferenceIdeal.Read.val_main_v69_eq, a0, a1, a2, a3, a4]; exact ref0 hf
    · rw [Cert.ReferenceIdeal.Read.val_main_v72_eq, a0, a1, a2, a3, a4]; exact ref1 hf
    · rw [Cert.ReferenceIdeal.Read.val_main_v73_eq, a0, a1, a2, a3, a4]; exact ref2 hf
    · rw [Cert.ReferenceIdeal.Read.val_main_v75_eq, a0, a1, a2, a3, a4]; exact ref3 hf
    · rw [Cert.ReferenceIdeal.Read.val_main_v76_eq, a0, a1, a2, a4]; exact ref4 hf
end Cert.Proof.Attn
-- ==== Proof.FfnFrames.lean ====
module
public import proofs.«01_k».proof.Defs
public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.Gen.Kernel6Ideal.Frame
public import proofs.«01_k».proof.Proof.Gen.Kernel7
public import proofs.«01_k».proof.Proof.Gen.Kernel7Ideal.Frame
public import proofs.«01_k».proof.Proof.Gen.Kernel8
public import proofs.«01_k».proof.Proof.Gen.Kernel8Ideal.Frame
public import proofs.«01_k».proof.Proof.Gen.Kernel9
public import proofs.«01_k».proof.Proof.Gen.Kernel9Ideal.Frame
public import proofs.«01_k».proof.Proof.Gen.Kernel10
public import proofs.«01_k».proof.Proof.Gen.Kernel10Ideal.Frame
public import proofs.«01_k».proof.Proof.Gen.Kernel11
public import proofs.«01_k».proof.Proof.Gen.Kernel11Ideal.Frame
public import proofs.«01_k».proof.Proof.Gen.Kernel12
public import proofs.«01_k».proof.Proof.Gen.Kernel12Ideal.Frame
public import proofs.«01_k».proof.Proof.Gen.Kernel13
public import proofs.«01_k».proof.Proof.Gen.Kernel13Ideal.Frame
@[expose] public section
set_option maxRecDepth 16384
noncomputable section
/-! The kernels of the products on machine words: each ends, leaves its arguments alone and its counters at zero. -/
namespace Cert.Proof.FfnFrames
open Idealize.ShloMosaic Idealize.SL.Sem
set_option maxHeartbeats 2000000 in
theorem bodies2 : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc (funext fun l => funext fun a => ?_)
  match l, a with
  | 0, (t, s) =>
    dsimp only
    iterate 15 refine congrFun ?_ _
    rfl
theorem defs2 : @Cert.Kernel2.defs Bits _ Cert.Kernel2.Gen.facts = @Cert.Kernel2Ideal.defs Bits _ Cert.Kernel2Ideal.Gen.facts := by
  unfold Cert.Kernel2.defs Cert.Kernel2Ideal.defs
  exact congrArg (Pipeline.defs Cert.Kernel2Ideal.pcfgs) bodies2
theorem main2 : @Cert.Kernel2.main Bits _ Cert.Kernel2.Gen.facts = @Cert.Kernel2Ideal.main Bits _ Cert.Kernel2Ideal.Gen.facts := rfl
theorem frame2 : Cert.quiescent_Kernel2 := fun m ρ _ => by
  have h := Cert.Kernel2Ideal.Gen.frame (F := Bits) m ρ
  rw [← defs2, ← main2] at h
  exact h
set_option maxHeartbeats 2000000 in
theorem bodies3 : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  refine congrArg Defs.onTc (funext fun l => funext fun a => ?_)
  match l, a with
  | 0, (t, s) =>
    dsimp only
    iterate 9 refine congrFun ?_ _
    rfl
theorem defs3 : @Cert.Kernel3.defs Bits _ Cert.Kernel3.Gen.facts = @Cert.Kernel3Ideal.defs Bits _ Cert.Kernel3Ideal.Gen.facts := by
  unfold Cert.Kernel3.defs Cert.Kernel3Ideal.defs
  exact congrArg (Pipeline.defs Cert.Kernel3Ideal.pcfgs) bodies3
theorem main3 : @Cert.Kernel3.main Bits _ Cert.Kernel3.Gen.facts = @Cert.Kernel3Ideal.main Bits _ Cert.Kernel3Ideal.Gen.facts := rfl
theorem frame3 : Cert.quiescent_Kernel3 := fun m ρ _ => by
  have h := Cert.Kernel3Ideal.Gen.frame (F := Bits) m ρ
  rw [← defs3, ← main3] at h
  exact h
set_option maxHeartbeats 2000000 in
theorem bodies4 : @Cert.Kernel4.defs₀ Bits _ Cert.Kernel4.Gen.facts = @Cert.Kernel4Ideal.defs₀ Bits _ Cert.Kernel4Ideal.Gen.facts := by
  unfold Cert.Kernel4.defs₀ Cert.Kernel4Ideal.defs₀
  refine congrArg Defs.onTc (funext fun l => funext fun a => ?_)
  match l, a with
  | 0, (t, s) =>
    dsimp only
    iterate 9 refine congrFun ?_ _
    rfl
theorem defs4 : @Cert.Kernel4.defs Bits _ Cert.Kernel4.Gen.facts = @Cert.Kernel4Ideal.defs Bits _ Cert.Kernel4Ideal.Gen.facts := by
  unfold Cert.Kernel4.defs Cert.Kernel4Ideal.defs
  exact congrArg (Pipeline.defs Cert.Kernel4Ideal.pcfgs) bodies4
theorem main4 : @Cert.Kernel4.main Bits _ Cert.Kernel4.Gen.facts = @Cert.Kernel4Ideal.main Bits _ Cert.Kernel4Ideal.Gen.facts := rfl
theorem frame4 : Cert.quiescent_Kernel4 := fun m ρ _ => by
  have h := Cert.Kernel4Ideal.Gen.frame (F := Bits) m ρ
  rw [← defs4, ← main4] at h
  exact h
set_option maxHeartbeats 2000000 in
theorem bodies5 : @Cert.Kernel5.defs₀ Bits _ Cert.Kernel5.Gen.facts = @Cert.Kernel5Ideal.defs₀ Bits _ Cert.Kernel5Ideal.Gen.facts := by
  unfold Cert.Kernel5.defs₀ Cert.Kernel5Ideal.defs₀
  refine congrArg Defs.onTc (funext fun l => funext fun a => ?_)
  match l, a with
  | 0, (t, s) =>
    dsimp only
    iterate 9 refine congrFun ?_ _
    rfl
theorem defs5 : @Cert.Kernel5.defs Bits _ Cert.Kernel5.Gen.facts = @Cert.Kernel5Ideal.defs Bits _ Cert.Kernel5Ideal.Gen.facts := by
  unfold Cert.Kernel5.defs Cert.Kernel5Ideal.defs
  exact congrArg (Pipeline.defs Cert.Kernel5Ideal.pcfgs) bodies5
theorem main5 : @Cert.Kernel5.main Bits _ Cert.Kernel5.Gen.facts = @Cert.Kernel5Ideal.main Bits _ Cert.Kernel5Ideal.Gen.facts := rfl
theorem frame5 : Cert.quiescent_Kernel5 := fun m ρ _ => by
  have h := Cert.Kernel5Ideal.Gen.frame (F := Bits) m ρ
  rw [← defs5, ← main5] at h
  exact h
set_option maxHeartbeats 2000000 in
theorem bodies6 : @Cert.Kernel6.defs₀ Bits _ Cert.Kernel6.Gen.facts = @Cert.Kernel6Ideal.defs₀ Bits _ Cert.Kernel6Ideal.Gen.facts := by
  unfold Cert.Kernel6.defs₀ Cert.Kernel6Ideal.defs₀
  refine congrArg Defs.onTc (funext fun l => funext fun a => ?_)
  match l, a with
  | 0, (t, s) =>
    dsimp only
    iterate 11 refine congrFun ?_ _
    rfl
theorem defs6 : @Cert.Kernel6.defs Bits _ Cert.Kernel6.Gen.facts = @Cert.Kernel6Ideal.defs Bits _ Cert.Kernel6Ideal.Gen.facts := by
  unfold Cert.Kernel6.defs Cert.Kernel6Ideal.defs
  exact congrArg (Pipeline.defs Cert.Kernel6Ideal.pcfgs) bodies6
theorem main6 : @Cert.Kernel6.main Bits _ Cert.Kernel6.Gen.facts = @Cert.Kernel6Ideal.main Bits _ Cert.Kernel6Ideal.Gen.facts := rfl
theorem frame6 : Cert.quiescent_Kernel6 := fun m ρ _ => by
  have h := Cert.Kernel6Ideal.Gen.frame (F := Bits) m ρ
  rw [← defs6, ← main6] at h
  exact h
set_option maxHeartbeats 2000000 in
theorem bodies7 : @Cert.Kernel7.defs₀ Bits _ Cert.Kernel7.Gen.facts = @Cert.Kernel7Ideal.defs₀ Bits _ Cert.Kernel7Ideal.Gen.facts := by
  unfold Cert.Kernel7.defs₀ Cert.Kernel7Ideal.defs₀
  refine congrArg Defs.onTc (funext fun l => funext fun a => ?_)
  match l, a with
  | 0, (t, s) =>
    dsimp only
    iterate 17 refine congrFun ?_ _
    rfl
theorem defs7 : @Cert.Kernel7.defs Bits _ Cert.Kernel7.Gen.facts = @Cert.Kernel7Ideal.defs Bits _ Cert.Kernel7Ideal.Gen.facts := by
  unfold Cert.Kernel7.defs Cert.Kernel7Ideal.defs
  exact congrArg (Pipeline.defs Cert.Kernel7Ideal.pcfgs) bodies7
theorem main7 : @Cert.Kernel7.main Bits _ Cert.Kernel7.Gen.facts = @Cert.Kernel7Ideal.main Bits _ Cert.Kernel7Ideal.Gen.facts := rfl
theorem frame7 : Cert.quiescent_Kernel7 := fun m ρ _ => by
  have h := Cert.Kernel7Ideal.Gen.frame (F := Bits) m ρ
  rw [← defs7, ← main7] at h
  exact h
set_option maxHeartbeats 2000000 in
theorem bodies8 : @Cert.Kernel8.defs₀ Bits _ Cert.Kernel8.Gen.facts = @Cert.Kernel8Ideal.defs₀ Bits _ Cert.Kernel8Ideal.Gen.facts := by
  unfold Cert.Kernel8.defs₀ Cert.Kernel8Ideal.defs₀
  refine congrArg Defs.onTc (funext fun l => funext fun a => ?_)
  match l, a with
  | 0, (t, s) =>
    dsimp only
    iterate 11 refine congrFun ?_ _
    rfl
theorem defs8 : @Cert.Kernel8.defs Bits _ Cert.Kernel8.Gen.facts = @Cert.Kernel8Ideal.defs Bits _ Cert.Kernel8Ideal.Gen.facts := by
  unfold Cert.Kernel8.defs Cert.Kernel8Ideal.defs
  exact congrArg (Pipeline.defs Cert.Kernel8Ideal.pcfgs) bodies8
theorem main8 : @Cert.Kernel8.main Bits _ Cert.Kernel8.Gen.facts = @Cert.Kernel8Ideal.main Bits _ Cert.Kernel8Ideal.Gen.facts := rfl
theorem frame8 : Cert.quiescent_Kernel8 := fun m ρ _ => by
  have h := Cert.Kernel8Ideal.Gen.frame (F := Bits) m ρ
  rw [← defs8, ← main8] at h
  exact h
set_option maxHeartbeats 2000000 in
theorem bodies9 : @Cert.Kernel9.defs₀ Bits _ Cert.Kernel9.Gen.facts = @Cert.Kernel9Ideal.defs₀ Bits _ Cert.Kernel9Ideal.Gen.facts := by
  unfold Cert.Kernel9.defs₀ Cert.Kernel9Ideal.defs₀
  refine congrArg Defs.onTc (funext fun l => funext fun a => ?_)
  match l, a with
  | 0, (t, s) =>
    dsimp only
    iterate 11 refine congrFun ?_ _
    rfl
theorem defs9 : @Cert.Kernel9.defs Bits _ Cert.Kernel9.Gen.facts = @Cert.Kernel9Ideal.defs Bits _ Cert.Kernel9Ideal.Gen.facts := by
  unfold Cert.Kernel9.defs Cert.Kernel9Ideal.defs
  exact congrArg (Pipeline.defs Cert.Kernel9Ideal.pcfgs) bodies9
theorem main9 : @Cert.Kernel9.main Bits _ Cert.Kernel9.Gen.facts = @Cert.Kernel9Ideal.main Bits _ Cert.Kernel9Ideal.Gen.facts := rfl
theorem frame9 : Cert.quiescent_Kernel9 := fun m ρ _ => by
  have h := Cert.Kernel9Ideal.Gen.frame (F := Bits) m ρ
  rw [← defs9, ← main9] at h
  exact h
set_option maxHeartbeats 2000000 in
theorem bodies10 : @Cert.Kernel10.defs₀ Bits _ Cert.Kernel10.Gen.facts = @Cert.Kernel10Ideal.defs₀ Bits _ Cert.Kernel10Ideal.Gen.facts := by
  unfold Cert.Kernel10.defs₀ Cert.Kernel10Ideal.defs₀
  refine congrArg Defs.onTc (funext fun l => funext fun a => ?_)
  match l, a with
  | 0, (t, s) =>
    dsimp only
    iterate 9 refine congrFun ?_ _
    rfl
theorem defs10 : @Cert.Kernel10.defs Bits _ Cert.Kernel10.Gen.facts = @Cert.Kernel10Ideal.defs Bits _ Cert.Kernel10Ideal.Gen.facts := by
  unfold Cert.Kernel10.defs Cert.Kernel10Ideal.defs
  exact congrArg (Pipeline.defs Cert.Kernel10Ideal.pcfgs) bodies10
theorem main10 : @Cert.Kernel10.main Bits _ Cert.Kernel10.Gen.facts = @Cert.Kernel10Ideal.main Bits _ Cert.Kernel10Ideal.Gen.facts := rfl
theorem frame10 : Cert.quiescent_Kernel10 := fun m ρ _ => by
  have h := Cert.Kernel10Ideal.Gen.frame (F := Bits) m ρ
  rw [← defs10, ← main10] at h
  exact h
set_option maxHeartbeats 2000000 in
theorem bodies11 : @Cert.Kernel11.defs₀ Bits _ Cert.Kernel11.Gen.facts = @Cert.Kernel11Ideal.defs₀ Bits _ Cert.Kernel11Ideal.Gen.facts := by
  unfold Cert.Kernel11.defs₀ Cert.Kernel11Ideal.defs₀
  refine congrArg Defs.onTc (funext fun l => funext fun a => ?_)
  match l, a with
  | 0, (t, s) =>
    dsimp only
    iterate 9 refine congrFun ?_ _
    rfl
theorem defs11 : @Cert.Kernel11.defs Bits _ Cert.Kernel11.Gen.facts = @Cert.Kernel11Ideal.defs Bits _ Cert.Kernel11Ideal.Gen.facts := by
  unfold Cert.Kernel11.defs Cert.Kernel11Ideal.defs
  exact congrArg (Pipeline.defs Cert.Kernel11Ideal.pcfgs) bodies11
theorem main11 : @Cert.Kernel11.main Bits _ = @Cert.Kernel11Ideal.main Bits _ := rfl
theorem frame11 : Cert.quiescent_Kernel11 := fun m ρ _ => by
  have h := Cert.Kernel11Ideal.Gen.frame (F := Bits) m ρ
  rw [← defs11, ← main11] at h
  exact h
set_option maxHeartbeats 2000000 in
theorem bodies12 : @Cert.Kernel12.defs₀ Bits _ Cert.Kernel12.Gen.facts = @Cert.Kernel12Ideal.defs₀ Bits _ Cert.Kernel12Ideal.Gen.facts := by
  unfold Cert.Kernel12.defs₀ Cert.Kernel12Ideal.defs₀
  refine congrArg Defs.onTc (funext fun l => funext fun a => ?_)
  match l, a with
  | 0, (t, s) =>
    dsimp only
    iterate 9 refine congrFun ?_ _
    rfl
theorem defs12 : @Cert.Kernel12.defs Bits _ Cert.Kernel12.Gen.facts = @Cert.Kernel12Ideal.defs Bits _ Cert.Kernel12Ideal.Gen.facts := by
  unfold Cert.Kernel12.defs Cert.Kernel12Ideal.defs
  exact congrArg (Pipeline.defs Cert.Kernel12Ideal.pcfgs) bodies12
theorem main12 : @Cert.Kernel12.main Bits _ Cert.Kernel12.Gen.facts = @Cert.Kernel12Ideal.main Bits _ Cert.Kernel12Ideal.Gen.facts := rfl
theorem frame12 : Cert.quiescent_Kernel12 := fun m ρ _ => by
  have h := Cert.Kernel12Ideal.Gen.frame (F := Bits) m ρ
  rw [← defs12, ← main12] at h
  exact h
set_option maxHeartbeats 2000000 in
theorem bodies13 : @Cert.Kernel13.defs₀ Bits _ Cert.Kernel13.Gen.facts = @Cert.Kernel13Ideal.defs₀ Bits _ Cert.Kernel13Ideal.Gen.facts := by
  unfold Cert.Kernel13.defs₀ Cert.Kernel13Ideal.defs₀
  refine congrArg Defs.onTc (funext fun l => funext fun a => ?_)
  match l, a with
  | 0, (t, s) =>
    dsimp only
    iterate 9 refine congrFun ?_ _
    rfl
theorem defs13 : @Cert.Kernel13.defs Bits _ Cert.Kernel13.Gen.facts = @Cert.Kernel13Ideal.defs Bits _ Cert.Kernel13Ideal.Gen.facts := by
  unfold Cert.Kernel13.defs Cert.Kernel13Ideal.defs
  exact congrArg (Pipeline.defs Cert.Kernel13Ideal.pcfgs) bodies13
theorem main13 : @Cert.Kernel13.main Bits _ Cert.Kernel13.Gen.facts = @Cert.Kernel13Ideal.main Bits _ Cert.Kernel13Ideal.Gen.facts := rfl
theorem frame13 : Cert.quiescent_Kernel13 := fun m ρ _ => by
  have h := Cert.Kernel13Ideal.Gen.frame (F := Bits) m ρ
  rw [← defs13, ← main13] at h
  exact h
end Cert.Proof.FfnFrames
-- ==== Proof.MatSum.lean ====
module
public import Idealize.ShloMosaic.Lib.IdealHost
@[expose] public section
noncomputable section
/-! Facts on sums of extended reals and on the constant one half, shared by the feed-forward network's kernels. -/
namespace Cert.Proof.MatSum
open Idealize.ShloMosaic
theorem zeros2 : (![0, 0] : Fin 2 → Nat) = fun _ => 0 := funext fun a => by fin_cases a <;> rfl
theorem half_val : Ideal.ofBits .f32 0x3F000000#32 = (((1 : ℝ) / 2 : ℝ) : EReal) := by
  simp [Ideal.ofBits, Ideal.ieee, -EReal.coe_mul]; norm_num
/-- A real number that is not negative goes into a sum of extended reals. -/
theorem mul_sum_real {ι : Type} (s : Finset ι) (f : ι → EReal) (r : EReal) (h0 : 0 ≤ r) (h1 : r ≠ ⊤) : r * ∑ k ∈ s, f k = ∑ k ∈ s, r * f k := by
  classical
  induction s using Finset.induction_on with
  | empty => simp
  | insert a s ha ih => rw [Finset.sum_insert ha, Finset.sum_insert ha, EReal.left_distrib_of_nonneg_of_ne_top h0 h1, ih]
/-- One half goes into a sum. -/
theorem half_sum {n : Nat} (f : Fin n → EReal) : (∑ k, f k) * Ideal.ofBits .f32 0x3F000000#32 = ∑ k, Ideal.ofBits .f32 0x3F000000#32 * f k := by
  rw [mul_comm, mul_sum_real]
  · rw [half_val]; exact_mod_cast (by norm_num : (0 : ℝ) ≤ 1 / 2)
  · rw [half_val]; exact EReal.coe_ne_top _
/-- The logistic function of an extended real. -/
def sigm (g : EReal) : EReal := Ideal.div 1 (1 + Ideal.exp (-g))
/-- The derivative of the logistic function in two forms; at both infinities both are zero. -/
theorem sigm_grad (g : EReal) : Ideal.div 1 ((1 + Ideal.exp (-g)) * (1 + Ideal.exp (-g))) * Ideal.exp (-g) = sigm g * (1 - sigm g) := by
  unfold sigm
  induction g using EReal.rec with
  | bot =>
    rw [EReal.neg_bot, Ideal.exp_top]
    have e : (1 : EReal) + ⊤ = ⊤ := EReal.coe_add_top 1
    have z : Ideal.div 1 ⊤ = 0 := by rw [Ideal.div, if_neg EReal.top_ne_zero, EReal.inv_top, mul_zero]
    rw [e, EReal.top_mul_top, z, zero_mul, zero_mul]
  | top =>
    rw [EReal.neg_top, Ideal.exp_bot, add_zero, mul_zero]
    have z : Ideal.div 1 1 = 1 := by
      rw [← EReal.coe_one, Ideal.div_coe one_ne_zero]
      norm_num
    rw [z, one_mul, ← EReal.coe_one, ← EReal.coe_sub, sub_self, EReal.coe_zero]
  | coe r =>
    rw [← EReal.coe_neg, Ideal.exp_coe, ← EReal.coe_one, ← EReal.coe_add, ← EReal.coe_mul]
    have h : (1 + Real.exp (-r)) ≠ 0 := by positivity
    rw [Ideal.div_coe h, Ideal.div_coe (mul_ne_zero h h), ← EReal.coe_mul, ← EReal.coe_mul, ← EReal.coe_mul, ← EReal.coe_sub, ← EReal.coe_mul]
    refine congrArg _ ?_
    field_simp
    ring
/-- The gate's gradient, from that of the gated product's first factor. -/
def gateGrad (g u d : EReal) : EReal := d * u * sigm g + g * (d * u) * (sigm g * (1 - sigm g))
/-- The form in which the gate's gradient is computed. -/
theorem gate_grad (g u d : EReal) :
    d * u * sigm g + (0 - (0 - g * (d * u) * Ideal.div 1 ((1 + Ideal.exp (-g)) * (1 + Ideal.exp (-g)))) * Ideal.exp (-g)) = gateGrad g u d := by
  unfold gateGrad
  rw [zero_sub, zero_sub, EReal.neg_mul, neg_neg, mul_assoc (g * (d * u)), sigm_grad]
end Cert.Proof.MatSum
-- ==== Proof.DownDx.lean ====
module
public import proofs.«01_k».proof.Defs
public import proofs.«01_k».proof.Proof.MatSum
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Claim
@[expose] public section
set_option maxRecDepth 65536
noncomputable section
/-! The gradients of the feed-forward network's gate and up activations. -/
namespace Cert.Proof.DownDx
open Cert.Kernel2Ideal Cert.Kernel2Ideal.Gen Cert.Proof.MatSum
open Idealize.ShloMosaic Idealize.ShloMosaic.TcCoe Idealize.SL.Sem
section
variable {F : FTy → Type} [FloatOps F] (c : Dev nD) (i : grid0.Coords) (a3 : Memref sig .tc .vmem S1024x2048 .f32) (h3 : a3.IsWhole) (a4 : Memref sig .tc .vmem S512x2048 .bf16) (h4 : a4.IsWhole)
  (a5 : Memref sig .tc .vmem S1024x512 .f32) (h5 : a5.IsWhole) (a6 : Memref sig .tc .vmem S1024x512 .f32) (h6 : a6.IsWhole) (a7 : Memref sig .tc .vmem S1024x512 .bf16) (h7 : a7.IsWhole)
  (a8 : Memref sig .tc .vmem S1024x512 .bf16) (h8 : a8.IsWhole) (a9 : Memref sig .tc .vmem S1024x512 .f32) (h9 : a9.IsWhole) (h0 : cond0_0 i) (h1 : cond0_1 i)
  (x : Vec F S1024x2048 .f32) (w : Vec F S512x2048 .bf16) (g u : Vec F S1024x512 .f32)
theorem ot4 : out0_A_4 c i a3 h3 a4 h4 a5 h5 a6 h6 a7 h7 a8 h8 a9 h9 h0 h1 x w g u = k0_pay7 (k0_pay2 k0_pay1 x w) g u := by
  unfold out0_A_4
  rw [View.read_writes_eq_canon _ _ _ (cover0_A_4 c i a3 h3 a4 h4 a5 h5 a6 h6 a7 h7 a8 h8 a9 h9 h0 h1 x w g u)]
  unfold kernelRun0_A
  dsimp only
  sl_unfold_words
  rw [View.canon_unit_zero zeros2]
  simp only [View.readCov_unit_zero (S := S1024x512) _ zeros2, View.readAt_eq_ld, h3.read_unread, h4.read_unread, h5.read_unread, h6.read_unread, View.ld_unit_zero (S := S1024x2048) zeros2, View.ld_unit_zero (S := S512x2048) zeros2, View.ld_unit_zero (S := S1024x512) zeros2]
  exact congrArg (k0_pay7 · g u) (View.readCov_cons_unit_lit' (S := S1024x512) _ _ _ _ _ (by decide) (by decide))
theorem ot5 : out0_A_5 c i a3 h3 a4 h4 a5 h5 a6 h6 a7 h7 a8 h8 a9 h9 h0 h1 x w g u = k0_pay8 (k0_pay2 k0_pay1 x w) g := by
  unfold out0_A_5
  rw [View.read_writes_eq_canon _ _ _ (cover0_A_5 c i a3 h3 a4 h4 a5 h5 a6 h6 a7 h7 a8 h8 a9 h9 h0 h1 x w g u)]
  unfold kernelRun0_A
  dsimp only
  sl_unfold_words
  rw [View.canon_unit_zero zeros2]
  simp only [View.readCov_unit_zero (S := S1024x512) _ zeros2, View.readAt_eq_ld, h3.read_unread, h4.read_unread, h5.read_unread, h6.read_unread, View.ld_unit_zero (S := S1024x2048) zeros2, View.ld_unit_zero (S := S512x2048) zeros2, View.ld_unit_zero (S := S1024x512) zeros2]
  exact congrArg (k0_pay8 · g) (View.readCov_cons_unit_lit' (S := S1024x512) _ _ _ _ _ (by decide) (by decide))
end
theorem step_apply (x : FVec Ideal S1024x2048 .f32) (w : FVec Ideal S512x2048 .bf16) (a : Fin 1024) (l : Fin 512) :
    k0_pay2 (F := Ideal) (k0_pay1 (F := Ideal)) x w (ix2 a l) = ∑ k : Fin 2048, x (ix2 a k) * w (ix2 l k) := by
  pointwise [k0_pay2, k0_pay1]
theorem dg_apply (s g u : FVec Ideal S1024x512 .f32) (a : Fin 1024) (l : Fin 512) :
    k0_pay7 (F := Ideal) s g u (ix2 a l) = gateGrad (g (ix2 a l)) (u (ix2 a l)) (s (ix2 a l) * Ideal.ofBits .f32 0x3F000000#32) := by
  rw [← gate_grad]
  unfold sigm
  simp only [← zero_sub]
  pointwise [k0_pay7, k0_pay6, k0_pay5, k0_pay4, k0_pay3]
theorem du_apply (s g : FVec Ideal S1024x512 .f32) (a : Fin 1024) (l : Fin 512) :
    k0_pay8 (F := Ideal) s g (ix2 a l) = g (ix2 a l) * sigm (g (ix2 a l)) * (s (ix2 a l) * Ideal.ofBits .f32 0x3F000000#32) := by
  unfold sigm
  simp only [← zero_sub]
  pointwise [k0_pay8, k0_pay6, k0_pay5, k0_pay4, k0_pay3]
variable (m : (ℓ : Loc nD τ sig) → Buf (Elt Ideal) ℓ) (c : Dev nD)
theorem idx_in : ∀ t : Fin cfg0.N, win0_0.index t = ![t.val / 8, 0] ∧ win0_1.index t = ![t.val % 8, 0] ∧ win0_2.index t = ![t.val / 8, t.val % 8] ∧ win0_3.index t = ![t.val / 8, t.val % 8]
    ∧ win0_4.index t = ![t.val / 8, t.val % 8] ∧ win0_5.index t = ![t.val / 8, t.val % 8] :=
  (by decide +kernel : ∀ t : Fin grid0.N, _)
theorem pt_lt (t : Fin cfg0.N) : t.val < 64 := by
  have h : t.val < grid0.N := t.isLt
  rwa [N_0] at h
/-- The gradient that comes in. -/
abbrev Y : FVec Ideal S8192x2048 .f32 := m ((c : Thread nD τ).loc main_arg3)
/-- The down weight. -/
abbrev W : FVec Ideal S4096x2048 .f32 := m ((c : Thread nD τ).loc main_arg2)
/-- The gate. -/
abbrev G : FVec Ideal S8192x4096 .f32 := m ((c : Thread nD τ).loc main_arg0)
/-- The up projection. -/
abbrev U : FVec Ideal S8192x4096 .f32 := m ((c : Thread nD τ).loc main_arg1)
theorem V0 : (V m c main_arg3 : FVec Ideal S8192x2048 .f32) = Y m c := by
  show StableHlo.after hostOps0 _ (Proc.tc.devRef main_arg3) = _
  entry_read
  rfl
theorem V1 : (V m c main_v0 : FVec Ideal S4096x2048 .bf16) = W m c := by
  show StableHlo.after hostOps0 _ (Proc.tc.devRef main_v0) = _
  entry_read
  rfl
theorem V2 : (V m c main_arg0 : FVec Ideal S8192x4096 .f32) = G m c := by
  show StableHlo.after hostOps0 _ (Proc.tc.devRef main_arg0) = _
  entry_read
  rfl
theorem V3 : (V m c main_arg1 : FVec Ideal S8192x4096 .f32) = U m c := by
  show StableHlo.after hostOps0 _ (Proc.tc.devRef main_arg1) = _
  entry_read
  rfl
theorem ib0 (t : Fin cfg0.N) (a : Fin 1024) (k : Fin 2048) (A : Fin 8192) (hA : 1024 * (t.val / 8) + a.val = A.val) : (iblk m c 0 t : FVec Ideal S1024x2048 .f32) (ix2 a k) = Y m c (ix2 A k) := by
  have ht := pt_lt t
  have e : (iblk m c 0 t : FVec Ideal S1024x2048 .f32) (ix2 a k) = (V m c main_arg3 : FVec Ideal S8192x2048 .f32) (ix2 ⟨1024 * (t.val / 8) + a, by omega⟩ k) := by
    blk_ext [iblk, idx_in t]
  rw [e, V0]
  simp only [hA, Fin.eta]
theorem ib1 (t : Fin cfg0.N) (l : Fin 512) (k : Fin 2048) (L : Fin 4096) (hL : 512 * (t.val % 8) + l.val = L.val) : (iblk m c 1 t : FVec Ideal S512x2048 .bf16) (ix2 l k) = W m c (ix2 L k) := by
  have ht := pt_lt t
  have e : (iblk m c 1 t : FVec Ideal S512x2048 .bf16) (ix2 l k) = (V m c main_v0 : FVec Ideal S4096x2048 .bf16) (ix2 ⟨512 * (t.val % 8) + l, by omega⟩ k) := by
    blk_ext [iblk, idx_in t]
  rw [e, V1]
  simp only [hL, Fin.eta]
theorem ib2 (t : Fin cfg0.N) (a : Fin 1024) (l : Fin 512) (A : Fin 8192) (L : Fin 4096) (hA : 1024 * (t.val / 8) + a.val = A.val) (hL : 512 * (t.val % 8) + l.val = L.val) :
    (iblk m c 2 t : FVec Ideal S1024x512 .f32) (ix2 a l) = G m c (ix2 A L) := by
  have ht := pt_lt t
  have e : (iblk m c 2 t : FVec Ideal S1024x512 .f32) (ix2 a l) = (V m c main_arg0 : FVec Ideal S8192x4096 .f32) (ix2 ⟨1024 * (t.val / 8) + a, by omega⟩ ⟨512 * (t.val % 8) + l, by omega⟩) := by
    blk_ext [iblk, idx_in t]
  rw [e, V2]
  simp only [hA, hL, Fin.eta]
theorem ib3 (t : Fin cfg0.N) (a : Fin 1024) (l : Fin 512) (A : Fin 8192) (L : Fin 4096) (hA : 1024 * (t.val / 8) + a.val = A.val) (hL : 512 * (t.val % 8) + l.val = L.val) :
    (iblk m c 3 t : FVec Ideal S1024x512 .f32) (ix2 a l) = U m c (ix2 A L) := by
  have ht := pt_lt t
  have e : (iblk m c 3 t : FVec Ideal S1024x512 .f32) (ix2 a l) = (V m c main_arg1 : FVec Ideal S8192x4096 .f32) (ix2 ⟨1024 * (t.val / 8) + a, by omega⟩ ⟨512 * (t.val % 8) + l, by omega⟩) := by
    blk_ext [iblk, idx_in t]
  rw [e, V3]
  simp only [hA, hL, Fin.eta]
/-- The gradient of the gated product, halved. -/
def dAct (y : FVec Ideal S8192x2048 .f32) (w : FVec Ideal S4096x2048 .f32) (i : S8192x4096.Idx) : EReal := (∑ k : Fin 2048, y (ix2 (i 0) k) * w (ix2 (i 1) k)) * Ideal.ofBits .f32 0x3F000000#32
/-- The gate's gradient. -/
def dGate (g u : FVec Ideal S8192x4096 .f32) (w : FVec Ideal S4096x2048 .f32) (y : FVec Ideal S8192x2048 .f32) : FVec Ideal S8192x4096 .bf16 := fun i => gateGrad (g i) (u i) (dAct y w i)
/-- The up projection's gradient. -/
def dUp (g : FVec Ideal S8192x4096 .f32) (w : FVec Ideal S4096x2048 .f32) (y : FVec Ideal S8192x2048 .f32) : FVec Ideal S8192x4096 .bf16 := fun i => g i * sigm (g i) * dAct y w i
theorem acc_val (t : Fin cfg0.N) (a : Fin 1024) (l : Fin 512) (A : Fin 8192) (L : Fin 4096) (hA : 1024 * (t.val / 8) + a.val = A.val) (hL : 512 * (t.val % 8) + l.val = L.val) :
    k0_pay2 (F := Ideal) (k0_pay1 (F := Ideal)) (iblk m c 0 t) (iblk m c 1 t) (ix2 a l) * Ideal.ofBits .f32 0x3F000000#32 = dAct (Y m c) (W m c) (ix2 A L) := by
  rw [step_apply]
  refine congrArg (· * Ideal.ofBits .f32 0x3F000000#32) (Finset.sum_congr rfl fun k _ => ?_)
  rw [ib0 m c t a k A hA, ib1 m c t l k L hL]
  rfl
theorem out4 (t : Fin cfg0.N) (a : Fin 1024) (l : Fin 512) (A : Fin 8192) (L : Fin 4096) (hA : 1024 * (t.val / 8) + a.val = A.val) (hL : 512 * (t.val % 8) + l.val = L.val) :
    (outsAt0 m c t).1 (ix2 a l) = dGate (G m c) (U m c) (W m c) (Y m c) (ix2 A L) := by
  unfold outsAt0
  dsimp only
  rw [ot4, dg_apply, acc_val m c t a l A L hA hL, ib2 m c t a l A L hA hL, ib3 m c t a l A L hA hL]
  rfl
theorem out5 (t : Fin cfg0.N) (a : Fin 1024) (l : Fin 512) (A : Fin 8192) (L : Fin 4096) (hA : 1024 * (t.val / 8) + a.val = A.val) (hL : 512 * (t.val % 8) + l.val = L.val) :
    (outsAt0 m c t).2 (ix2 a l) = dUp (G m c) (W m c) (Y m c) (ix2 A L) := by
  unfold outsAt0
  dsimp only
  rw [ot5, du_apply, acc_val m c t a l A L hA hL, ib2 m c t a l A L hA hL]
  rfl
theorem final4 : (dats m 0 c).arrAt 4 cfg0.N = dGate (G m c) (U m c) (W m c) (Y m c) := by
  refine (dats m 0 c).arrAt_eq_of_covers 4 _ (by decide +kernel) fun t hfl y => ?_
  have ht := pt_lt t
  have e0 : ((win0_4.blk t).view.emb y 0).val = 1024 * (t.val / 8) + (y 0).val := by
    blk_simp [idx_in t]
    first | done | omega
  have e1 : ((win0_4.blk t).view.emb y 1).val = 512 * (t.val % 8) + (y 1).val := by
    blk_simp [idx_in t]
    first | done | omega
  blk_simp
  rw [after0_4]
  obtain ⟨a, l, rfl⟩ : ∃ (a : Fin 1024) (l : Fin 512), y = ix2 a l := ⟨y 0, y 1, by funext i; fin_cases i <;> rfl⟩
  refine (out4 m c t a l _ _ e0.symm e1.symm).trans (congrArg (dGate (G m c) (U m c) (W m c) (Y m c)) ?_)
  funext b
  fin_cases b <;> rfl
theorem final5 : (dats m 0 c).arrAt 5 cfg0.N = dUp (G m c) (W m c) (Y m c) := by
  refine (dats m 0 c).arrAt_eq_of_covers 5 _ (by decide +kernel) fun t hfl y => ?_
  have ht := pt_lt t
  have e0 : ((win0_5.blk t).view.emb y 0).val = 1024 * (t.val / 8) + (y 0).val := by
    blk_simp [idx_in t]
    first | done | omega
  have e1 : ((win0_5.blk t).view.emb y 1).val = 512 * (t.val % 8) + (y 1).val := by
    blk_simp [idx_in t]
    first | done | omega
  blk_simp
  rw [after0_5]
  obtain ⟨a, l, rfl⟩ : ∃ (a : Fin 1024) (l : Fin 512), y = ix2 a l := ⟨y 0, y 1, by funext i; fin_cases i <;> rfl⟩
  refine (out5 m c t a l _ _ e0.symm e1.symm).trans (congrArg (dUp (G m c) (W m c) (Y m c)) ?_)
  funext b
  fin_cases b <;> rfl
theorem run (g : Dev nD → PrngReg) : θ_run defs (onTc (τ := τ) (main (F := Ideal))) ⟨m, fun _ => 0, g⟩ fun r => ∀ c : Dev nD,
      r.2.mem ((c : Thread nD τ).loc main_v1_0) = dGate (G m c) (U m c) (W m c) (Y m c)
      ∧ r.2.mem ((c : Thread nD τ).loc main_v1_1) = dUp (G m c) (W m c) (Y m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final4 m c), ((h c).2.1).trans (final5 m c), (h c).2.2⟩) (Value.run_blocks m g)
section
open Cert.Reference2Ideal.Read
/-- The reference's gradient of the gated product: one half goes into the sum. -/
theorem ref_act (w : FVec Ideal S4096x2048 .f32) (y : FVec Ideal S8192x2048 .f32) (i : S8192x4096.Idx) : val_main_v7 (F := Ideal) w y i = dAct y w i := by
  rw [val_main_v7_apply]
  unfold dAct
  rw [half_sum]
  refine Finset.sum_congr rfl fun k _ => ?_
  rw [val_main_v6_apply, val_main_v5_apply, val_main_cst_0_apply]
  refine (mul_assoc _ _ _).trans (congrArg (Ideal.ofBits .f32 0x3F000000#32 * ·) ?_)
  refine congrArg₂ (· * ·) (congrArg y ?_) (congrArg w ?_) <;> (funext b; fin_cases b <;> rfl)
/-- The reference's logistic function. -/
theorem ref_sigm (g : FVec Ideal S8192x4096 .f32) (i : S8192x4096.Idx) : val_main_v0_2 (F := Ideal) g i = sigm (g i) := by
  rw [val_main_v0_2_apply, val_main_call0_v4_apply, val_main_call0_cst_0_apply, val_main_call0_v3_apply, val_main_call0_v2_apply, val_main_call0_cst_apply, val_main_call0_v1_apply, val_main_call0_v0_apply]
  unfold sigm
  rw [← Ideal.ofBits_one_f32]
  rfl
theorem ref_slope (g : FVec Ideal S8192x4096 .f32) (i : S8192x4096.Idx) : val_main_v0_1 (F := Ideal) g i = sigm (g i) * (1 - sigm (g i)) := by
  rw [val_main_v0_1_apply, val_main_call0_v7_apply, val_main_call0_v6_apply, val_main_call0_cst_1_apply, ref_sigm, ← Ideal.ofBits_one_f32]
  rfl
theorem ref_gate (g u : FVec Ideal S8192x4096 .f32) (w : FVec Ideal S4096x2048 .f32) (y : FVec Ideal S8192x2048 .f32) : val_main_v11 (F := Ideal) g u w y = dGate g u w y := by
  funext i
  rw [val_main_v11_apply, val_main_v10_apply, val_main_call1_v1_apply, val_main_call1_v2_apply, val_main_call1_v0_apply, val_main_v9_apply, ref_act, ref_sigm, ref_slope]
  rfl
theorem ref_up (g : FVec Ideal S8192x4096 .f32) (w : FVec Ideal S4096x2048 .f32) (y : FVec Ideal S8192x2048 .f32) : val_main_v12 (F := Ideal) g w y = dUp g w y := by
  funext i
  rw [val_main_v12_apply, val_main_v8_apply, val_main_v0_0_apply, ref_act, ref_sigm]
  rfl
end
theorem frame_ideal : Cert.quiescent_Kernel2Ideal := fun m ρ _ => Cert.Kernel2Ideal.Gen.frame (F := Ideal) m ρ
theorem frame_ref : Cert.quiescent_Reference2Ideal := fun m ρ _ =>
  (θ_run Cert.Reference2Ideal.defs _ _).mono (fun r h => ⟨fun c => (h c).2.2, sem_eq_zero_of_no_sems (by decide) r.2⟩) (Cert.Reference2Ideal.Value.run (F := Ideal) m ρ)
theorem values : Cert.algebraic_Kernel2Ideal_Reference2Ideal := by
  intro m g m' g' _ hargs
  refine ⟨fun c => dGate (G m c) (U m c) (W m c) (Y m c), fun c => dUp (G m c) (W m c) (Y m c), run m g, (θ_run Cert.Reference2Ideal.defs _ _).mono (fun r h c => ?_) (Cert.Reference2Ideal.Value.run (F := Ideal) m' g')⟩
  obtain ⟨a0, a1, a2, a3⟩ := hargs c
  refine ⟨(h c).1.trans ?_, (h c).2.1.trans ?_, (h c).2.2⟩
  · rw [Cert.Reference2Ideal.Read.val_main_v11_eq, a0, a1, a2, a3]
    exact ref_gate _ _ _ _
  · rw [Cert.Reference2Ideal.Read.val_main_v12_eq, a0, a2, a3]
    exact ref_up _ _ _
end Cert.Proof.DownDx
-- ==== Proof.DownDw.lean ====
module
public import proofs.«01_k».proof.Defs
public import proofs.«01_k».proof.Proof.MatSum
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Claim
@[expose] public section
set_option maxRecDepth 65536
noncomputable section
/-! The gradient of the feed-forward network's down weight. -/
namespace Cert.Proof.DownDw
open Cert.Kernel3Ideal Cert.Kernel3Ideal.Gen Cert.Proof.MatSum
open Idealize.ShloMosaic Idealize.ShloMosaic.TcCoe Idealize.SL.Sem
section
variable {F : FTy → Type} [FloatOps F] (c : Dev nD) (i : grid0.Coords) (a3 : Memref sig .tc .vmem S2048x1024 .bf16) (h3 : a3.IsWhole) (a4 : Memref sig .tc .vmem S2048x1024 .f32) (h4 : a4.IsWhole)
  (a5 : Memref sig .tc .vmem S1024x1024 .f32) (h5 : a5.IsWhole) (a6 : Memref sig .tc .vmem S1024x1024 .f32) (h6 : a6.IsWhole)
  (x : Vec F S2048x1024 .bf16) (w : Vec F S2048x1024 .f32) (s : Vec F S1024x1024 .f32)
theorem scA (h0 : cond0_0 i) (h1 : ¬cond0_1 i) : sout0_A_0 c i a3 h3 a4 h4 a5 h5 a6 h6 h0 h1 x w = k0_pay2 k0_pay1 x w := by
  unfold sout0_A_0
  rw [View.read_writes_eq_canon _ _ _ (scover0_A_0 c i a3 h3 a4 h4 a5 h5 a6 h6 h0 h1 x w)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S2048x1024) zeros2]
theorem scB (h0 : ¬cond0_0 i) (h1 : ¬cond0_1 i) : sout0_B_0 c i a3 h3 a4 h4 a5 h5 a6 h6 h0 h1 x w s = k0_pay2 s x w := by
  unfold sout0_B_0
  rw [View.read_writes_eq_canon _ _ _ (scover0_B_0 c i a3 h3 a4 h4 a5 h5 a6 h6 h0 h1 x w s)]
  unfold kernelRun0_B
  dsimp only
  rw [View.canon_unit_zero zeros2]
  simp only [View.readAt_eq_ld, h3.read_unread, h4.read_unread, h6.read_unread, View.ld_unit_zero (S := S2048x1024) zeros2, View.ld_unit_zero (S := S1024x1024) zeros2]
theorem otC (h0 : ¬cond0_0 i) (h1 : cond0_1 i) : out0_C_2 c i a3 h3 a4 h4 a5 h5 a6 h6 h0 h1 x w s = k0_pay3 (k0_pay2 s x w) := by
  unfold out0_C_2
  rw [View.read_writes_eq_canon _ _ _ (cover0_C_2 c i a3 h3 a4 h4 a5 h5 a6 h6 h0 h1 x w s)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S2048x1024) zeros2, View.ld_unit_zero (S := S1024x1024) zeros2]
end
theorem step_apply (s : FVec Ideal S1024x1024 .f32) (x : FVec Ideal S2048x1024 .bf16) (w : FVec Ideal S2048x1024 .f32) (a l : Fin 1024) :
    k0_pay2 (F := Ideal) s x w (ix2 a l) = s (ix2 a l) + ∑ k : Fin 2048, x (ix2 k a) * w (ix2 k l) := by
  pointwise [k0_pay2]
theorem zero_apply (a l : Fin 1024) : (k0_pay1 : FVec Ideal S1024x1024 .f32) (ix2 a l) = 0 := by
  pointwise [k0_pay1]
theorem last_apply (s : FVec Ideal S1024x1024 .f32) (a l : Fin 1024) : k0_pay3 (F := Ideal) s (ix2 a l) = s (ix2 a l) * Ideal.ofBits .f32 0x3F000000#32 := by
  pointwise [k0_pay3]
variable (m : (ℓ : Loc nD τ sig) → Buf (Elt Ideal) ℓ) (c : Dev nD)
theorem idx_in : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, _)
theorem pt_lt (t : Fin cfg0.N) : t.val < 32 := by
  have h : t.val < grid0.N := t.isLt
  rwa [N_0] at h
theorem ib0 (t : Fin cfg0.N) (k : Fin 2048) (a : Fin 1024) (h1 h2) : (iblk m c 0 t : FVec Ideal S2048x1024 .bf16) (ix2 k a)
    = (V m c main_v2 : FVec Ideal S8192x4096 .bf16) (ix2 ⟨2048 * (t.val % 4) + k, h1⟩ ⟨1024 * (t.val / 8) + a, h2⟩) := by
  have ht := pt_lt t
  blk_ext [iblk, idx_in t]
theorem ib1 (t : Fin cfg0.N) (k : Fin 2048) (a : Fin 1024) (h1 h2) : (iblk m c 1 t : FVec Ideal S2048x1024 .f32) (ix2 k a)
    = (V m c main_arg3 : FVec Ideal S8192x2048 .f32) (ix2 ⟨2048 * (t.val % 4) + k, h1⟩ ⟨1024 * (t.val / 4 % 2) + a, h2⟩) := by
  have ht := pt_lt t
  blk_ext [iblk, idx_in t]
/-- The hidden activation. -/
def X : FVec Ideal S8192x4096 .f32 := Cert.Reference3Ideal.Read.val_main_v1 (F := Ideal) (m ((c : Thread nD τ).loc main_arg0)) (m ((c : Thread nD τ).loc main_arg1))
/-- The gradient that comes in. -/
abbrev W : FVec Ideal S8192x2048 .f32 := m ((c : Thread nD τ).loc main_arg3)
theorem V0 : (V m c main_v2 : FVec Ideal S8192x4096 .bf16) = X m c := by
  show StableHlo.after (hostOps0 ++ hostOps0_1) _ (Proc.tc.devRef main_v2) = _
  simp only [hostOps0, hostOps0_1, List.cons_append, List.nil_append]
  entry_read
  rfl
theorem V1 : (V m c main_arg3 : FVec Ideal S8192x2048 .f32) = W m c := by
  show StableHlo.after (hostOps0 ++ hostOps0_1) _ (Proc.tc.devRef main_arg3) = _
  simp only [hostOps0, hostOps0_1, List.cons_append, List.nil_append]
  entry_read
  rfl
/-- One tile's part of a product. -/
def part (x : FVec Ideal S2048x1024 .bf16) (w : FVec Ideal S2048x1024 .f32) (a l : Fin 1024) : EReal := ∑ k : Fin 2048, x (ix2 k a) * w (ix2 k l)
theorem first (t : Fin cfg0.N) (h : t.val % 4 = 0) (a l : Fin 1024) : (outsAt0 m c t.val t.isLt).2 (ix2 a l) = part (iblk m c 0 t) (iblk m c 1 t) a l := by
  rw [outsAt0_A m c t h (by omega)]
  dsimp only
  rw [scA, step_apply, zero_apply, zero_add]
  rfl
theorem next (t : Fin cfg0.N) (h : ¬t.val % 4 = 0) (h' : ¬t.val % 4 = 3) (a l : Fin 1024) :
    (outsAt0 m c t.val t.isLt).2 (ix2 a l) = (outsAt0 m c (t.val - 1) (Nat.lt_of_le_of_lt (Nat.sub_le _ _) t.isLt)).2 (ix2 a l) + part (iblk m c 0 t) (iblk m c 1 t) a l := by
  rw [outsAt0_B m c t h h']
  dsimp only
  rw [scB, step_apply]
  rfl
theorem last (t : Fin cfg0.N) (h : ¬t.val % 4 = 0) (h' : t.val % 4 = 3) (a l : Fin 1024) :
    (outsAt0 m c t.val t.isLt).1 (ix2 a l) = ((outsAt0 m c (t.val - 1) (Nat.lt_of_le_of_lt (Nat.sub_le _ _) t.isLt)).2 (ix2 a l) + part (iblk m c 0 t) (iblk m c 1 t) a l) * Ideal.ofBits .f32 0x3F000000#32 := by
  rw [outsAt0_C m c t h h']
  dsimp only
  rw [otC, last_apply, step_apply]
  rfl
/-- The whole product. -/
def prod (x : FVec Ideal S8192x4096 .f32) (w : FVec Ideal S8192x2048 .f32) (a : Fin 4096) (l : Fin 2048) : EReal := ∑ k : Fin 8192, x (ix2 k a) * w (ix2 k l)
theorem part_val (t : Fin cfg0.N) (a l : Fin 1024) (j : Fin 4) (A : Fin 4096) (L : Fin 2048) (hj : t.val % 4 = j.val) (hA : 1024 * (t.val / 8) + a.val = A.val) (hL : 1024 * (t.val / 4 % 2) + l.val = L.val) :
    part (iblk m c 0 t) (iblk m c 1 t) a l = ∑ k : Fin 2048, X m c (ix2 ⟨j.val * 2048 + k.val, by omega⟩ A) * W m c (ix2 ⟨j.val * 2048 + k.val, by omega⟩ L) := by
  unfold part
  refine Finset.sum_congr rfl fun k _ => ?_
  rw [ib0 m c t k a (by omega) (by omega), ib1 m c t k l (by omega) (by omega), V0, V1]
  have e : 2048 * (t.val % 4) + k.val = j.val * 2048 + k.val := by omega
  simp only [e, hA, hL, Fin.eta]
theorem out_val (t : Fin cfg0.N) (h : t.val % 4 = 3) (a l : Fin 1024) (A : Fin 4096) (L : Fin 2048) (hA : 1024 * (t.val / 8) + a.val = A.val) (hL : 1024 * (t.val / 4 % 2) + l.val = L.val) :
    (outsAt0 m c t.val t.isLt).1 (ix2 a l) = prod (X m c) (W m c) A L * Ideal.ofBits .f32 0x3F000000#32 := by
  have ht := t.isLt
  rw [last m c t (by omega) h, next m c ⟨t.val - 1, by omega⟩ (by dsimp only; omega) (by dsimp only; omega), next m c ⟨t.val - 1 - 1, by omega⟩ (by dsimp only; omega) (by dsimp only; omega),
    first m c ⟨t.val - 1 - 1 - 1, by omega⟩ (by dsimp only; omega),
    part_val m c t a l 3 A L h hA hL, part_val m c ⟨t.val - 1, by omega⟩ a l 2 A L (by dsimp only; omega) (by dsimp only; omega) (by dsimp only; omega),
    part_val m c ⟨t.val - 1 - 1, by omega⟩ a l 1 A L (by dsimp only; omega) (by dsimp only; omega) (by dsimp only; omega),
    part_val m c ⟨t.val - 1 - 1 - 1, by omega⟩ a l 0 A L (by dsimp only; omega) (by dsimp only; omega) (by dsimp only; omega)]
  unfold prod
  rw [Fin.sum_univ_tiles 4 2048 rfl, Fin.sum_univ_four]
/-- The result. -/
def res : FVec Ideal S4096x2048 .f32 := fun i => prod (X m c) (W m c) (i 0) (i 1) * Ideal.ofBits .f32 0x3F000000#32
theorem final : (dats m 0 c).arrAt 2 cfg0.N = res m c := by
  refine (dats m 0 c).arrAt_eq_of_covers 2 _ (by decide +kernel) fun t hfl y => ?_
  have ht := pt_lt t
  have hl : t.val % 4 = 3 := (flush0_2 t).mp hfl
  have e0 : ((win0_2.blk t).view.emb y 0).val = 1024 * (t.val / 8) + (y 0).val := by
    blk_simp [idx_in t]
    first | done | omega
  have e1 : ((win0_2.blk t).view.emb y 1).val = 1024 * (t.val / 4 % 2) + (y 1).val := by
    blk_simp [idx_in t]
    first | done | omega
  blk_simp
  rw [after0_2]
  obtain ⟨a, l, rfl⟩ : ∃ (a l : Fin 1024), y = ix2 a l := ⟨y 0, y 1, by funext i; fin_cases i <;> rfl⟩
  exact (out_val m c t hl a l _ _ e0.symm e1.symm).trans rfl
theorem run (g : Dev nD → PrngReg) : θ_run defs (onTc (τ := τ) (main (F := Ideal))) ⟨m, fun _ => 0, g⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (Value.run_blocks m g)
/-- The reference's result is the same: one half goes into the sum. -/
theorem ref_val (g u : FVec Ideal S8192x4096 .f32) (w : FVec Ideal S8192x2048 .f32) (i : S4096x2048.Idx) :
    Cert.Reference3Ideal.Read.val_main_v8 (F := Ideal) g u w i = prod (Cert.Reference3Ideal.Read.val_main_v1 (F := Ideal) g u) w (i 0) (i 1) * Ideal.ofBits .f32 0x3F000000#32 := by
  rw [Cert.Reference3Ideal.Read.val_main_v8_apply, Cert.Reference3Ideal.Read.val_main_v7_apply]
  unfold prod
  rw [half_sum]
  refine Finset.sum_congr rfl fun k _ => ?_
  rw [Cert.Reference3Ideal.Read.val_main_v6_apply, Cert.Reference3Ideal.Read.val_main_v5_apply, Cert.Reference3Ideal.Read.val_main_cst_0_apply]
  refine (mul_assoc _ _ _).trans (congrArg (Ideal.ofBits .f32 0x3F000000#32 * ·) ((mul_comm _ _).trans ?_))
  refine congrArg₂ (· * ·) (congrArg (Cert.Reference3Ideal.Read.val_main_v1 (F := Ideal) g u) ?_) (congrArg w ?_) <;> (funext b; fin_cases b <;> rfl)
theorem frame_ideal : Cert.quiescent_Kernel3Ideal := fun m ρ _ => Cert.Kernel3Ideal.Gen.frame (F := Ideal) m ρ
theorem frame_ref : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)
theorem values : Cert.algebraic_Kernel3Ideal_Reference3Ideal := by
  intro m g m' g' _ hargs
  refine ⟨res m, run m g, (θ_run Cert.Reference3Ideal.defs _ _).mono (fun r h c => ?_) (Cert.Reference3Ideal.Value.run (F := Ideal) m' g')⟩
  obtain ⟨a0, a1, a2, a3⟩ := hargs c
  refine ⟨(h c).1.trans ?_, (h c).2⟩
  rw [Cert.Reference3Ideal.Read.val_main_v8_eq, a0, a1, a3]
  exact funext fun i => ref_val _ _ _ i
end Cert.Proof.DownDw
-- ==== Proof.GateDw.lean ====
module
public import proofs.«01_k».proof.Defs
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Claim
@[expose] public section
set_option maxRecDepth 65536
noncomputable section
/-! The gradient of the feed-forward network's gate and up weights. -/
namespace Cert.Proof.GateDw
open Cert.Kernel4Ideal Cert.Kernel4Ideal.Gen
open Idealize.ShloMosaic Idealize.ShloMosaic.TcCoe Idealize.SL.Sem
theorem hz : (![0, 0] : Fin 2 → Nat) = fun _ => 0 := funext fun a => by fin_cases a <;> rfl
theorem hz3 : (![0, 0, 0] : Fin 3 → Nat) = fun _ => 0 := funext fun a => by fin_cases a <;> rfl
section
variable {F : FTy → Type} [FloatOps F] (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1x1024x1024 .f32) (h5 : a5.IsWhole) (a6 : Memref sig .tc .vmem S1024x1024 .f32) (h6 : a6.IsWhole)
  (x : Vec F S2048x1024 .bf16) (w : Vec F S2048x1024 .bf16) (s : Vec F S1024x1024 .f32)
theorem scA (h0 : cond0_0 i) (h1 : ¬cond0_1 i) : sout0_A_0 c i a3 h3 a4 h4 a5 h5 a6 h6 h0 h1 x w = k0_pay2 k0_pay1 x w := by
  unfold sout0_A_0
  rw [View.read_writes_eq_canon _ _ _ (scover0_A_0 c i a3 h3 a4 h4 a5 h5 a6 h6 h0 h1 x w)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz]
theorem scB (h0 : ¬cond0_0 i) (h1 : ¬cond0_1 i) : sout0_B_0 c i a3 h3 a4 h4 a5 h5 a6 h6 h0 h1 x w s = k0_pay2 s x w := by
  unfold sout0_B_0
  rw [View.read_writes_eq_canon _ _ _ (scover0_B_0 c i a3 h3 a4 h4 a5 h5 a6 h6 h0 h1 x w s)]
  unfold kernelRun0_B
  dsimp only
  rw [View.canon_unit_zero hz]
  simp only [View.readAt_eq_ld, h3.read_unread, h4.read_unread, h6.read_unread, View.ld_unit_zero (S := S2048x1024) hz, View.ld_unit_zero (S := S1024x1024) hz]
theorem otC (h0 : ¬cond0_0 i) (h1 : cond0_1 i) : out0_C_2 c i a3 h3 a4 h4 a5 h5 a6 h6 h0 h1 x w s = k0_pay3 (k0_pay2 s x w) := by
  unfold out0_C_2
  rw [View.read_writes_eq_canon _ _ _ (cover0_C_2 c i a3 h3 a4 h4 a5 h5 a6 h6 h0 h1 x w s)]
  unfold kernelRun0_C
  dsimp only
  sl_unfold_words
  rw [View.canon_unit_zero hz3, View.readCov_unit_zero (S := S1024x1024) _ hz]
  simp only [View.readAt_eq_ld, h3.read_unread, h4.read_unread, h6.read_unread, View.ld_unit_zero (S := S2048x1024) hz, View.ld_unit_zero (S := S1024x1024) hz]
end
theorem step_apply (s : FVec Ideal S1024x1024 .f32) (x w : FVec Ideal S2048x1024 .bf16) (a l : Fin 1024) :
    k0_pay2 (F := Ideal) s x w (ix2 a l) = s (ix2 a l) + ∑ k : Fin 2048, x (ix2 k a) * w (ix2 k l) := by
  pointwise [k0_pay2]
theorem zero_apply (a l : Fin 1024) : (k0_pay1 : FVec Ideal S1024x1024 .f32) (ix2 a l) = 0 := by
  pointwise [k0_pay1]
theorem last_apply (s : FVec Ideal S1024x1024 .f32) (a l : Fin 1024) : k0_pay3 (F := Ideal) s (ix3 0 a l) = s (ix2 a l) := by
  pointwise [k0_pay3]
variable (m : (ℓ : Loc nD τ sig) → Buf (Elt Ideal) ℓ) (c : Dev nD)
theorem idx_in : ∀ t : Fin cfg0.N, win0_0.index t = ![t.val % 4, t.val / 16] ∧ win0_1.index t = ![t.val % 4, t.val / 4 % 4] ∧ win0_2.index t = ![t.val / 4 % 4, t.val / 16, 0] :=
  (by decide +kernel : ∀ t : Fin grid0.N, _)
theorem pt_lt (t : Fin cfg0.N) : t.val < 32 := by
  have h : t.val < grid0.N := t.isLt
  rwa [N_0] at h
theorem ib0 (t : Fin cfg0.N) (k : Fin 2048) (a : Fin 1024) (h1 h2) : (iblk m c 0 t : FVec Ideal S2048x1024 .bf16) (ix2 k a)
    = (V m c main_v0 : FVec Ideal S8192x2048 .bf16) (ix2 ⟨2048 * (t.val % 4) + k, h1⟩ ⟨1024 * (t.val / 16) + a, h2⟩) := by
  have ht := pt_lt t
  blk_ext [iblk, idx_in t]
theorem ib1 (t : Fin cfg0.N) (k : Fin 2048) (a : Fin 1024) (h1 h2) : (iblk m c 1 t : FVec Ideal S2048x1024 .bf16) (ix2 k a)
    = (V m c main_v1 : FVec Ideal S8192x4096 .bf16) (ix2 ⟨2048 * (t.val % 4) + k, h1⟩ ⟨1024 * (t.val / 4 % 4) + a, h2⟩) := by
  have ht := pt_lt t
  blk_ext [iblk, idx_in t]
theorem V0 : (V m c main_v0 : FVec Ideal S8192x2048 .bf16) = m ((c : Thread nD τ).loc main_arg0) := by
  show StableHlo.after hostOps0 _ (Proc.tc.devRef main_v0) = _
  entry_read
  rfl
theorem V1 : (V m c main_v1 : FVec Ideal S8192x4096 .bf16) = m ((c : Thread nD τ).loc main_arg2) := by
  show StableHlo.after hostOps0 _ (Proc.tc.devRef main_v1) = _
  entry_read
  rfl
/-- One tile's part of a product. -/
def part (x w : FVec Ideal S2048x1024 .bf16) (a l : Fin 1024) : EReal := ∑ k : Fin 2048, x (ix2 k a) * w (ix2 k l)
/-- The first operand. -/
abbrev X : FVec Ideal S8192x2048 .f32 := m ((c : Thread nD τ).loc main_arg0)
/-- The second operand. -/
abbrev W : FVec Ideal S8192x4096 .f32 := m ((c : Thread nD τ).loc main_arg2)
theorem first (t : Fin cfg0.N) (h : t.val % 4 = 0) (a l : Fin 1024) : (outsAt0 m c t.val t.isLt).2 (ix2 a l) = part (iblk m c 0 t) (iblk m c 1 t) a l := by
  rw [outsAt0_A m c t h (by omega)]
  dsimp only
  rw [scA, step_apply, zero_apply, zero_add]
  rfl
theorem next (t : Fin cfg0.N) (h : ¬t.val % 4 = 0) (h' : ¬t.val % 4 = 3) (a l : Fin 1024) :
    (outsAt0 m c t.val t.isLt).2 (ix2 a l) = (outsAt0 m c (t.val - 1) (Nat.lt_of_le_of_lt (Nat.sub_le _ _) t.isLt)).2 (ix2 a l) + part (iblk m c 0 t) (iblk m c 1 t) a l := by
  rw [outsAt0_B m c t h h']
  dsimp only
  rw [scB, step_apply]
  rfl
theorem last (t : Fin cfg0.N) (h : ¬t.val % 4 = 0) (h' : t.val % 4 = 3) (a l : Fin 1024) :
    (outsAt0 m c t.val t.isLt).1 (ix3 0 a l) = (outsAt0 m c (t.val - 1) (Nat.lt_of_le_of_lt (Nat.sub_le _ _) t.isLt)).2 (ix2 a l) + part (iblk m c 0 t) (iblk m c 1 t) a l := by
  rw [outsAt0_C m c t h h']
  dsimp only
  rw [otC, last_apply, step_apply]
  rfl
/-- The whole product. -/
def prod (x : FVec Ideal S8192x2048 .f32) (w : FVec Ideal S8192x4096 .f32) (a : Fin 2048) (l : Fin 4096) : EReal := ∑ k : Fin 8192, x (ix2 k a) * w (ix2 k l)
theorem part_val (t : Fin cfg0.N) (a l : Fin 1024) (j : Fin 4) (A : Fin 2048) (L : Fin 4096) (hj : t.val % 4 = j.val) (hA : 1024 * (t.val / 16) + a.val = A.val) (hL : 1024 * (t.val / 4 % 4) + l.val = L.val) :
    part (iblk m c 0 t) (iblk m c 1 t) a l = ∑ k : Fin 2048, X m c (ix2 ⟨j.val * 2048 + k.val, by omega⟩ A) * W m c (ix2 ⟨j.val * 2048 + k.val, by omega⟩ L) := by
  unfold part
  refine Finset.sum_congr rfl fun k _ => ?_
  rw [ib0 m c t k a (by omega) (by omega), ib1 m c t k l (by omega) (by omega), V0, V1]
  have e : 2048 * (t.val % 4) + k.val = j.val * 2048 + k.val := by omega
  simp only [e, hA, hL, Fin.eta]
theorem out_val (t : Fin cfg0.N) (h : t.val % 4 = 3) (a l : Fin 1024) (A : Fin 2048) (L : Fin 4096) (hA : 1024 * (t.val / 16) + a.val = A.val) (hL : 1024 * (t.val / 4 % 4) + l.val = L.val) :
    (outsAt0 m c t.val t.isLt).1 (ix3 0 a l) = prod (X m c) (W m c) A L := by
  have ht := t.isLt
  rw [last m c t (by omega) h, next m c ⟨t.val - 1, by omega⟩ (by dsimp only; omega) (by dsimp only; omega), next m c ⟨t.val - 1 - 1, by omega⟩ (by dsimp only; omega) (by dsimp only; omega),
    first m c ⟨t.val - 1 - 1 - 1, by omega⟩ (by dsimp only; omega),
    part_val m c t a l 3 A L h hA hL, part_val m c ⟨t.val - 1, by omega⟩ a l 2 A L (by dsimp only; omega) (by dsimp only; omega) (by dsimp only; omega),
    part_val m c ⟨t.val - 1 - 1, by omega⟩ a l 1 A L (by dsimp only; omega) (by dsimp only; omega) (by dsimp only; omega),
    part_val m c ⟨t.val - 1 - 1 - 1, by omega⟩ a l 0 A L (by dsimp only; omega) (by dsimp only; omega) (by dsimp only; omega)]
  unfold prod
  rw [Fin.sum_univ_tiles 4 2048 rfl, Fin.sum_univ_four]
/-- The result, by chip. -/
def res : FVec Ideal S4x2048x1024 .f32 := fun i => prod (X m c) (W m c) (i 1) ⟨1024 * (i 0).val + (i 2).val, by have h0 : (i 0).val < 4 := (i 0).isLt; have h2 : (i 2).val < 1024 := (i 2).isLt; omega⟩
theorem final : (dats m 0 c).arrAt 2 cfg0.N = res m c := by
  refine (dats m 0 c).arrAt_eq_of_covers 2 _ (by decide +kernel) fun t hfl y => ?_
  have ht := pt_lt t
  have hl : t.val % 4 = 3 := (flush0_2 t).mp hfl
  have e0 : ((win0_2.blk t).view.emb y 0).val = t.val / 4 % 4 + (y 0).val := by
    blk_simp [idx_in t]
    first | done | omega
  have e1 : ((win0_2.blk t).view.emb y 1).val = 1024 * (t.val / 16) + (y 1).val := by
    blk_simp [idx_in t]
    first | done | omega
  have e2 : ((win0_2.blk t).view.emb y 2).val = (y 2).val := by
    blk_simp [idx_in t]
    first | done | omega
  blk_simp
  rw [after0_2]
  obtain ⟨a, l, rfl⟩ : ∃ (a l : Fin 1024), y = ix3 0 a l := ⟨y 1, y 2, by
    funext i
    fin_cases i
    · exact Subsingleton.elim (α := Fin 1) _ _
    · rfl
    · rfl⟩
  refine (out_val m c t hl a l _ _ ?_ ?_).trans rfl
  · exact e1.symm
  · show _ = 1024 * ((win0_2.blk t).view.emb (ix3 0 a l) 0).val + ((win0_2.blk t).view.emb (ix3 0 a l) 2).val
    rw [e0, e2]
    show 1024 * (t.val / 4 % 4) + l.val = 1024 * (t.val / 4 % 4 + 0) + l.val
    rfl
theorem run (g : Dev nD → PrngReg) : θ_run defs (onTc (τ := τ) (main (F := Ideal))) ⟨m, fun _ => 0, g⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m g)
/-- The reference's result is the same. -/
theorem ref_val (x : FVec Ideal S8192x2048 .f32) (w : FVec Ideal S8192x4096 .f32) (i : S4x2048x1024.Idx) :
    Cert.Reference4Ideal.Read.val_main_v4 (F := Ideal) x w i = prod x w (i 1) ⟨1024 * (i 0).val + (i 2).val, by have h0 : (i 0).val < 4 := (i 0).isLt; have h2 : (i 2).val < 1024 := (i 2).isLt; omega⟩ := by
  obtain ⟨p, a, l, rfl⟩ : ∃ (p : Fin 4) (a : Fin 2048) (l : Fin 1024), i = ix3 p a l := ⟨i 0, i 1, i 2, by funext i; fin_cases i <;> rfl⟩
  rw [Cert.Reference4Ideal.Read.val_main_v4_apply, Cert.Reference4Ideal.Read.val_main_v3_apply, Cert.Reference4Ideal.Read.val_main_v2_apply, Cert.Reference4Ideal.Read.val_main_v1_apply]
  unfold prod
  refine Finset.sum_congr rfl fun k _ => ?_
  rw [mul_comm]
  refine congrArg₂ (· * ·) (congrArg x ?_) (congrArg w ?_)
  · funext b
    fin_cases b
    · rfl
    · refine Fin.ext ?_
      show ((a.val * 4 + p.val) * 1024 + l.val) / 4096 = a.val
      omega
  · funext b
    fin_cases b
    · rfl
    · refine Fin.ext ?_
      show ((a.val * 4 + p.val) * 1024 + l.val) % 4096 = 1024 * p.val + l.val
      omega
theorem frame_ideal : Cert.quiescent_Kernel4Ideal := fun m ρ _ => Cert.Kernel4Ideal.Gen.frame (F := Ideal) m ρ
theorem frame_ref : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)
theorem values : Cert.algebraic_Kernel4Ideal_Reference4Ideal := by
  intro m g m' g' _ hargs
  refine ⟨res m, run m g, (θ_run Cert.Reference4Ideal.defs _ _).mono (fun r h c => ?_) (Cert.Reference4Ideal.Value.run (F := Ideal) m' g')⟩
  obtain ⟨a0, a1, a2⟩ := hargs c
  refine ⟨(h c).1.trans ?_, (h c).2⟩
  rw [Cert.Reference4Ideal.Read.val_main_v4_eq, a0, a2]
  exact funext fun i => ref_val _ _ i
end Cert.Proof.GateDw
-- ==== Proof.GateDx.lean ====
module
public import proofs.«01_k».proof.Defs
public import proofs.«01_k».proof.Proof.MatSum
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Claim
@[expose] public section
set_option maxRecDepth 65536
noncomputable section
/-! The gradient of the feed-forward network's input through the gate. -/
namespace Cert.Proof.GateDx
open Cert.Kernel5Ideal Cert.Kernel5Ideal.Gen Cert.Proof.MatSum
open Idealize.ShloMosaic Idealize.ShloMosaic.TcCoe Idealize.SL.Sem
section
variable {F : FTy → Type} [FloatOps F] (c : Dev nD) (i : grid0.Coords) (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (x : Vec F S1024x2048 .bf16) (w : Vec F S1024x2048 .bf16) (s : Vec F S1024x1024 .f32)
theorem scA (h0 : cond0_0 i) (h1 : ¬cond0_1 i) : sout0_A_0 c i a3 h3 a4 h4 a5 h5 a6 h6 h0 h1 x w = k0_pay2 k0_pay1 x w := by
  unfold sout0_A_0
  rw [View.read_writes_eq_canon _ _ _ (scover0_A_0 c i a3 h3 a4 h4 a5 h5 a6 h6 h0 h1 x w)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S1024x2048) zeros2]
theorem otB (h0 : ¬cond0_0 i) (h1 : cond0_1 i) : out0_B_2 c i a3 h3 a4 h4 a5 h5 a6 h6 h0 h1 x w s = k0_pay2 s x w := by
  unfold out0_B_2
  rw [View.read_writes_eq_canon _ _ _ (cover0_B_2 c i a3 h3 a4 h4 a5 h5 a6 h6 h0 h1 x w s)]
  unfold kernelRun0_B
  dsimp only
  sl_unfold_words
  rw [View.canon_unit_zero zeros2, View.readCov_unit_zero (S := S1024x1024) _ zeros2]
  simp only [View.readAt_eq_ld, h3.read_unread, h4.read_unread, h6.read_unread, View.ld_unit_zero (S := S1024x2048) zeros2, View.ld_unit_zero (S := S1024x1024) zeros2]
end
theorem step_apply (s : FVec Ideal S1024x1024 .f32) (x w : FVec Ideal S1024x2048 .bf16) (a l : Fin 1024) :
    k0_pay2 (F := Ideal) s x w (ix2 a l) = s (ix2 a l) + ∑ k : Fin 2048, x (ix2 a k) * w (ix2 l k) := by
  pointwise [k0_pay2]
theorem zero_apply (a l : Fin 1024) : (k0_pay1 : FVec Ideal S1024x1024 .f32) (ix2 a l) = 0 := by
  pointwise [k0_pay1]
variable (m : (ℓ : Loc nD τ sig) → Buf (Elt Ideal) ℓ) (c : Dev nD)
theorem idx_in : ∀ t : Fin cfg0.N, win0_0.index t = ![t.val / 4, t.val % 2] ∧ win0_1.index t = ![t.val / 2 % 2, t.val % 2] ∧ win0_2.index t = ![t.val / 4, t.val / 2 % 2] :=
  (by decide +kernel : ∀ t : Fin grid0.N, _)
theorem pt_lt (t : Fin cfg0.N) : t.val < 32 := by
  have h : t.val < grid0.N := t.isLt
  rwa [N_0] at h
theorem ib0 (t : Fin cfg0.N) (a : Fin 1024) (k : Fin 2048) (h1 h2) : (iblk m c 0 t : FVec Ideal S1024x2048 .bf16) (ix2 a k)
    = (V m c main_v0 : FVec Ideal S8192x4096 .bf16) (ix2 ⟨1024 * (t.val / 4) + a, h1⟩ ⟨2048 * (t.val % 2) + k, h2⟩) := by
  have ht := pt_lt t
  blk_ext [iblk, idx_in t]
theorem ib1 (t : Fin cfg0.N) (a : Fin 1024) (k : Fin 2048) (h1 h2) : (iblk m c 1 t : FVec Ideal S1024x2048 .bf16) (ix2 a k)
    = (V m c main_v1 : FVec Ideal S2048x4096 .bf16) (ix2 ⟨1024 * (t.val / 2 % 2) + a, h1⟩ ⟨2048 * (t.val % 2) + k, h2⟩) := by
  have ht := pt_lt t
  blk_ext [iblk, idx_in t]
theorem V0 : (V m c main_v0 : FVec Ideal S8192x4096 .bf16) = m ((c : Thread nD τ).loc main_arg2) := by
  show StableHlo.after hostOps0 _ (Proc.tc.devRef main_v0) = _
  entry_read
  rfl
theorem V1 : (V m c main_v1 : FVec Ideal S2048x4096 .bf16) = m ((c : Thread nD τ).loc main_arg1) := by
  show StableHlo.after hostOps0 _ (Proc.tc.devRef main_v1) = _
  entry_read
  rfl
/-- One tile's part of a product. -/
def part (x w : FVec Ideal S1024x2048 .bf16) (a l : Fin 1024) : EReal := ∑ k : Fin 2048, x (ix2 a k) * w (ix2 l k)
/-- The first operand. -/
abbrev X : FVec Ideal S8192x4096 .f32 := m ((c : Thread nD τ).loc main_arg2)
/-- The second operand. -/
abbrev W : FVec Ideal S2048x4096 .f32 := m ((c : Thread nD τ).loc main_arg1)
theorem first (t : Fin cfg0.N) (h : t.val % 2 = 0) (a l : Fin 1024) : (outsAt0 m c t.val t.isLt).2 (ix2 a l) = part (iblk m c 0 t) (iblk m c 1 t) a l := by
  rw [outsAt0_A m c t h (by omega)]
  dsimp only
  rw [scA, step_apply, zero_apply, zero_add]
  rfl
theorem last (t : Fin cfg0.N) (h : ¬t.val % 2 = 0) (h' : t.val % 2 = 1) (a l : Fin 1024) :
    (outsAt0 m c t.val t.isLt).1 (ix2 a l) = (outsAt0 m c (t.val - 1) (Nat.lt_of_le_of_lt (Nat.sub_le _ _) t.isLt)).2 (ix2 a l) + part (iblk m c 0 t) (iblk m c 1 t) a l := by
  rw [outsAt0_B m c t h h']
  dsimp only
  rw [otB, step_apply]
  rfl
/-- The whole product. -/
def prod (x : FVec Ideal S8192x4096 .f32) (w : FVec Ideal S2048x4096 .f32) (a : Fin 8192) (l : Fin 2048) : EReal := ∑ k : Fin 4096, x (ix2 a k) * w (ix2 l k)
theorem part_val (t : Fin cfg0.N) (a l : Fin 1024) (j : Fin 2) (A : Fin 8192) (L : Fin 2048) (hj : t.val % 2 = j.val) (hA : 1024 * (t.val / 4) + a.val = A.val) (hL : 1024 * (t.val / 2 % 2) + l.val = L.val) :
    part (iblk m c 0 t) (iblk m c 1 t) a l = ∑ k : Fin 2048, X m c (ix2 A ⟨j.val * 2048 + k.val, by omega⟩) * W m c (ix2 L ⟨j.val * 2048 + k.val, by omega⟩) := by
  unfold part
  refine Finset.sum_congr rfl fun k _ => ?_
  rw [ib0 m c t a k (by omega) (by omega), ib1 m c t l k (by omega) (by omega), V0, V1]
  have e : 2048 * (t.val % 2) + k.val = j.val * 2048 + k.val := by omega
  simp only [e, hA, hL, Fin.eta]
theorem out_val (t : Fin cfg0.N) (h : t.val % 2 = 1) (a l : Fin 1024) (A : Fin 8192) (L : Fin 2048) (hA : 1024 * (t.val / 4) + a.val = A.val) (hL : 1024 * (t.val / 2 % 2) + l.val = L.val) :
    (outsAt0 m c t.val t.isLt).1 (ix2 a l) = prod (X m c) (W m c) A L := by
  have ht := t.isLt
  rw [last m c t (by omega) h, first m c ⟨t.val - 1, by omega⟩ (by dsimp only; omega),
    part_val m c t a l 1 A L h hA hL, part_val m c ⟨t.val - 1, by omega⟩ a l 0 A L (by dsimp only; omega) (by dsimp only; omega) (by dsimp only; omega)]
  unfold prod
  rw [Fin.sum_univ_tiles 2 2048 rfl, Fin.sum_univ_two]
/-- The result. -/
def res : FVec Ideal S8192x2048 .f32 := fun i => prod (X m c) (W m c) (i 0) (i 1)
theorem final : (dats m 0 c).arrAt 2 cfg0.N = res m c := by
  refine (dats m 0 c).arrAt_eq_of_covers 2 _ (by decide +kernel) fun t hfl y => ?_
  have ht := pt_lt t
  have hl : t.val % 2 = 1 := (flush0_2 t).mp hfl
  have e0 : ((win0_2.blk t).view.emb y 0).val = 1024 * (t.val / 4) + (y 0).val := by
    blk_simp [idx_in t]
    first | done | omega
  have e1 : ((win0_2.blk t).view.emb y 1).val = 1024 * (t.val / 2 % 2) + (y 1).val := by
    blk_simp [idx_in t]
    first | done | omega
  blk_simp
  rw [after0_2]
  obtain ⟨a, l, rfl⟩ : ∃ (a l : Fin 1024), y = ix2 a l := ⟨y 0, y 1, by funext i; fin_cases i <;> rfl⟩
  exact (out_val m c t hl a l _ _ e0.symm e1.symm).trans rfl
theorem run (g : Dev nD → PrngReg) : θ_run defs (onTc (τ := τ) (main (F := Ideal))) ⟨m, fun _ => 0, g⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m g)
/-- The reference's result is the same. -/
theorem ref_val (w : FVec Ideal S2048x4096 .f32) (x : FVec Ideal S8192x4096 .f32) (i : S8192x2048.Idx) :
    Cert.Reference5Ideal.Read.val_main_v1 (F := Ideal) w x i = prod x w (i 0) (i 1) := by
  rw [Cert.Reference5Ideal.Read.val_main_v1_apply]
  unfold prod
  refine Finset.sum_congr rfl fun k _ => ?_
  refine congrArg₂ (· * ·) (congrArg x ?_) (congrArg w ?_) <;> (funext b; fin_cases b <;> rfl)
theorem frame_ideal : Cert.quiescent_Kernel5Ideal := fun m ρ _ => Cert.Kernel5Ideal.Gen.frame (F := Ideal) m ρ
theorem frame_ref : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)
theorem values : Cert.algebraic_Kernel5Ideal_Reference5Ideal := by
  intro m g m' g' _ hargs
  refine ⟨res m, run m g, (θ_run Cert.Reference5Ideal.defs _ _).mono (fun r h c => ?_) (Cert.Reference5Ideal.Value.run (F := Ideal) m' g')⟩
  obtain ⟨a0, a1, a2⟩ := hargs c
  refine ⟨(h c).1.trans ?_, (h c).2⟩
  rw [Cert.Reference5Ideal.Read.val_main_v1_eq, a1, a2]
  exact funext fun i => ref_val _ _ i
end Cert.Proof.GateDx
-- ==== Proof.UpDx.lean ====
module
public import proofs.«01_k».proof.Defs
public import proofs.«01_k».proof.Proof.MatSum
public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.Claim
@[expose] public section
set_option maxRecDepth 65536
noncomputable section
/-! The gradient of the feed-forward network's input through the up projection, added to the part through the gate. -/
namespace Cert.Proof.UpDx
open Cert.Kernel6Ideal Cert.Kernel6Ideal.Gen Cert.Proof.MatSum
open Idealize.ShloMosaic Idealize.ShloMosaic.TcCoe Idealize.SL.Sem
section
variable {F : FTy → Type} [FloatOps F] (c : Dev nD) (i : grid0.Coords) (a3 : Memref sig .tc .vmem S1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x : Vec F S1024x2048 .bf16) (w : Vec F S1024x2048 .bf16) (z : Vec F S1024x1024 .f32) (s : Vec F S1024x1024 .f32)
theorem scA (h0 : cond0_0 i) (h1 : ¬cond0_1 i) : sout0_A_0 c i a3 h3 a4 h4 a5 h5 a6 h6 a7 h7 h0 h1 x w z = k0_pay2 k0_pay1 x w := by
  unfold sout0_A_0
  rw [View.read_writes_eq_canon _ _ _ (scover0_A_0 c i a3 h3 a4 h4 a5 h5 a6 h6 a7 h7 h0 h1 x w z)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S1024x2048) zeros2]
theorem otB (h0 : ¬cond0_0 i) (h1 : cond0_1 i) : out0_B_3 c i a3 h3 a4 h4 a5 h5 a6 h6 a7 h7 h0 h1 x w z s = k0_pay3 (k0_pay2 s x w) z := by
  unfold out0_B_3
  rw [View.read_writes_eq_canon _ _ _ (cover0_B_3 c i a3 h3 a4 h4 a5 h5 a6 h6 a7 h7 h0 h1 x w z s)]
  unfold kernelRun0_B
  dsimp only
  sl_unfold_words
  rw [View.canon_unit_zero zeros2, View.readCov_unit_zero (S := S1024x1024) _ zeros2]
  simp only [View.readAt_eq_ld, h3.read_unread, h4.read_unread, h5.read_unread, h7.read_unread, View.ld_unit_zero (S := S1024x2048) zeros2, View.ld_unit_zero (S := S1024x1024) zeros2]
end
theorem step_apply (s : FVec Ideal S1024x1024 .f32) (x w : FVec Ideal S1024x2048 .bf16) (a l : Fin 1024) :
    k0_pay2 (F := Ideal) s x w (ix2 a l) = s (ix2 a l) + ∑ k : Fin 2048, x (ix2 a k) * w (ix2 l k) := by
  pointwise [k0_pay2]
theorem zero_apply (a l : Fin 1024) : (k0_pay1 : FVec Ideal S1024x1024 .f32) (ix2 a l) = 0 := by
  pointwise [k0_pay1]
theorem last_apply (s z : FVec Ideal S1024x1024 .f32) (a l : Fin 1024) : k0_pay3 (F := Ideal) s z (ix2 a l) = s (ix2 a l) + z (ix2 a l) := by
  pointwise [k0_pay3]
variable (m : (ℓ : Loc nD τ sig) → Buf (Elt Ideal) ℓ) (c : Dev nD)
theorem idx_in : ∀ t : Fin cfg0.N, win0_0.index t = ![t.val / 4, t.val % 2] ∧ win0_1.index t = ![t.val / 2 % 2, t.val % 2] ∧ win0_2.index t = ![t.val / 4, t.val / 2 % 2] ∧ win0_3.index t = ![t.val / 4, t.val / 2 % 2] :=
  (by decide +kernel : ∀ t : Fin grid0.N, _)
theorem pt_lt (t : Fin cfg0.N) : t.val < 32 := by
  have h : t.val < grid0.N := t.isLt
  rwa [N_0] at h
theorem ib0 (t : Fin cfg0.N) (a : Fin 1024) (k : Fin 2048) (h1 h2) : (iblk m c 0 t : FVec Ideal S1024x2048 .bf16) (ix2 a k)
    = (V m c main_v2 : FVec Ideal S8192x4096 .bf16) (ix2 ⟨1024 * (t.val / 4) + a, h1⟩ ⟨2048 * (t.val % 2) + k, h2⟩) := by
  have ht := pt_lt t
  blk_ext [iblk, idx_in t]
theorem ib1 (t : Fin cfg0.N) (a : Fin 1024) (k : Fin 2048) (h1 h2) : (iblk m c 1 t : FVec Ideal S1024x2048 .bf16) (ix2 a k)
    = (V m c main_v3 : FVec Ideal S2048x4096 .bf16) (ix2 ⟨1024 * (t.val / 2 % 2) + a, h1⟩ ⟨2048 * (t.val % 2) + k, h2⟩) := by
  have ht := pt_lt t
  blk_ext [iblk, idx_in t]
theorem V0 : (V m c main_v2 : FVec Ideal S8192x4096 .bf16) = m ((c : Thread nD τ).loc main_arg4) := by
  show StableHlo.after hostOps0 _ (Proc.tc.devRef main_v2) = _
  entry_read
  rfl
theorem V1 : (V m c main_v3 : FVec Ideal S2048x4096 .bf16) = m ((c : Thread nD τ).loc main_arg2) := by
  show StableHlo.after hostOps0 _ (Proc.tc.devRef main_v3) = _
  entry_read
  rfl
/-- The part of the gradient that comes through the gate. -/
def gate : FVec Ideal S8192x2048 .f32 := Cert.Reference6Ideal.Read.val_main_v3 (F := Ideal) (m ((c : Thread nD τ).loc main_arg1)) (m ((c : Thread nD τ).loc main_arg3))
theorem V2 : (V m c main_v1 : FVec Ideal S8192x2048 .f32) = gate m c := by
  show StableHlo.after hostOps0 _ (Proc.tc.devRef main_v1) = _
  entry_read
  rfl
theorem ib2 (t : Fin cfg0.N) (a l : Fin 1024) (h1 h2) : (iblk m c 2 t : FVec Ideal S1024x1024 .f32) (ix2 a l)
    = (V m c main_v1 : FVec Ideal S8192x2048 .f32) (ix2 ⟨1024 * (t.val / 4) + a, h1⟩ ⟨1024 * (t.val / 2 % 2) + l, h2⟩) := by
  have ht := pt_lt t
  blk_ext [iblk, idx_in t]
/-- One tile's part of a product. -/
def part (x w : FVec Ideal S1024x2048 .bf16) (a l : Fin 1024) : EReal := ∑ k : Fin 2048, x (ix2 a k) * w (ix2 l k)
/-- The first operand. -/
abbrev X : FVec Ideal S8192x4096 .f32 := m ((c : Thread nD τ).loc main_arg4)
/-- The second operand. -/
abbrev W : FVec Ideal S2048x4096 .f32 := m ((c : Thread nD τ).loc main_arg2)
theorem first (t : Fin cfg0.N) (h : t.val % 2 = 0) (a l : Fin 1024) : (outsAt0 m c t.val t.isLt).2 (ix2 a l) = part (iblk m c 0 t) (iblk m c 1 t) a l := by
  rw [outsAt0_A m c t h (by omega)]
  dsimp only
  rw [scA, step_apply, zero_apply, zero_add]
  rfl
theorem last (t : Fin cfg0.N) (h : ¬t.val % 2 = 0) (h' : t.val % 2 = 1) (a l : Fin 1024) :
    (outsAt0 m c t.val t.isLt).1 (ix2 a l) = (outsAt0 m c (t.val - 1) (Nat.lt_of_le_of_lt (Nat.sub_le _ _) t.isLt)).2 (ix2 a l) + part (iblk m c 0 t) (iblk m c 1 t) a l + (iblk m c 2 t : FVec Ideal S1024x1024 .f32) (ix2 a l) := by
  rw [outsAt0_B m c t h h']
  dsimp only
  rw [otB, last_apply, step_apply]
  rfl
/-- The whole product. -/
def prod (x : FVec Ideal S8192x4096 .f32) (w : FVec Ideal S2048x4096 .f32) (a : Fin 8192) (l : Fin 2048) : EReal := ∑ k : Fin 4096, x (ix2 a k) * w (ix2 l k)
theorem part_val (t : Fin cfg0.N) (a l : Fin 1024) (j : Fin 2) (A : Fin 8192) (L : Fin 2048) (hj : t.val % 2 = j.val) (hA : 1024 * (t.val / 4) + a.val = A.val) (hL : 1024 * (t.val / 2 % 2) + l.val = L.val) :
    part (iblk m c 0 t) (iblk m c 1 t) a l = ∑ k : Fin 2048, X m c (ix2 A ⟨j.val * 2048 + k.val, by omega⟩) * W m c (ix2 L ⟨j.val * 2048 + k.val, by omega⟩) := by
  unfold part
  refine Finset.sum_congr rfl fun k _ => ?_
  rw [ib0 m c t a k (by omega) (by omega), ib1 m c t l k (by omega) (by omega), V0, V1]
  have e : 2048 * (t.val % 2) + k.val = j.val * 2048 + k.val := by omega
  simp only [e, hA, hL, Fin.eta]
theorem out_val (t : Fin cfg0.N) (h : t.val % 2 = 1) (a l : Fin 1024) (A : Fin 8192) (L : Fin 2048) (hA : 1024 * (t.val / 4) + a.val = A.val) (hL : 1024 * (t.val / 2 % 2) + l.val = L.val) :
    (outsAt0 m c t.val t.isLt).1 (ix2 a l) = prod (X m c) (W m c) A L + gate m c (ix2 A L) := by
  have ht := t.isLt
  rw [last m c t (by omega) h, first m c ⟨t.val - 1, by omega⟩ (by dsimp only; omega),
    part_val m c t a l 1 A L h hA hL, part_val m c ⟨t.val - 1, by omega⟩ a l 0 A L (by dsimp only; omega) (by dsimp only; omega) (by dsimp only; omega)]
  rw [ib2 m c t a l (by omega) (by omega), V2]
  simp only [hA, hL, Fin.eta]
  unfold prod
  rw [Fin.sum_univ_tiles 2 2048 rfl, Fin.sum_univ_two]
/-- The result. -/
def res : FVec Ideal S8192x2048 .f32 := fun i => prod (X m c) (W m c) (i 0) (i 1) + gate m c i
theorem final : (dats m 0 c).arrAt 3 cfg0.N = res m c := by
  refine (dats m 0 c).arrAt_eq_of_covers 3 _ (by decide +kernel) fun t hfl y => ?_
  have ht := pt_lt t
  have hl : t.val % 2 = 1 := (flush0_3 t).mp hfl
  have e0 : ((win0_3.blk t).view.emb y 0).val = 1024 * (t.val / 4) + (y 0).val := by
    blk_simp [idx_in t]
    first | done | omega
  have e1 : ((win0_3.blk t).view.emb y 1).val = 1024 * (t.val / 2 % 2) + (y 1).val := by
    blk_simp [idx_in t]
    first | done | omega
  blk_simp
  rw [after0_3]
  obtain ⟨a, l, rfl⟩ : ∃ (a l : Fin 1024), y = ix2 a l := ⟨y 0, y 1, by funext i; fin_cases i <;> rfl⟩
  refine (out_val m c t hl a l _ _ e0.symm e1.symm).trans ?_
  refine congrArg (fun i => prod (X m c) (W m c) _ _ + gate m c i) ?_
  funext b
  fin_cases b <;> rfl
theorem run (g : Dev nD → PrngReg) : θ_run defs (onTc (τ := τ) (main (F := Ideal))) ⟨m, fun _ => 0, g⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m c), (h c).2⟩) (Value.run_blocks m g)
/-- The reference's product is the same. -/
theorem ref_val (w : FVec Ideal S2048x4096 .f32) (x : FVec Ideal S8192x4096 .f32) (i : S8192x2048.Idx) :
    Cert.Reference6Ideal.Read.val_main_v2 (F := Ideal) w x i = prod x w (i 0) (i 1) := by
  rw [Cert.Reference6Ideal.Read.val_main_v2_apply]
  unfold prod
  refine Finset.sum_congr rfl fun k _ => ?_
  refine congrArg₂ (· * ·) (congrArg x ?_) (congrArg w ?_) <;> (funext b; fin_cases b <;> rfl)
theorem frame_ideal : Cert.quiescent_Kernel6Ideal := fun m ρ _ => Cert.Kernel6Ideal.Gen.frame (F := Ideal) m ρ
theorem frame_ref : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)
theorem values : Cert.algebraic_Kernel6Ideal_Reference6Ideal := by
  intro m g m' g' _ hargs
  refine ⟨res m, run m g, (θ_run Cert.Reference6Ideal.defs _ _).mono (fun r h c => ?_) (Cert.Reference6Ideal.Value.run (F := Ideal) m' g')⟩
  obtain ⟨a0, a1, a2, a3, a4⟩ := hargs c
  refine ⟨(h c).1.trans ?_, (h c).2⟩
  rw [Cert.Reference6Ideal.Read.val_main_v4_eq, a1, a2, a3, a4]
  exact funext fun i => congrArg (· + gate m c i) (ref_val _ _ i)
end Cert.Proof.UpDx
-- ==== Proof.GateUp.lean ====
module
public import proofs.«01_k».proof.Defs
public import proofs.«01_k».proof.Proof.MatSum
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Claim
@[expose] public section
set_option maxRecDepth 65536
noncomputable section
/-! The gate and up projections of the feed-forward network and their gated product. -/
namespace Cert.Proof.GateUp
open Cert.Kernel7Ideal Cert.Kernel7Ideal.Gen Cert.Proof.MatSum
open Idealize.ShloMosaic Idealize.ShloMosaic.TcCoe Idealize.SL.Sem
section
variable {F : FTy → Type} [FloatOps F] (c : Dev nD) (i : grid0.Coords) (a3 : Memref sig .tc .vmem S1024x2048 .bf16) (h3 : a3.IsWhole) (a4 : Memref sig .tc .vmem S2048x512 .bf16) (h4 : a4.IsWhole)
  (a5 : Memref sig .tc .vmem S2048x512 .bf16) (h5 : a5.IsWhole) (a6 : Memref sig .tc .vmem S1024x512 .f32) (h6 : a6.IsWhole) (a7 : Memref sig .tc .vmem S1024x512 .f32) (h7 : a7.IsWhole)
  (a8 : Memref sig .tc .vmem S1024x512 .bf16) (h8 : a8.IsWhole) (a9 : Memref sig .tc .vmem S1024x512 .f32) (h9 : a9.IsWhole) (a10 : Memref sig .tc .vmem S1024x512 .f32) (h10 : a10.IsWhole)
  (h0 : cond0_0 i) (h1 : cond0_1 i) (x : Vec F S1024x2048 .bf16) (wg wu : Vec F S2048x512 .bf16)
theorem ot3 : out0_A_3 c i a3 h3 a4 h4 a5 h5 a6 h6 a7 h7 a8 h8 a9 h9 a10 h10 h0 h1 x wg wu = k0_pay4 x k0_pay1 wg := by
  unfold out0_A_3
  rw [View.read_writes_eq_canon _ _ _ (cover0_A_3 c i a3 h3 a4 h4 a5 h5 a6 h6 a7 h7 a8 h8 a9 h9 a10 h10 h0 h1 x wg wu)]
  unfold kernelRun0_A
  dsimp only
  sl_unfold_words
  rw [View.canon_unit_zero zeros2]
  simp only [View.readCov_unit_zero (S := S1024x512) _ zeros2, View.readAt_eq_ld, h3.read_unread, h4.read_unread, h5.read_unread, View.ld_unit_zero (S := S1024x2048) zeros2, View.ld_unit_zero (S := S2048x512) zeros2]
  exact View.readCov_cons_unit_lit' (S := S1024x512) _ _ _ _ _ (by decide) (by decide)
theorem ot4 : out0_A_4 c i a3 h3 a4 h4 a5 h5 a6 h6 a7 h7 a8 h8 a9 h9 a10 h10 h0 h1 x wg wu = k0_pay5 x k0_pay2 wu := by
  unfold out0_A_4
  rw [View.read_writes_eq_canon _ _ _ (cover0_A_4 c i a3 h3 a4 h4 a5 h5 a6 h6 a7 h7 a8 h8 a9 h9 a10 h10 h0 h1 x wg wu)]
  unfold kernelRun0_A
  dsimp only
  sl_unfold_words
  rw [View.canon_unit_zero zeros2]
  simp only [View.readCov_unit_zero (S := S1024x512) _ zeros2, View.readAt_eq_ld, h3.read_unread, h4.read_unread, h5.read_unread, View.ld_unit_zero (S := S1024x2048) zeros2, View.ld_unit_zero (S := S2048x512) zeros2]
  exact View.readCov_cons_unit_lit' (S := S1024x512) _ _ _ _ _ (by decide) (by decide)
theorem ot5 : out0_A_5 c i a3 h3 a4 h4 a5 h5 a6 h6 a7 h7 a8 h8 a9 h9 a10 h10 h0 h1 x wg wu = k0_pay6 (k0_pay4 x k0_pay1 wg) (k0_pay5 x k0_pay2 wu) := by
  unfold out0_A_5
  rw [View.read_writes_eq_canon _ _ _ (cover0_A_5 c i a3 h3 a4 h4 a5 h5 a6 h6 a7 h7 a8 h8 a9 h9 a10 h10 h0 h1 x wg wu)]
  unfold kernelRun0_A
  dsimp only
  sl_unfold_words
  rw [View.canon_unit_zero zeros2]
  simp only [View.readCov_unit_zero (S := S1024x512) _ zeros2, View.readAt_eq_ld, h3.read_unread, h4.read_unread, h5.read_unread, View.ld_unit_zero (S := S1024x2048) zeros2, View.ld_unit_zero (S := S2048x512) zeros2]
  exact congrArg₂ k0_pay6 (View.readCov_cons_unit_lit' (S := S1024x512) _ _ _ _ _ (by decide) (by decide)) (View.readCov_cons_unit_lit' (S := S1024x512) _ _ _ _ _ (by decide) (by decide))
end
theorem gate_apply (x : FVec Ideal S1024x2048 .bf16) (w : FVec Ideal S2048x512 .bf16) (a : Fin 1024) (l : Fin 512) :
    k0_pay4 (F := Ideal) x (k0_pay1 (F := Ideal)) w (ix2 a l) = ∑ k : Fin 2048, x (ix2 a k) * w (ix2 k l) := by
  pointwise [k0_pay4, k0_pay3, k0_pay1]
theorem up_apply (x : FVec Ideal S1024x2048 .bf16) (w : FVec Ideal S2048x512 .bf16) (a : Fin 1024) (l : Fin 512) :
    k0_pay5 (F := Ideal) x (k0_pay2 (F := Ideal)) w (ix2 a l) = ∑ k : Fin 2048, x (ix2 a k) * w (ix2 k l) := by
  pointwise [k0_pay5, k0_pay3, k0_pay2]
theorem act_apply (g u : FVec Ideal S1024x512 .f32) (a : Fin 1024) (l : Fin 512) :
    k0_pay6 (F := Ideal) g u (ix2 a l) = g (ix2 a l) * sigm (g (ix2 a l)) * u (ix2 a l) := by
  unfold sigm
  simp only [← zero_sub]
  pointwise [k0_pay6]
variable (m : (ℓ : Loc nD τ sig) → Buf (Elt Ideal) ℓ) (c : Dev nD)
theorem idx_in : ∀ t : Fin cfg0.N, win0_0.index t = ![t.val / 8, 0] ∧ win0_1.index t = ![0, t.val % 8] ∧ win0_2.index t = ![0, t.val % 8]
    ∧ win0_3.index t = ![t.val / 8, t.val % 8] ∧ win0_4.index t = ![t.val / 8, t.val % 8] ∧ win0_5.index t = ![t.val / 8, t.val % 8] :=
  (by decide +kernel : ∀ t : Fin grid0.N, _)
theorem pt_lt (t : Fin cfg0.N) : t.val < 64 := by
  have h : t.val < grid0.N := t.isLt
  rwa [N_0] at h
/-- The normalised hidden states. -/
abbrev X : FVec Ideal S8192x2048 .f32 := m ((c : Thread nD τ).loc main_arg0)
/-- The gate weight. -/
abbrev Wg : FVec Ideal S2048x4096 .f32 := m ((c : Thread nD τ).loc main_arg1)
/-- The up weight. -/
abbrev Wu : FVec Ideal S2048x4096 .f32 := m ((c : Thread nD τ).loc main_arg2)
theorem V0 : (V m c main_v0 : FVec Ideal S8192x2048 .bf16) = X m c := by
  show StableHlo.after hostOps0 _ (Proc.tc.devRef main_v0) = _
  entry_read
  rfl
theorem V1 : (V m c main_v1 : FVec Ideal S2048x4096 .bf16) = Wg m c := by
  show StableHlo.after hostOps0 _ (Proc.tc.devRef main_v1) = _
  entry_read
  rfl
theorem V2 : (V m c main_v2 : FVec Ideal S2048x4096 .bf16) = Wu m c := by
  show StableHlo.after hostOps0 _ (Proc.tc.devRef main_v2) = _
  entry_read
  rfl
theorem ib0 (t : Fin cfg0.N) (a : Fin 1024) (k : Fin 2048) (A : Fin 8192) (hA : 1024 * (t.val / 8) + a.val = A.val) : (iblk m c 0 t : FVec Ideal S1024x2048 .bf16) (ix2 a k) = X m c (ix2 A k) := by
  have ht := pt_lt t
  have e : (iblk m c 0 t : FVec Ideal S1024x2048 .bf16) (ix2 a k) = (V m c main_v0 : FVec Ideal S8192x2048 .bf16) (ix2 ⟨1024 * (t.val / 8) + a, by omega⟩ k) := by
    blk_ext [iblk, idx_in t]
  rw [e, V0]
  simp only [hA, Fin.eta]
theorem ib1 (t : Fin cfg0.N) (k : Fin 2048) (l : Fin 512) (L : Fin 4096) (hL : 512 * (t.val % 8) + l.val = L.val) : (iblk m c 1 t : FVec Ideal S2048x512 .bf16) (ix2 k l) = Wg m c (ix2 k L) := by
  have ht := pt_lt t
  have e : (iblk m c 1 t : FVec Ideal S2048x512 .bf16) (ix2 k l) = (V m c main_v1 : FVec Ideal S2048x4096 .bf16) (ix2 k ⟨512 * (t.val % 8) + l, by omega⟩) := by
    blk_ext [iblk, idx_in t]
  rw [e, V1]
  simp only [hL, Fin.eta]
theorem ib2 (t : Fin cfg0.N) (k : Fin 2048) (l : Fin 512) (L : Fin 4096) (hL : 512 * (t.val % 8) + l.val = L.val) : (iblk m c 2 t : FVec Ideal S2048x512 .bf16) (ix2 k l) = Wu m c (ix2 k L) := by
  have ht := pt_lt t
  have e : (iblk m c 2 t : FVec Ideal S2048x512 .bf16) (ix2 k l) = (V m c main_v2 : FVec Ideal S2048x4096 .bf16) (ix2 k ⟨512 * (t.val % 8) + l, by omega⟩) := by
    blk_ext [iblk, idx_in t]
  rw [e, V2]
  simp only [hL, Fin.eta]
/-- The product of the hidden states with a weight. -/
def prod (x : FVec Ideal S8192x2048 .f32) (w : FVec Ideal S2048x4096 .f32) : FVec Ideal S8192x4096 .f32 := fun i => ∑ k : Fin 2048, x (ix2 (i 0) k) * w (ix2 k (i 1))
/-- The gated product. -/
def act (x : FVec Ideal S8192x2048 .f32) (wg wu : FVec Ideal S2048x4096 .f32) : FVec Ideal S8192x4096 .bf16 := fun i => prod x wg i * sigm (prod x wg i) * prod x wu i
theorem gate_val (t : Fin cfg0.N) (a : Fin 1024) (l : Fin 512) (A : Fin 8192) (L : Fin 4096) (hA : 1024 * (t.val / 8) + a.val = A.val) (hL : 512 * (t.val % 8) + l.val = L.val) :
    k0_pay4 (F := Ideal) (iblk m c 0 t) (k0_pay1 (F := Ideal)) (iblk m c 1 t) (ix2 a l) = prod (X m c) (Wg m c) (ix2 A L) := by
  rw [gate_apply]
  refine Finset.sum_congr rfl fun k _ => ?_
  rw [ib0 m c t a k A hA, ib1 m c t k l L hL]
  rfl
theorem up_val (t : Fin cfg0.N) (a : Fin 1024) (l : Fin 512) (A : Fin 8192) (L : Fin 4096) (hA : 1024 * (t.val / 8) + a.val = A.val) (hL : 512 * (t.val % 8) + l.val = L.val) :
    k0_pay5 (F := Ideal) (iblk m c 0 t) (k0_pay2 (F := Ideal)) (iblk m c 2 t) (ix2 a l) = prod (X m c) (Wu m c) (ix2 A L) := by
  rw [up_apply]
  refine Finset.sum_congr rfl fun k _ => ?_
  rw [ib0 m c t a k A hA, ib2 m c t k l L hL]
  rfl
theorem out3 (t : Fin cfg0.N) (a : Fin 1024) (l : Fin 512) (A : Fin 8192) (L : Fin 4096) (hA : 1024 * (t.val / 8) + a.val = A.val) (hL : 512 * (t.val % 8) + l.val = L.val) :
    (outsAt0 m c t).1 (ix2 a l) = prod (X m c) (Wg m c) (ix2 A L) := by
  unfold outsAt0
  dsimp only
  rw [ot3]
  exact gate_val m c t a l A L hA hL
theorem out4 (t : Fin cfg0.N) (a : Fin 1024) (l : Fin 512) (A : Fin 8192) (L : Fin 4096) (hA : 1024 * (t.val / 8) + a.val = A.val) (hL : 512 * (t.val % 8) + l.val = L.val) :
    (outsAt0 m c t).2.1 (ix2 a l) = prod (X m c) (Wu m c) (ix2 A L) := by
  unfold outsAt0
  dsimp only
  rw [ot4]
  exact up_val m c t a l A L hA hL
theorem out5 (t : Fin cfg0.N) (a : Fin 1024) (l : Fin 512) (A : Fin 8192) (L : Fin 4096) (hA : 1024 * (t.val / 8) + a.val = A.val) (hL : 512 * (t.val % 8) + l.val = L.val) :
    (outsAt0 m c t).2.2 (ix2 a l) = act (X m c) (Wg m c) (Wu m c) (ix2 A L) := by
  unfold outsAt0
  dsimp only
  rw [ot5, act_apply, gate_val m c t a l A L hA hL, up_val m c t a l A L hA hL]
  rfl
theorem final3 : (dats m 0 c).arrAt 3 cfg0.N = prod (X m c) (Wg m c) := by
  refine (dats m 0 c).arrAt_eq_of_covers 3 _ (by decide +kernel) fun t hfl y => ?_
  have ht := pt_lt t
  have e0 : ((win0_3.blk t).view.emb y 0).val = 1024 * (t.val / 8) + (y 0).val := by
    blk_simp [idx_in t]
    first | done | omega
  have e1 : ((win0_3.blk t).view.emb y 1).val = 512 * (t.val % 8) + (y 1).val := by
    blk_simp [idx_in t]
    first | done | omega
  blk_simp
  rw [after0_3]
  obtain ⟨a, l, rfl⟩ : ∃ (a : Fin 1024) (l : Fin 512), y = ix2 a l := ⟨y 0, y 1, by funext i; fin_cases i <;> rfl⟩
  refine (out3 m c t a l _ _ e0.symm e1.symm).trans (congrArg (prod (X m c) (Wg m c)) ?_)
  funext b
  fin_cases b <;> rfl
theorem final4 : (dats m 0 c).arrAt 4 cfg0.N = prod (X m c) (Wu m c) := by
  refine (dats m 0 c).arrAt_eq_of_covers 4 _ (by decide +kernel) fun t hfl y => ?_
  have ht := pt_lt t
  have e0 : ((win0_4.blk t).view.emb y 0).val = 1024 * (t.val / 8) + (y 0).val := by
    blk_simp [idx_in t]
    first | done | omega
  have e1 : ((win0_4.blk t).view.emb y 1).val = 512 * (t.val % 8) + (y 1).val := by
    blk_simp [idx_in t]
    first | done | omega
  blk_simp
  rw [after0_4]
  obtain ⟨a, l, rfl⟩ : ∃ (a : Fin 1024) (l : Fin 512), y = ix2 a l := ⟨y 0, y 1, by funext i; fin_cases i <;> rfl⟩
  refine (out4 m c t a l _ _ e0.symm e1.symm).trans (congrArg (prod (X m c) (Wu m c)) ?_)
  funext b
  fin_cases b <;> rfl
theorem final5 : (dats m 0 c).arrAt 5 cfg0.N = act (X m c) (Wg m c) (Wu m c) := by
  refine (dats m 0 c).arrAt_eq_of_covers 5 _ (by decide +kernel) fun t hfl y => ?_
  have ht := pt_lt t
  have e0 : ((win0_5.blk t).view.emb y 0).val = 1024 * (t.val / 8) + (y 0).val := by
    blk_simp [idx_in t]
    first | done | omega
  have e1 : ((win0_5.blk t).view.emb y 1).val = 512 * (t.val % 8) + (y 1).val := by
    blk_simp [idx_in t]
    first | done | omega
  blk_simp
  rw [after0_5]
  obtain ⟨a, l, rfl⟩ : ∃ (a : Fin 1024) (l : Fin 512), y = ix2 a l := ⟨y 0, y 1, by funext i; fin_cases i <;> rfl⟩
  refine (out5 m c t a l _ _ e0.symm e1.symm).trans (congrArg (act (X m c) (Wg m c) (Wu m c)) ?_)
  funext b
  fin_cases b <;> rfl
theorem run (g : Dev nD → PrngReg) : θ_run defs (onTc (τ := τ) (main (F := Ideal))) ⟨m, fun _ => 0, g⟩ fun r => ∀ c : Dev nD,
      r.2.mem ((c : Thread nD τ).loc main_v3_0) = prod (X m c) (Wg m c)
      ∧ r.2.mem ((c : Thread nD τ).loc main_v3_1) = prod (X m c) (Wu m c)
      ∧ r.2.mem ((c : Thread nD τ).loc main_v3_2) = act (X m c) (Wg m c) (Wu m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final3 m c), ((h c).2.1).trans (final4 m c), ((h c).2.2.1).trans (final5 m c), (h c).2.2.2⟩) (Value.run_blocks m g)
section
open Cert.Reference7Ideal.Read
theorem ref_gate (x : FVec Ideal S8192x2048 .f32) (w : FVec Ideal S2048x4096 .f32) : val_main_v0 (F := Ideal) x w = prod x w := by
  funext i
  rw [val_main_v0_apply]
  refine Finset.sum_congr rfl fun k _ => ?_
  refine congrArg₂ (· * ·) (congrArg x ?_) (congrArg w ?_) <;> (funext b; fin_cases b <;> rfl)
theorem ref_up (x : FVec Ideal S8192x2048 .f32) (w : FVec Ideal S2048x4096 .f32) : val_main_v1 (F := Ideal) x w = prod x w := by
  funext i
  rw [val_main_v1_apply]
  refine Finset.sum_congr rfl fun k _ => ?_
  refine congrArg₂ (· * ·) (congrArg x ?_) (congrArg w ?_) <;> (funext b; fin_cases b <;> rfl)
/-- The reference's logistic function of the gate. -/
theorem ref_sigm (x : FVec Ideal S8192x2048 .f32) (w : FVec Ideal S2048x4096 .f32) (i : S8192x4096.Idx) : val_main_call0_v5 (F := Ideal) x w i = sigm (prod x w i) := by
  rw [val_main_call0_v5_apply, val_main_call0_v4_apply, val_main_call0_cst_0_apply, val_main_call0_v3_apply, val_main_call0_v2_apply, val_main_call0_cst_apply, val_main_call0_v1_apply, val_main_call0_v0_apply, ref_gate]
  unfold sigm
  rw [← Ideal.ofBits_one_f32]
  rfl
theorem ref_act (x : FVec Ideal S8192x2048 .f32) (wg wu : FVec Ideal S2048x4096 .f32) : val_main_v4 (F := Ideal) x wg wu = act x wg wu := by
  funext i
  rw [val_main_v4_apply, val_main_v3_apply, val_main_v2_apply, ref_sigm, ref_gate, ref_up]
  rfl
end
theorem frame_ideal : Cert.quiescent_Kernel7Ideal := fun m ρ _ => Cert.Kernel7Ideal.Gen.frame (F := Ideal) m ρ
theorem frame_ref : Cert.quiescent_Reference7Ideal := fun m ρ _ =>
  (θ_run Cert.Reference7Ideal.defs _ _).mono (fun r h => ⟨fun c => (h c).2.2.2, sem_eq_zero_of_no_sems (by decide) r.2⟩) (Cert.Reference7Ideal.Value.run (F := Ideal) m ρ)
theorem values : Cert.algebraic_Kernel7Ideal_Reference7Ideal := by
  intro m g m' g' _ hargs
  refine ⟨fun c => prod (X m c) (Wg m c), fun c => prod (X m c) (Wu m c), fun c => act (X m c) (Wg m c) (Wu m c), run m g, (θ_run Cert.Reference7Ideal.defs _ _).mono (fun r h c => ?_) (Cert.Reference7Ideal.Value.run (F := Ideal) m' g')⟩
  obtain ⟨a0, a1, a2⟩ := hargs c
  refine ⟨(h c).1.trans ?_, (h c).2.1.trans ?_, (h c).2.2.1.trans ?_, (h c).2.2.2⟩
  · rw [Cert.Reference7Ideal.Read.val_main_v0_eq, a0, a1]
    exact ref_gate _ _
  · rw [Cert.Reference7Ideal.Read.val_main_v1_eq, a0, a2]
    exact ref_up _ _
  · rw [Cert.Reference7Ideal.Read.val_main_v4_eq, a0, a1, a2]
    exact ref_act _ _ _
end Cert.Proof.GateUp
-- ==== Proof.Down.lean ====
module
public import proofs.«01_k».proof.Defs
public import proofs.«01_k».proof.Proof.MatSum
public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Claim
@[expose] public section
set_option maxRecDepth 65536
noncomputable section
/-! The feed-forward network's down projection, halved and added to its input. -/
namespace Cert.Proof.Down
open Cert.Kernel8Ideal Cert.Kernel8Ideal.Gen Cert.Proof.MatSum
open Idealize.ShloMosaic Idealize.ShloMosaic.TcCoe Idealize.SL.Sem
section
variable {F : FTy → Type} [FloatOps F] (c : Dev nD) (i : grid0.Coords) (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
  (x : Vec F S1024x2048 .bf16) (w : Vec F S2048x1024 .bf16) (z : Vec F S1024x1024 .f32) (s : Vec F S1024x1024 .f32)
theorem scA (h0 : cond0_0 i) (h1 : ¬cond0_1 i) : sout0_A_0 c i a3 h3 a4 h4 a5 h5 a6 h6 a7 h7 h0 h1 x w z = k0_pay2 k0_pay1 x w := by
  unfold sout0_A_0
  rw [View.read_writes_eq_canon _ _ _ (scover0_A_0 c i a3 h3 a4 h4 a5 h5 a6 h6 a7 h7 h0 h1 x w z)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S1024x2048) zeros2, View.ld_unit_zero (S := S2048x1024) zeros2]
theorem otB (h0 : ¬cond0_0 i) (h1 : cond0_1 i) : out0_B_3 c i a3 h3 a4 h4 a5 h5 a6 h6 a7 h7 h0 h1 x w z s = k0_pay3 (k0_pay2 s x w) z := by
  unfold out0_B_3
  rw [View.read_writes_eq_canon _ _ _ (cover0_B_3 c i a3 h3 a4 h4 a5 h5 a6 h6 a7 h7 h0 h1 x w z s)]
  unfold kernelRun0_B
  dsimp only
  sl_unfold_words
  rw [View.canon_unit_zero zeros2, View.readCov_unit_zero (S := S1024x1024) _ zeros2]
  simp only [View.readAt_eq_ld, h3.read_unread, h4.read_unread, h5.read_unread, h7.read_unread, View.ld_unit_zero (S := S1024x2048) zeros2, View.ld_unit_zero (S := S2048x1024) zeros2, View.ld_unit_zero (S := S1024x1024) zeros2]
end
theorem step_apply (s : FVec Ideal S1024x1024 .f32) (x : FVec Ideal S1024x2048 .bf16) (w : FVec Ideal S2048x1024 .bf16) (a l : Fin 1024) :
    k0_pay2 (F := Ideal) s x w (ix2 a l) = s (ix2 a l) + ∑ k : Fin 2048, x (ix2 a k) * w (ix2 k l) := by
  pointwise [k0_pay2]
theorem zero_apply (a l : Fin 1024) : (k0_pay1 : FVec Ideal S1024x1024 .f32) (ix2 a l) = 0 := by
  pointwise [k0_pay1]
theorem last_apply (s z : FVec Ideal S1024x1024 .f32) (a l : Fin 1024) : k0_pay3 (F := Ideal) s z (ix2 a l) = s (ix2 a l) * Ideal.ofBits .f32 0x3F000000#32 + z (ix2 a l) := by
  pointwise [k0_pay3]
variable (m : (ℓ : Loc nD τ sig) → Buf (Elt Ideal) ℓ) (c : Dev nD)
theorem idx_in : ∀ t : Fin cfg0.N, win0_0.index t = ![t.val / 4, t.val % 2] ∧ win0_1.index t = ![t.val % 2, t.val / 2 % 2] ∧ win0_2.index t = ![t.val / 4, t.val / 2 % 2] ∧ win0_3.index t = ![t.val / 4, t.val / 2 % 2] :=
  (by decide +kernel : ∀ t : Fin grid0.N, _)
theorem pt_lt (t : Fin cfg0.N) : t.val < 32 := by
  have h : t.val < grid0.N := t.isLt
  rwa [N_0] at h
theorem ib0 (t : Fin cfg0.N) (a : Fin 1024) (k : Fin 2048) (h1 h2) : (iblk m c 0 t : FVec Ideal S1024x2048 .bf16) (ix2 a k)
    = (V m c main_v2 : FVec Ideal S8192x4096 .bf16) (ix2 ⟨1024 * (t.val / 4) + a, h1⟩ ⟨2048 * (t.val % 2) + k, h2⟩) := by
  have ht := pt_lt t
  blk_ext [iblk, idx_in t]
theorem ib1 (t : Fin cfg0.N) (k : Fin 2048) (l : Fin 1024) (h1 h2) : (iblk m c 1 t : FVec Ideal S2048x1024 .bf16) (ix2 k l)
    = (V m c main_v3 : FVec Ideal S4096x2048 .bf16) (ix2 ⟨2048 * (t.val % 2) + k, h1⟩ ⟨1024 * (t.val / 2 % 2) + l, h2⟩) := by
  have ht := pt_lt t
  blk_ext [iblk, idx_in t]
/-- The hidden activation. -/
def X : FVec Ideal S8192x4096 .f32 := Cert.Reference8Ideal.Read.val_main_v1 (F := Ideal) (m ((c : Thread nD τ).loc main_arg1)) (m ((c : Thread nD τ).loc main_arg2))
/-- The weight. -/
abbrev W : FVec Ideal S4096x2048 .f32 := m ((c : Thread nD τ).loc main_arg3)
/-- The layer's input. -/
abbrev Z : FVec Ideal S8192x2048 .f32 := m ((c : Thread nD τ).loc main_arg0)
theorem V0 : (V m c main_v2 : FVec Ideal S8192x4096 .bf16) = X m c := by
  show StableHlo.after (hostOps0 ++ hostOps0_1) _ (Proc.tc.devRef main_v2) = _
  simp only [hostOps0, hostOps0_1, List.cons_append, List.nil_append]
  entry_read
  rfl
theorem V1 : (V m c main_v3 : FVec Ideal S4096x2048 .bf16) = W m c := by
  show StableHlo.after (hostOps0 ++ hostOps0_1) _ (Proc.tc.devRef main_v3) = _
  simp only [hostOps0, hostOps0_1, List.cons_append, List.nil_append]
  entry_read
  rfl
theorem V2 : (V m c main_arg0 : FVec Ideal S8192x2048 .f32) = Z m c := by
  show StableHlo.after (hostOps0 ++ hostOps0_1) _ (Proc.tc.devRef main_arg0) = _
  simp only [hostOps0, hostOps0_1, List.cons_append, List.nil_append]
  entry_read
  rfl
theorem ib2 (t : Fin cfg0.N) (a l : Fin 1024) (h1 h2) : (iblk m c 2 t : FVec Ideal S1024x1024 .f32) (ix2 a l)
    = (V m c main_arg0 : FVec Ideal S8192x2048 .f32) (ix2 ⟨1024 * (t.val / 4) + a, h1⟩ ⟨1024 * (t.val / 2 % 2) + l, h2⟩) := by
  have ht := pt_lt t
  blk_ext [iblk, idx_in t]
/-- One tile's part of a product. -/
def part (x : FVec Ideal S1024x2048 .bf16) (w : FVec Ideal S2048x1024 .bf16) (a l : Fin 1024) : EReal := ∑ k : Fin 2048, x (ix2 a k) * w (ix2 k l)
theorem first (t : Fin cfg0.N) (h : t.val % 2 = 0) (a l : Fin 1024) : (outsAt0 m c t.val t.isLt).2 (ix2 a l) = part (iblk m c 0 t) (iblk m c 1 t) a l := by
  rw [outsAt0_A m c t h (by omega)]
  dsimp only
  rw [scA, step_apply, zero_apply, zero_add]
  rfl
theorem last (t : Fin cfg0.N) (h : ¬t.val % 2 = 0) (h' : t.val % 2 = 1) (a l : Fin 1024) :
    (outsAt0 m c t.val t.isLt).1 (ix2 a l) = ((outsAt0 m c (t.val - 1) (Nat.lt_of_le_of_lt (Nat.sub_le _ _) t.isLt)).2 (ix2 a l) + part (iblk m c 0 t) (iblk m c 1 t) a l) * Ideal.ofBits .f32 0x3F000000#32 + (iblk m c 2 t : FVec Ideal S1024x1024 .f32) (ix2 a l) := by
  rw [outsAt0_B m c t h h']
  dsimp only
  rw [otB, last_apply, step_apply]
  rfl
/-- The whole product. -/
def prod (x : FVec Ideal S8192x4096 .f32) (w : FVec Ideal S4096x2048 .f32) (a : Fin 8192) (l : Fin 2048) : EReal := ∑ k : Fin 4096, x (ix2 a k) * w (ix2 k l)
theorem part_val (t : Fin cfg0.N) (a l : Fin 1024) (j : Fin 2) (A : Fin 8192) (L : Fin 2048) (hj : t.val % 2 = j.val) (hA : 1024 * (t.val / 4) + a.val = A.val) (hL : 1024 * (t.val / 2 % 2) + l.val = L.val) :
    part (iblk m c 0 t) (iblk m c 1 t) a l = ∑ k : Fin 2048, X m c (ix2 A ⟨j.val * 2048 + k.val, by omega⟩) * W m c (ix2 ⟨j.val * 2048 + k.val, by omega⟩ L) := by
  unfold part
  refine Finset.sum_congr rfl fun k _ => ?_
  rw [ib0 m c t a k (by omega) (by omega), ib1 m c t k l (by omega) (by omega), V0, V1]
  have e : 2048 * (t.val % 2) + k.val = j.val * 2048 + k.val := by omega
  simp only [e, hA, hL, Fin.eta]
theorem out_val (t : Fin cfg0.N) (h : t.val % 2 = 1) (a l : Fin 1024) (A : Fin 8192) (L : Fin 2048) (hA : 1024 * (t.val / 4) + a.val = A.val) (hL : 1024 * (t.val / 2 % 2) + l.val = L.val) :
    (outsAt0 m c t.val t.isLt).1 (ix2 a l) = prod (X m c) (W m c) A L * Ideal.ofBits .f32 0x3F000000#32 + Z m c (ix2 A L) := by
  have ht := t.isLt
  rw [last m c t (by omega) h, first m c ⟨t.val - 1, by omega⟩ (by dsimp only; omega),
    part_val m c t a l 1 A L h hA hL, part_val m c ⟨t.val - 1, by omega⟩ a l 0 A L (by dsimp only; omega) (by dsimp only; omega) (by dsimp only; omega)]
  rw [ib2 m c t a l (by omega) (by omega), V2]
  simp only [hA, hL, Fin.eta]
  unfold prod
  rw [Fin.sum_univ_tiles 2 2048 rfl, Fin.sum_univ_two]
/-- The result. -/
def res : FVec Ideal S8192x2048 .f32 := fun i => prod (X m c) (W m c) (i 0) (i 1) * Ideal.ofBits .f32 0x3F000000#32 + Z m c i
theorem final : (dats m 0 c).arrAt 3 cfg0.N = res m c := by
  refine (dats m 0 c).arrAt_eq_of_covers 3 _ (by decide +kernel) fun t hfl y => ?_
  have ht := pt_lt t
  have hl : t.val % 2 = 1 := (flush0_3 t).mp hfl
  have e0 : ((win0_3.blk t).view.emb y 0).val = 1024 * (t.val / 4) + (y 0).val := by
    blk_simp [idx_in t]
    first | done | omega
  have e1 : ((win0_3.blk t).view.emb y 1).val = 1024 * (t.val / 2 % 2) + (y 1).val := by
    blk_simp [idx_in t]
    first | done | omega
  blk_simp
  rw [after0_3]
  obtain ⟨a, l, rfl⟩ : ∃ (a l : Fin 1024), y = ix2 a l := ⟨y 0, y 1, by funext i; fin_cases i <;> rfl⟩
  refine (out_val m c t hl a l _ _ e0.symm e1.symm).trans ?_
  refine congrArg (fun i => prod (X m c) (W m c) _ _ * Ideal.ofBits .f32 0x3F000000#32 + Z m c i) ?_
  funext b
  fin_cases b <;> rfl
theorem run (g : Dev nD → PrngReg) : θ_run defs (onTc (τ := τ) (main (F := Ideal))) ⟨m, fun _ => 0, g⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (Value.run_blocks m g)
/-- The reference's product is the same. -/
theorem ref_val (g u : FVec Ideal S8192x4096 .f32) (w : FVec Ideal S4096x2048 .f32) (i : S8192x2048.Idx) :
    Cert.Reference8Ideal.Read.val_main_v2 (F := Ideal) g u w i = prod (Cert.Reference8Ideal.Read.val_main_v1 (F := Ideal) g u) w (i 0) (i 1) := by
  rw [Cert.Reference8Ideal.Read.val_main_v2_apply]
  unfold prod
  refine Finset.sum_congr rfl fun k _ => ?_
  refine congrArg₂ (· * ·) (congrArg (Cert.Reference8Ideal.Read.val_main_v1 (F := Ideal) g u) ?_) (congrArg w ?_) <;> (funext b; fin_cases b <;> rfl)
theorem frame_ideal : Cert.quiescent_Kernel8Ideal := fun m ρ _ => Cert.Kernel8Ideal.Gen.frame (F := Ideal) m ρ
theorem frame_ref : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)
theorem values : Cert.algebraic_Kernel8Ideal_Reference8Ideal := by
  intro m g m' g' _ hargs
  refine ⟨res m, run m g, (θ_run Cert.Reference8Ideal.defs _ _).mono (fun r h c => ?_) (Cert.Reference8Ideal.Value.run (F := Ideal) m' g')⟩
  obtain ⟨a0, a1, a2, a3⟩ := hargs c
  refine ⟨(h c).1.trans ?_, (h c).2⟩
  rw [Cert.Reference8Ideal.Read.val_main_v5_eq, a0, a1, a2, a3]
  funext i
  rw [Cert.Reference8Ideal.Read.val_main_v5_apply, Cert.Reference8Ideal.Read.val_main_v4_apply, Cert.Reference8Ideal.Read.val_main_v3_apply, Cert.Reference8Ideal.Read.val_main_cst_apply, ref_val]
  exact (add_comm _ _).trans (congrArg (· + Z m c i) (mul_comm _ _))
end Cert.Proof.Down
-- ==== Proof.MixOut.lean ====
module
public import proofs.«01_k».proof.Defs
public import proofs.«01_k».proof.Proof.MatSum
public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Claim
@[expose] public section
set_option maxRecDepth 65536
noncomputable section
/-! The mixers' output projection, added to the residual. -/
namespace Cert.Proof.MixOut
open Cert.Kernel9Ideal Cert.Kernel9Ideal.Gen Cert.Proof.MatSum
open Idealize.ShloMosaic Idealize.ShloMosaic.TcCoe Idealize.SL.Sem
section
variable {F : FTy → Type} [FloatOps F] (c : Dev nD) (i : grid0.Coords) (a3 : Memref sig .tc .vmem S1024x2048 .f32) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole) (h0 : cond0_0 i) (h1 : cond0_1 i)
  (x : Vec F S1024x2048 .f32) (w : Vec F S2048x1024 .bf16) (z : Vec F S1024x1024 .f32)
theorem ot : out0_A_3 c i a3 h3 a4 h4 a5 h5 a6 h6 a7 h7 h0 h1 x w z = k0_pay3 (k0_pay2 k0_pay1 x w) z := by
  unfold out0_A_3
  rw [View.read_writes_eq_canon _ _ _ (cover0_A_3 c i a3 h3 a4 h4 a5 h5 a6 h6 a7 h7 h0 h1 x w z)]
  unfold kernelRun0_A
  dsimp only
  sl_unfold_words
  rw [View.canon_unit_zero zeros2]
  simp only [View.readCov_unit_zero (S := S1024x1024) _ zeros2, View.readAt_eq_ld, h3.read_unread, h4.read_unread, h5.read_unread, View.ld_unit_zero (S := S1024x1024) zeros2, View.ld_unit_zero (S := S1024x2048) zeros2, View.ld_unit_zero (S := S2048x1024) zeros2]
  exact congrArg (k0_pay3 · z) (View.readCov_cons_unit_lit' (S := S1024x1024) _ _ _ _ _ (by decide) (by decide))
end
theorem step_apply (x : FVec Ideal S1024x2048 .f32) (w : FVec Ideal S2048x1024 .bf16) (a l : Fin 1024) :
    k0_pay2 (F := Ideal) (k0_pay1 (F := Ideal)) x w (ix2 a l) = ∑ k : Fin 2048, x (ix2 a k) * w (ix2 k l) := by
  pointwise [k0_pay2, k0_pay1]
theorem last_apply (s z : FVec Ideal S1024x1024 .f32) (a l : Fin 1024) : k0_pay3 (F := Ideal) s z (ix2 a l) = s (ix2 a l) + z (ix2 a l) := by
  pointwise [k0_pay3]
variable (m : (ℓ : Loc nD τ sig) → Buf (Elt Ideal) ℓ) (c : Dev nD)
theorem idx_in : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)
theorem pt_lt (t : Fin cfg0.N) : t.val < 16 := by
  have h : t.val < grid0.N := t.isLt
  rwa [N_0] at h
/-- The left factor. -/
abbrev X : FVec Ideal S8192x2048 .f32 := m ((c : Thread nD τ).loc main_arg1)
/-- The weight. -/
abbrev W : FVec Ideal S2048x2048 .f32 := m ((c : Thread nD τ).loc main_arg2)
/-- What is added. -/
abbrev Z : FVec Ideal S8192x2048 .f32 := m ((c : Thread nD τ).loc main_arg0)
theorem V0 : (V m c main_arg1 : FVec Ideal S8192x2048 .f32) = X m c := by
  show StableHlo.after hostOps0 _ (Proc.tc.devRef main_arg1) = _
  entry_read
  rfl
theorem V1 : (V m c main_v0 : FVec Ideal S2048x2048 .bf16) = W m c := by
  show StableHlo.after hostOps0 _ (Proc.tc.devRef main_v0) = _
  entry_read
  rfl
theorem V2 : (V m c main_arg0 : FVec Ideal S8192x2048 .f32) = Z m c := by
  show StableHlo.after hostOps0 _ (Proc.tc.devRef main_arg0) = _
  entry_read
  rfl
theorem ib0 (t : Fin cfg0.N) (a : Fin 1024) (k : Fin 2048) (A : Fin 8192) (hA : 1024 * (t.val / 2) + a.val = A.val) : (iblk m c 0 t : FVec Ideal S1024x2048 .f32) (ix2 a k) = X m c (ix2 A k) := by
  have ht := pt_lt t
  have e : (iblk m c 0 t : FVec Ideal S1024x2048 .f32) (ix2 a k) = (V m c main_arg1 : FVec Ideal S8192x2048 .f32) (ix2 ⟨1024 * (t.val / 2) + a, by omega⟩ k) := by
    blk_ext [iblk, idx_in t]
  rw [e, V0]
  simp only [hA, Fin.eta]
theorem ib1 (t : Fin cfg0.N) (k : Fin 2048) (l : Fin 1024) (L : Fin 2048) (hL : 1024 * (t.val % 2) + l.val = L.val) : (iblk m c 1 t : FVec Ideal S2048x1024 .bf16) (ix2 k l) = W m c (ix2 k L) := by
  have ht := pt_lt t
  have e : (iblk m c 1 t : FVec Ideal S2048x1024 .bf16) (ix2 k l) = (V m c main_v0 : FVec Ideal S2048x2048 .bf16) (ix2 k ⟨1024 * (t.val % 2) + l, by omega⟩) := by
    blk_ext [iblk, idx_in t]
  rw [e, V1]
  simp only [hL, Fin.eta]
theorem ib2 (t : Fin cfg0.N) (a l : Fin 1024) (A : Fin 8192) (L : Fin 2048) (hA : 1024 * (t.val / 2) + a.val = A.val) (hL : 1024 * (t.val % 2) + l.val = L.val) : (iblk m c 2 t : FVec Ideal S1024x1024 .f32) (ix2 a l) = Z m c (ix2 A L) := by
  have ht := pt_lt t
  have e : (iblk m c 2 t : FVec Ideal S1024x1024 .f32) (ix2 a l) = (V m c main_arg0 : FVec Ideal S8192x2048 .f32) (ix2 ⟨1024 * (t.val / 2) + a, by omega⟩ ⟨1024 * (t.val % 2) + l, by omega⟩) := by
    blk_ext [iblk, idx_in t]
  rw [e, V2]
  simp only [hA, hL, Fin.eta]
/-- The result. -/
def res (x : FVec Ideal S8192x2048 .f32) (w : FVec Ideal S2048x2048 .f32) (z : FVec Ideal S8192x2048 .f32) : FVec Ideal S8192x2048 .f32 := fun i => (∑ k : Fin 2048, x (ix2 (i 0) k) * w (ix2 k (i 1))) + z i
theorem out_val (t : Fin cfg0.N) (a l : Fin 1024) (A : Fin 8192) (L : Fin 2048) (hA : 1024 * (t.val / 2) + a.val = A.val) (hL : 1024 * (t.val % 2) + l.val = L.val) : outsAt0 m c t (ix2 a l) = res (X m c) (W m c) (Z m c) (ix2 A L) := by
  unfold outsAt0
  rw [ot, last_apply, step_apply, ib2 m c t a l A L hA hL]
  refine congrArg (· + Z m c (ix2 A L)) (Finset.sum_congr rfl fun k _ => ?_)
  rw [ib0 m c t a k A hA, ib1 m c t k l L hL]
  rfl
theorem final : (dats m 0 c).arrAt 3 cfg0.N = res (X m c) (W m c) (Z m c) := by
  refine (dats m 0 c).arrAt_eq_of_covers 3 _ (by decide +kernel) fun t hfl y => ?_
  have ht := pt_lt t
  have e0 : ((win0_3.blk t).view.emb y 0).val = 1024 * (t.val / 2) + (y 0).val := by
    blk_simp [idx_in t]
    first | done | omega
  have e1 : ((win0_3.blk t).view.emb y 1).val = 1024 * (t.val % 2) + (y 1).val := by
    blk_simp [idx_in t]
    first | done | omega
  blk_simp
  rw [after0_3]
  obtain ⟨a, l, rfl⟩ : ∃ (a l : Fin 1024), y = ix2 a l := ⟨y 0, y 1, by funext i; fin_cases i <;> rfl⟩
  refine (out_val m c t a l _ _ e0.symm e1.symm).trans (congrArg (res (X m c) (W m c) (Z m c)) ?_)
  funext b
  fin_cases b <;> rfl
theorem run (g : Dev nD → PrngReg) : θ_run defs (onTc (τ := τ) (main (F := Ideal))) ⟨m, fun _ => 0, g⟩ fun r => ∀ c : Dev nD,
      r.2.mem ((c : Thread nD τ).loc main_v1) = res (X m c) (W m c) (Z m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m g)
theorem ref_val (x0 x : FVec Ideal S8192x2048 .f32) (w : FVec Ideal S2048x2048 .f32) : Cert.Reference9Ideal.Read.val_main_v1 (F := Ideal) x0 x w = res x w x0 := by
  funext i
  rw [Cert.Reference9Ideal.Read.val_main_v1_apply, Cert.Reference9Ideal.Read.val_main_v0_apply]
  unfold res
  refine (add_comm _ _).trans (congrArg (· + x0 i) (Finset.sum_congr rfl fun k _ => ?_))
  refine congrArg₂ (· * ·) (congrArg x ?_) (congrArg w ?_) <;> (funext b; fin_cases b <;> rfl)
theorem frame_ideal : Cert.quiescent_Kernel9Ideal := fun m ρ _ => Cert.Kernel9Ideal.Gen.frame (F := Ideal) m ρ
theorem frame_ref : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)
theorem values : Cert.algebraic_Kernel9Ideal_Reference9Ideal := by
  intro m g m' g' _ hargs
  refine ⟨fun c => res (X m c) (W m c) (Z m c), run m g, (θ_run Cert.Reference9Ideal.defs _ _).mono (fun r h c => ?_) (Cert.Reference9Ideal.Value.run (F := Ideal) m' g')⟩
  obtain ⟨a0, a1, a2⟩ := hargs c
  refine ⟨(h c).1.trans ?_, (h c).2⟩
  rw [Cert.Reference9Ideal.Read.val_main_v1_eq, a0, a1, a2]
  exact ref_val _ _ _
end Cert.Proof.MixOut
-- ==== Proof.MixOutDx.lean ====
module
public import proofs.«01_k».proof.Defs
public import proofs.«01_k».proof.Proof.MatSum
public import proofs.«01_k».proof.Proof.Gen.Kernel10Ideal.Value
public import proofs.«01_k».proof.Proof.Gen.Reference10Ideal.Read
public import Idealize.ShloMosaic.Lib.Pointwise
public import Idealize.ShloMosaic.Lib.Pipeline.ValueKit
public import Idealize.ShloMosaic.Lib.Claim
@[expose] public section
set_option maxRecDepth 65536
noncomputable section
/-! The gradient of the mixers' output projection with respect to its input. -/
namespace Cert.Proof.MixOutDx
open Cert.Kernel10Ideal Cert.Kernel10Ideal.Gen Cert.Proof.MatSum
open Idealize.ShloMosaic Idealize.ShloMosaic.TcCoe Idealize.SL.Sem
section
variable {F : FTy → Type} [FloatOps F] (c : Dev nD) (i : grid0.Coords) (a3 : Memref sig .tc .vmem S1024x2048 .f32) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole) (h0 : cond0_0 i) (h1 : cond0_1 i)
  (x : Vec F S1024x2048 .f32) (w : Vec F S1024x2048 .bf16)
theorem ot : out0_A_2 c i a3 h3 a4 h4 a5 h5 a6 h6 h0 h1 x w = k0_pay2 k0_pay1 x w := by
  unfold out0_A_2
  rw [View.read_writes_eq_canon _ _ _ (cover0_A_2 c i a3 h3 a4 h4 a5 h5 a6 h6 h0 h1 x w)]
  unfold kernelRun0_A
  dsimp only
  sl_unfold_words
  rw [View.canon_unit_zero zeros2]
  simp only [View.readCov_unit_zero (S := S1024x1024) _ zeros2, View.readAt_eq_ld, h3.read_unread, h4.read_unread, View.ld_unit_zero (S := S1024x2048) zeros2]
  exact View.readCov_cons_unit_lit' (S := S1024x1024) _ _ _ _ _ (by decide) (by decide)
end
theorem step_apply (x : FVec Ideal S1024x2048 .f32) (w : FVec Ideal S1024x2048 .bf16) (a l : Fin 1024) :
    k0_pay2 (F := Ideal) (k0_pay1 (F := Ideal)) x w (ix2 a l) = ∑ k : Fin 2048, x (ix2 a k) * w (ix2 l k) := by
  pointwise [k0_pay2, k0_pay1]
variable (m : (ℓ : Loc nD τ sig) → Buf (Elt Ideal) ℓ) (c : Dev nD)
theorem idx_in : ∀ t : Fin cfg0.N, win0_0.index t = ![t.val / 2, 0] ∧ win0_1.index t = ![t.val % 2, 0] ∧ win0_2.index t = ![t.val / 2, t.val % 2] :=
  (by decide +kernel : ∀ t : Fin grid0.N, _)
theorem pt_lt (t : Fin cfg0.N) : t.val < 16 := by
  have h : t.val < grid0.N := t.isLt
  rwa [N_0] at h
/-- The left factor. -/
abbrev X : FVec Ideal S8192x2048 .f32 := m ((c : Thread nD τ).loc main_arg2)
/-- The weight. -/
abbrev W : FVec Ideal S2048x2048 .f32 := m ((c : Thread nD τ).loc main_arg1)
theorem V0 : (V m c main_arg2 : FVec Ideal S8192x2048 .f32) = X m c := by
  show StableHlo.after hostOps0 _ (Proc.tc.devRef main_arg2) = _
  entry_read
  rfl
theorem V1 : (V m c main_v0 : FVec Ideal S2048x2048 .bf16) = W m c := by
  show StableHlo.after hostOps0 _ (Proc.tc.devRef main_v0) = _
  entry_read
  rfl
theorem ib0 (t : Fin cfg0.N) (a : Fin 1024) (k : Fin 2048) (A : Fin 8192) (hA : 1024 * (t.val / 2) + a.val = A.val) : (iblk m c 0 t : FVec Ideal S1024x2048 .f32) (ix2 a k) = X m c (ix2 A k) := by
  have ht := pt_lt t
  have e : (iblk m c 0 t : FVec Ideal S1024x2048 .f32) (ix2 a k) = (V m c main_arg2 : FVec Ideal S8192x2048 .f32) (ix2 ⟨1024 * (t.val / 2) + a, by omega⟩ k) := by
    blk_ext [iblk, idx_in t]
  rw [e, V0]
  simp only [hA, Fin.eta]
theorem ib1 (t : Fin cfg0.N) (k : Fin 2048) (l : Fin 1024) (L : Fin 2048) (hL : 1024 * (t.val % 2) + l.val = L.val) : (iblk m c 1 t : FVec Ideal S1024x2048 .bf16) (ix2 l k) = W m c (ix2 L k) := by
  have ht := pt_lt t
  have e : (iblk m c 1 t : FVec Ideal S1024x2048 .bf16) (ix2 l k) = (V m c main_v0 : FVec Ideal S2048x2048 .bf16) (ix2 ⟨1024 * (t.val % 2) + l, by omega⟩ k) := by
    blk_ext [iblk, idx_in t]
  rw [e, V1]
  simp only [hL, Fin.eta]
/-- The result. -/
def res (x : FVec Ideal S8192x2048 .f32) (w : FVec Ideal S2048x2048 .f32) : FVec Ideal S8192x2048 .f32 := fun i => (∑ k : Fin 2048, x (ix2 (i 0) k) * w (ix2 (i 1) k))
theorem out_val (t : Fin cfg0.N) (a l : Fin 1024) (A : Fin 8192) (L : Fin 2048) (hA : 1024 * (t.val / 2) + a.val = A.val) (hL : 1024 * (t.val % 2) + l.val = L.val) : outsAt0 m c t (ix2 a l) = res (X m c) (W m c) (ix2 A L) := by
  unfold outsAt0
  rw [ot, step_apply]
  refine Finset.sum_congr rfl fun k _ => ?_
  rw [ib0 m c t a k A hA, ib1 m c t k l L hL]
  rfl
theorem final : (dats m 0 c).arrAt 2 cfg0.N = res (X m c) (W m c) := by
  refine (dats m 0 c).arrAt_eq_of_covers 2 _ (by decide +kernel) fun t hfl y => ?_
  have ht := pt_lt t
  have e0 : ((win0_2.blk t).view.emb y 0).val = 1024 * (t.val / 2) + (y 0).val := by
    blk_simp [idx_in t]
    first | done | omega
  have e1 : ((win0_2.blk t).view.emb y 1).val = 1024 * (t.val % 2) + (y 1).val := by
    blk_simp [idx_in t]
    first | done | omega
  blk_simp
  rw [after0_2]
  obtain ⟨a, l, rfl⟩ : ∃ (a l : Fin 1024), y = ix2 a l := ⟨y 0, y 1, by funext i; fin_cases i <;> rfl⟩
  refine (out_val m c t a l _ _ e0.symm e1.symm).trans (congrArg (res (X m c) (W m c)) ?_)
  funext b
  fin_cases b <;> rfl
theorem run (g : Dev nD → PrngReg) : θ_run defs (onTc (τ := τ) (main (F := Ideal))) ⟨m, fun _ => 0, g⟩ fun r => ∀ c : Dev nD,
      r.2.mem ((c : Thread nD τ).loc main_v1) = res (X m c) (W m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m g)
theorem ref_val (x : FVec Ideal S8192x2048 .f32) (w : FVec Ideal S2048x2048 .f32) : Cert.Reference10Ideal.Read.val_main_v1 (F := Ideal) w x = res x w := by
  funext i
  rw [Cert.Reference10Ideal.Read.val_main_v1_apply]
  refine Finset.sum_congr rfl fun k _ => ?_
  refine congrArg₂ (· * ·) (congrArg x ?_) (congrArg w ?_) <;> (funext b; fin_cases b <;> rfl)
theorem frame_ideal : Cert.quiescent_Kernel10Ideal := fun m ρ _ => Cert.Kernel10Ideal.Gen.frame (F := Ideal) m ρ
theorem frame_ref : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)
theorem values : Cert.algebraic_Kernel10Ideal_Reference10Ideal := by
  intro m g m' g' _ hargs
  refine ⟨fun c => res (X m c) (W m c), run m g, (θ_run Cert.Reference10Ideal.defs _ _).mono (fun r h c => ?_) (Cert.Reference10Ideal.Value.run (F := Ideal) m' g')⟩
  obtain ⟨a0, a1, a2⟩ := hargs c
  refine ⟨(h c).1.trans ?_, (h c).2⟩
  rw [Cert.Reference10Ideal.Read.val_main_v1_eq, a1, a2]
  exact ref_val _ _
end Cert.Proof.MixOutDx
-- ==== Proof.MixOutDw.lean ====
module
public import proofs.«01_k».proof.Defs
public import proofs.«01_k».proof.Proof.MatSum
public import proofs.«01_k».proof.Proof.Gen.Kernel11Ideal.Value
public import proofs.«01_k».proof.Proof.Gen.Reference11Ideal.Read
public import Idealize.ShloMosaic.Lib.Pointwise
public import Idealize.ShloMosaic.Lib.Pipeline.ValueKit
public import Idealize.ShloMosaic.Lib.Claim
@[expose] public section
set_option maxRecDepth 65536
noncomputable section
/-! The gradient of the mixers' output weight. -/
namespace Cert.Proof.MixOutDw
open Cert.Kernel11Ideal Cert.Kernel11Ideal.Gen Cert.Proof.MatSum
open Idealize.ShloMosaic Idealize.ShloMosaic.TcCoe Idealize.SL.Sem
section
variable {F : FTy → Type} [FloatOps F] (c : Dev nD) (i : grid0.Coords) (a3 : Memref sig .tc .vmem S2048x1024 .f32) (h3 : a3.IsWhole) (a4 : Memref sig .tc .vmem S2048x1024 .f32) (h4 : a4.IsWhole)
  (a5 : Memref sig .tc .vmem S1024x1024 .f32) (h5 : a5.IsWhole) (a6 : Memref sig .tc .vmem S1024x1024 .f32) (h6 : a6.IsWhole)
  (x : Vec F S2048x1024 .f32) (w : Vec F S2048x1024 .f32) (s : Vec F S1024x1024 .f32)
theorem scA (h0 : cond0_0 i) (h1 : ¬cond0_1 i) : sout0_A_0 c i a3 h3 a4 h4 a5 h5 a6 h6 h0 h1 x w = k0_pay2 k0_pay1 x w := by
  unfold sout0_A_0
  rw [View.read_writes_eq_canon _ _ _ (scover0_A_0 c i a3 h3 a4 h4 a5 h5 a6 h6 h0 h1 x w)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S2048x1024) zeros2]
theorem scB (h0 : ¬cond0_0 i) (h1 : ¬cond0_1 i) : sout0_B_0 c i a3 h3 a4 h4 a5 h5 a6 h6 h0 h1 x w s = k0_pay2 s x w := by
  unfold sout0_B_0
  rw [View.read_writes_eq_canon _ _ _ (scover0_B_0 c i a3 h3 a4 h4 a5 h5 a6 h6 h0 h1 x w s)]
  unfold kernelRun0_B
  dsimp only
  rw [View.canon_unit_zero zeros2]
  simp only [View.readAt_eq_ld, h3.read_unread, h4.read_unread, h6.read_unread, View.ld_unit_zero (S := S2048x1024) zeros2, View.ld_unit_zero (S := S1024x1024) zeros2]
theorem otC (h0 : ¬cond0_0 i) (h1 : cond0_1 i) : out0_C_2 c i a3 h3 a4 h4 a5 h5 a6 h6 h0 h1 x w s = k0_pay2 s x w := by
  unfold out0_C_2
  rw [View.read_writes_eq_canon _ _ _ (cover0_C_2 c i a3 h3 a4 h4 a5 h5 a6 h6 h0 h1 x w s)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S2048x1024) zeros2, View.ld_unit_zero (S := S1024x1024) zeros2]
end
theorem step_apply (s : FVec Ideal S1024x1024 .f32) (x : FVec Ideal S2048x1024 .f32) (w : FVec Ideal S2048x1024 .f32) (a l : Fin 1024) :
    k0_pay2 (F := Ideal) s x w (ix2 a l) = s (ix2 a l) + ∑ k : Fin 2048, x (ix2 k a) * w (ix2 k l) := by
  pointwise [k0_pay2]
theorem zero_apply (a l : Fin 1024) : (k0_pay1 : FVec Ideal S1024x1024 .f32) (ix2 a l) = 0 := by
  pointwise [k0_pay1]
variable (m : (ℓ : Loc nD τ sig) → Buf (Elt Ideal) ℓ) (c : Dev nD)
theorem idx_in : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, _)
theorem pt_lt (t : Fin cfg0.N) : t.val < 16 := by
  have h : t.val < grid0.N := t.isLt
  rwa [N_0] at h
theorem ib0 (t : Fin cfg0.N) (k : Fin 2048) (a : Fin 1024) (h1 h2) : (iblk m c 0 t : FVec Ideal S2048x1024 .f32) (ix2 k a)
    = (V m c main_arg0 : FVec Ideal S8192x2048 .f32) (ix2 ⟨2048 * (t.val % 4) + k, h1⟩ ⟨1024 * (t.val / 8) + a, h2⟩) := by
  have ht := pt_lt t
  blk_ext [iblk, idx_in t]
theorem ib1 (t : Fin cfg0.N) (k : Fin 2048) (a : Fin 1024) (h1 h2) : (iblk m c 1 t : FVec Ideal S2048x1024 .f32) (ix2 k a)
    = (V m c main_arg2 : FVec Ideal S8192x2048 .f32) (ix2 ⟨2048 * (t.val % 4) + k, h1⟩ ⟨1024 * (t.val / 4 % 2) + a, h2⟩) := by
  have ht := pt_lt t
  blk_ext [iblk, idx_in t]
/-- The projection's input. -/
abbrev X : FVec Ideal S8192x2048 .f32 := m ((c : Thread nD τ).loc main_arg0)
/-- The gradient that comes in. -/
abbrev W : FVec Ideal S8192x2048 .f32 := m ((c : Thread nD τ).loc main_arg2)
theorem V0 : (V m c main_arg0 : FVec Ideal S8192x2048 .f32) = X m c := by
  rfl
theorem V1 : (V m c main_arg2 : FVec Ideal S8192x2048 .f32) = W m c := by
  rfl
/-- One tile's part of a product. -/
def part (x : FVec Ideal S2048x1024 .f32) (w : FVec Ideal S2048x1024 .f32) (a l : Fin 1024) : EReal := ∑ k : Fin 2048, x (ix2 k a) * w (ix2 k l)
theorem first (t : Fin cfg0.N) (h : t.val % 4 = 0) (a l : Fin 1024) : (outsAt0 m c t.val t.isLt).2 (ix2 a l) = part (iblk m c 0 t) (iblk m c 1 t) a l := by
  rw [outsAt0_A m c t h (by omega)]
  dsimp only
  rw [scA, step_apply, zero_apply, zero_add]
  rfl
theorem next (t : Fin cfg0.N) (h : ¬t.val % 4 = 0) (h' : ¬t.val % 4 = 3) (a l : Fin 1024) :
    (outsAt0 m c t.val t.isLt).2 (ix2 a l) = (outsAt0 m c (t.val - 1) (Nat.lt_of_le_of_lt (Nat.sub_le _ _) t.isLt)).2 (ix2 a l) + part (iblk m c 0 t) (iblk m c 1 t) a l := by
  rw [outsAt0_B m c t h h']
  dsimp only
  rw [scB, step_apply]
  rfl
theorem last (t : Fin cfg0.N) (h : ¬t.val % 4 = 0) (h' : t.val % 4 = 3) (a l : Fin 1024) :
    (outsAt0 m c t.val t.isLt).1 (ix2 a l) = ((outsAt0 m c (t.val - 1) (Nat.lt_of_le_of_lt (Nat.sub_le _ _) t.isLt)).2 (ix2 a l) + part (iblk m c 0 t) (iblk m c 1 t) a l) := by
  rw [outsAt0_C m c t h h']
  dsimp only
  rw [otC, step_apply]
  rfl
/-- The whole product. -/
def prod (x : FVec Ideal S8192x2048 .f32) (w : FVec Ideal S8192x2048 .f32) (a : Fin 2048) (l : Fin 2048) : EReal := ∑ k : Fin 8192, x (ix2 k a) * w (ix2 k l)
theorem part_val (t : Fin cfg0.N) (a l : Fin 1024) (j : Fin 4) (A : Fin 2048) (L : Fin 2048) (hj : t.val % 4 = j.val) (hA : 1024 * (t.val / 8) + a.val = A.val) (hL : 1024 * (t.val / 4 % 2) + l.val = L.val) :
    part (iblk m c 0 t) (iblk m c 1 t) a l = ∑ k : Fin 2048, X m c (ix2 ⟨j.val * 2048 + k.val, by omega⟩ A) * W m c (ix2 ⟨j.val * 2048 + k.val, by omega⟩ L) := by
  unfold part
  refine Finset.sum_congr rfl fun k _ => ?_
  rw [ib0 m c t k a (by omega) (by omega), ib1 m c t k l (by omega) (by omega), V0, V1]
  have e : 2048 * (t.val % 4) + k.val = j.val * 2048 + k.val := by omega
  simp only [e, hA, hL, Fin.eta]
theorem out_val (t : Fin cfg0.N) (h : t.val % 4 = 3) (a l : Fin 1024) (A : Fin 2048) (L : Fin 2048) (hA : 1024 * (t.val / 8) + a.val = A.val) (hL : 1024 * (t.val / 4 % 2) + l.val = L.val) :
    (outsAt0 m c t.val t.isLt).1 (ix2 a l) = prod (X m c) (W m c) A L := by
  have ht := t.isLt
  rw [last m c t (by omega) h, next m c ⟨t.val - 1, by omega⟩ (by dsimp only; omega) (by dsimp only; omega), next m c ⟨t.val - 1 - 1, by omega⟩ (by dsimp only; omega) (by dsimp only; omega),
    first m c ⟨t.val - 1 - 1 - 1, by omega⟩ (by dsimp only; omega),
    part_val m c t a l 3 A L h hA hL, part_val m c ⟨t.val - 1, by omega⟩ a l 2 A L (by dsimp only; omega) (by dsimp only; omega) (by dsimp only; omega),
    part_val m c ⟨t.val - 1 - 1, by omega⟩ a l 1 A L (by dsimp only; omega) (by dsimp only; omega) (by dsimp only; omega),
    part_val m c ⟨t.val - 1 - 1 - 1, by omega⟩ a l 0 A L (by dsimp only; omega) (by dsimp only; omega) (by dsimp only; omega)]
  unfold prod
  rw [Fin.sum_univ_tiles 4 2048 rfl, Fin.sum_univ_four]
/-- The result. -/
def res (x : FVec Ideal S8192x2048 .f32) (w : FVec Ideal S8192x2048 .f32) : FVec Ideal S2048x2048 .f32 := fun i => prod x w (i 0) (i 1)
theorem final : (dats m 0 c).arrAt 2 cfg0.N = res (X m c) (W m c) := by
  refine (dats m 0 c).arrAt_eq_of_covers 2 _ (by decide +kernel) fun t hfl y => ?_
  have ht := pt_lt t
  have hl : t.val % 4 = 3 := (flush0_2 t).mp hfl
  have e0 : ((win0_2.blk t).view.emb y 0).val = 1024 * (t.val / 8) + (y 0).val := by
    blk_simp [idx_in t]
    first | done | omega
  have e1 : ((win0_2.blk t).view.emb y 1).val = 1024 * (t.val / 4 % 2) + (y 1).val := by
    blk_simp [idx_in t]
    first | done | omega
  blk_simp
  rw [after0_2]
  obtain ⟨a, l, rfl⟩ : ∃ (a l : Fin 1024), y = ix2 a l := ⟨y 0, y 1, by funext i; fin_cases i <;> rfl⟩
  exact (out_val m c t hl a l _ _ e0.symm e1.symm).trans rfl
theorem run (g : Dev nD → PrngReg) : θ_run defs (onTc (τ := τ) (main (F := Ideal))) ⟨m, fun _ => 0, g⟩ fun r => ∀ c : Dev nD,
      r.2.mem ((c : Thread nD τ).loc main_v0) = res (X m c) (W m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m g)
theorem ref_val (x : FVec Ideal S8192x2048 .f32) (w : FVec Ideal S8192x2048 .f32) : Cert.Reference11Ideal.Read.val_main_v2 (F := Ideal) x w = res x w := by
  funext i
  rw [Cert.Reference11Ideal.Read.val_main_v2_apply, Cert.Reference11Ideal.Read.val_main_v1_apply]
  unfold res prod
  refine Finset.sum_congr rfl fun k _ => ?_
  refine (mul_comm _ _).trans ?_
  refine congrArg₂ (· * ·) (congrArg x ?_) (congrArg w ?_) <;> (funext b; fin_cases b <;> rfl)
theorem frame_ideal : Cert.quiescent_Kernel11Ideal := fun m ρ _ => Cert.Kernel11Ideal.Gen.frame (F := Ideal) m ρ
theorem frame_ref : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)
theorem values : Cert.algebraic_Kernel11Ideal_Reference11Ideal := by
  intro m g m' g' _ hargs
  refine ⟨fun c => res (X m c) (W m c), run m g, (θ_run Cert.Reference11Ideal.defs _ _).mono (fun r h c => ?_) (Cert.Reference11Ideal.Value.run (F := Ideal) m' g')⟩
  obtain ⟨a0, a1, a2⟩ := hargs c
  refine ⟨(h c).1.trans ?_, (h c).2⟩
  rw [Cert.Reference11Ideal.Read.val_main_v2_eq, a0, a2]
  exact ref_val _ _
end Cert.Proof.MixOutDw
-- ==== Proof.HybIn.lean ====
module
public import proofs.«01_k».proof.Defs
public import proofs.«01_k».proof.Proof.MatSum
public import proofs.«01_k».proof.Proof.Gen.Kernel12Ideal.Value
public import proofs.«01_k».proof.Proof.Gen.Reference12Ideal.Read
public import Idealize.ShloMosaic.Lib.Pointwise
public import Idealize.ShloMosaic.Lib.Pipeline.ValueKit
public import Idealize.ShloMosaic.Lib.Claim
@[expose] public section
set_option maxRecDepth 65536
noncomputable section
/-! The even layers' projection to queries, keys, values and gates. -/
namespace Cert.Proof.HybIn
open Cert.Kernel12Ideal Cert.Kernel12Ideal.Gen Cert.Proof.MatSum
open Idealize.ShloMosaic Idealize.ShloMosaic.TcCoe Idealize.SL.Sem
section
variable {F : FTy → Type} [FloatOps F] (c : Dev nD) (i : grid0.Coords) (a3 : Memref sig .tc .vmem S1024x2048 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole) (h0 : cond0_0 i) (h1 : cond0_1 i)
  (x : Vec F S1024x2048 .bf16) (w : Vec F S2048x1024 .bf16)
theorem ot : out0_A_2 c i a3 h3 a4 h4 a5 h5 a6 h6 h0 h1 x w = k0_pay2 k0_pay1 x w := by
  unfold out0_A_2
  rw [View.read_writes_eq_canon _ _ _ (cover0_A_2 c i a3 h3 a4 h4 a5 h5 a6 h6 h0 h1 x w)]
  unfold kernelRun0_A
  dsimp only
  sl_unfold_words
  rw [View.canon_unit_zero zeros2]
  simp only [View.readCov_unit_zero (S := S1024x1024) _ zeros2, View.readAt_eq_ld, h3.read_unread, h4.read_unread, View.ld_unit_zero (S := S1024x2048) zeros2, View.ld_unit_zero (S := S2048x1024) zeros2]
  exact View.readCov_cons_unit_lit' (S := S1024x1024) _ _ _ _ _ (by decide) (by decide)
end
theorem step_apply (x : FVec Ideal S1024x2048 .bf16) (w : FVec Ideal S2048x1024 .bf16) (a l : Fin 1024) :
    k0_pay2 (F := Ideal) (k0_pay1 (F := Ideal)) x w (ix2 a l) = ∑ k : Fin 2048, x (ix2 a k) * w (ix2 k l) := by
  pointwise [k0_pay2, k0_pay1]
variable (m : (ℓ : Loc nD τ sig) → Buf (Elt Ideal) ℓ) (c : Dev nD)
theorem idx_in : ∀ t : Fin cfg0.N, win0_0.index t = ![t.val / 4, 0] ∧ win0_1.index t = ![0, t.val % 4] ∧ win0_2.index t = ![t.val / 4, t.val % 4] :=
  (by decide +kernel : ∀ t : Fin grid0.N, _)
theorem pt_lt (t : Fin cfg0.N) : t.val < 32 := by
  have h : t.val < grid0.N := t.isLt
  rwa [N_0] at h
/-- The left factor. -/
abbrev X : FVec Ideal S8192x2048 .f32 := m ((c : Thread nD τ).loc main_arg0)
/-- The weight. -/
abbrev W : FVec Ideal S2048x4096 .f32 := m ((c : Thread nD τ).loc main_arg1)
theorem V0 : (V m c main_v0 : FVec Ideal S8192x2048 .bf16) = X m c := by
  show StableHlo.after hostOps0 _ (Proc.tc.devRef main_v0) = _
  entry_read
  rfl
theorem V1 : (V m c main_v1 : FVec Ideal S2048x4096 .bf16) = W m c := by
  show StableHlo.after hostOps0 _ (Proc.tc.devRef main_v1) = _
  entry_read
  rfl
theorem ib0 (t : Fin cfg0.N) (a : Fin 1024) (k : Fin 2048) (A : Fin 8192) (hA : 1024 * (t.val / 4) + a.val = A.val) : (iblk m c 0 t : FVec Ideal S1024x2048 .bf16) (ix2 a k) = X m c (ix2 A k) := by
  have ht := pt_lt t
  have e : (iblk m c 0 t : FVec Ideal S1024x2048 .bf16) (ix2 a k) = (V m c main_v0 : FVec Ideal S8192x2048 .bf16) (ix2 ⟨1024 * (t.val / 4) + a, by omega⟩ k) := by
    blk_ext [iblk, idx_in t]
  rw [e, V0]
  simp only [hA, Fin.eta]
theorem ib1 (t : Fin cfg0.N) (k : Fin 2048) (l : Fin 1024) (L : Fin 4096) (hL : 1024 * (t.val % 4) + l.val = L.val) : (iblk m c 1 t : FVec Ideal S2048x1024 .bf16) (ix2 k l) = W m c (ix2 k L) := by
  have ht := pt_lt t
  have e : (iblk m c 1 t : FVec Ideal S2048x1024 .bf16) (ix2 k l) = (V m c main_v1 : FVec Ideal S2048x4096 .bf16) (ix2 k ⟨1024 * (t.val % 4) + l, by omega⟩) := by
    blk_ext [iblk, idx_in t]
  rw [e, V1]
  simp only [hL, Fin.eta]
/-- The result. -/
def res (x : FVec Ideal S8192x2048 .f32) (w : FVec Ideal S2048x4096 .f32) : FVec Ideal S8192x4096 .f32 := fun i => (∑ k : Fin 2048, x (ix2 (i 0) k) * w (ix2 k (i 1)))
theorem out_val (t : Fin cfg0.N) (a l : Fin 1024) (A : Fin 8192) (L : Fin 4096) (hA : 1024 * (t.val / 4) + a.val = A.val) (hL : 1024 * (t.val % 4) + l.val = L.val) : outsAt0 m c t (ix2 a l) = res (X m c) (W m c) (ix2 A L) := by
  unfold outsAt0
  rw [ot, step_apply]
  refine Finset.sum_congr rfl fun k _ => ?_
  rw [ib0 m c t a k A hA, ib1 m c t k l L hL]
  rfl
theorem final : (dats m 0 c).arrAt 2 cfg0.N = res (X m c) (W m c) := by
  refine (dats m 0 c).arrAt_eq_of_covers 2 _ (by decide +kernel) fun t hfl y => ?_
  have ht := pt_lt t
  have e0 : ((win0_2.blk t).view.emb y 0).val = 1024 * (t.val / 4) + (y 0).val := by
    blk_simp [idx_in t]
    first | done | omega
  have e1 : ((win0_2.blk t).view.emb y 1).val = 1024 * (t.val % 4) + (y 1).val := by
    blk_simp [idx_in t]
    first | done | omega
  blk_simp
  rw [after0_2]
  obtain ⟨a, l, rfl⟩ : ∃ (a l : Fin 1024), y = ix2 a l := ⟨y 0, y 1, by funext i; fin_cases i <;> rfl⟩
  refine (out_val m c t a l _ _ e0.symm e1.symm).trans (congrArg (res (X m c) (W m c)) ?_)
  funext b
  fin_cases b <;> rfl
theorem run (g : Dev nD → PrngReg) : θ_run defs (onTc (τ := τ) (main (F := Ideal))) ⟨m, fun _ => 0, g⟩ fun r => ∀ c : Dev nD,
      r.2.mem ((c : Thread nD τ).loc main_v2) = res (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩) (Value.run_blocks m g)
theorem ref_val (x : FVec Ideal S8192x2048 .f32) (w : FVec Ideal S2048x4096 .f32) : Cert.Reference12Ideal.Read.val_main_v0 (F := Ideal) x w = res x w := by
  funext i
  rw [Cert.Reference12Ideal.Read.val_main_v0_apply]
  refine Finset.sum_congr rfl fun k _ => ?_
  refine congrArg₂ (· * ·) (congrArg x ?_) (congrArg w ?_) <;> (funext b; fin_cases b <;> rfl)
theorem frame_ideal : Cert.quiescent_Kernel12Ideal := fun m ρ _ => Cert.Kernel12Ideal.Gen.frame (F := Ideal) m ρ
theorem frame_ref : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)
theorem values : Cert.algebraic_Kernel12Ideal_Reference12Ideal := by
  intro m g m' g' _ hargs
  refine ⟨fun c => res (X m c) (W m c), run m g, (θ_run Cert.Reference12Ideal.defs _ _).mono (fun r h c => ?_) (Cert.Reference12Ideal.Value.run (F := Ideal) m' g')⟩
  obtain ⟨a0, a1⟩ := hargs c
  refine ⟨(h c).1.trans ?_, (h c).2⟩
  rw [Cert.Reference12Ideal.Read.val_main_v0_eq, a0, a1]
  exact ref_val _ _
end Cert.Proof.HybIn
-- ==== Proof.HybInDw.lean ====
module
public import proofs.«01_k».proof.Defs
public import proofs.«01_k».proof.Proof.MatSum
public import proofs.«01_k».proof.Proof.Gen.Kernel13Ideal.Value
public import proofs.«01_k».proof.Proof.Gen.Reference13Ideal.Read
public import Idealize.ShloMosaic.Lib.Pointwise
public import Idealize.ShloMosaic.Lib.Pipeline.ValueKit
public import Idealize.ShloMosaic.Lib.Claim
@[expose] public section
set_option maxRecDepth 65536
noncomputable section
/-! The gradient of the even layers' projection weight. -/
namespace Cert.Proof.HybInDw
open Cert.Kernel13Ideal Cert.Kernel13Ideal.Gen Cert.Proof.MatSum
open Idealize.ShloMosaic Idealize.ShloMosaic.TcCoe Idealize.SL.Sem
section
variable {F : FTy → Type} [FloatOps F] (c : Dev nD) (i : grid0.Coords) (a3 : Memref sig .tc .vmem S2048x1024 .bf16) (h3 : a3.IsWhole) (a4 : Memref sig .tc .vmem S2048x1024 .f32) (h4 : a4.IsWhole)
  (a5 : Memref sig .tc .vmem S1024x1024 .f32) (h5 : a5.IsWhole) (a6 : Memref sig .tc .vmem S1024x1024 .f32) (h6 : a6.IsWhole)
  (x : Vec F S2048x1024 .bf16) (w : Vec F S2048x1024 .f32) (s : Vec F S1024x1024 .f32)
theorem scA (h0 : cond0_0 i) (h1 : ¬cond0_1 i) : sout0_A_0 c i a3 h3 a4 h4 a5 h5 a6 h6 h0 h1 x w = k0_pay2 k0_pay1 x w := by
  unfold sout0_A_0
  rw [View.read_writes_eq_canon _ _ _ (scover0_A_0 c i a3 h3 a4 h4 a5 h5 a6 h6 h0 h1 x w)]
  unfold kernelRun0_A
  dsimp only
  sl_unfold_words
  rw [View.canon_cons_unit_zero (S := S1024x1024) zeros2, View.readCov_unit_zero (S := S1024x1024) _ zeros2]
  simp only [View.readAt_eq_ld, h3.read_unread, h4.read_unread, View.ld_unit_zero (S := S2048x1024) zeros2]
theorem scB (h0 : ¬cond0_0 i) (h1 : ¬cond0_1 i) : sout0_B_0 c i a3 h3 a4 h4 a5 h5 a6 h6 h0 h1 x w s = k0_pay2 s x w := by
  unfold sout0_B_0
  rw [View.read_writes_eq_canon _ _ _ (scover0_B_0 c i a3 h3 a4 h4 a5 h5 a6 h6 h0 h1 x w s)]
  unfold kernelRun0_B
  dsimp only
  rw [View.canon_unit_zero zeros2]
  simp only [View.readAt_eq_ld, h3.read_unread, h4.read_unread, h6.read_unread, View.ld_unit_zero (S := S2048x1024) zeros2, View.ld_unit_zero (S := S1024x1024) zeros2]
theorem otC (h0 : ¬cond0_0 i) (h1 : cond0_1 i) : out0_C_2 c i a3 h3 a4 h4 a5 h5 a6 h6 h0 h1 x w s = k0_pay2 s x w := by
  unfold out0_C_2
  rw [View.read_writes_eq_canon _ _ _ (cover0_C_2 c i a3 h3 a4 h4 a5 h5 a6 h6 h0 h1 x w s)]
  unfold kernelRun0_C
  dsimp only
  sl_unfold_words
  rw [View.canon_unit_zero zeros2, View.readCov_unit_zero (S := S1024x1024) _ zeros2]
  simp only [View.readAt_eq_ld, h3.read_unread, h4.read_unread, h6.read_unread, View.ld_unit_zero (S := S2048x1024) zeros2, View.ld_unit_zero (S := S1024x1024) zeros2]
end
theorem step_apply (s : FVec Ideal S1024x1024 .f32) (x : FVec Ideal S2048x1024 .bf16) (w : FVec Ideal S2048x1024 .f32) (a l : Fin 1024) :
    k0_pay2 (F := Ideal) s x w (ix2 a l) = s (ix2 a l) + ∑ k : Fin 2048, x (ix2 k a) * w (ix2 k l) := by
  pointwise [k0_pay2]
theorem zero_apply (a l : Fin 1024) : (k0_pay1 : FVec Ideal S1024x1024 .f32) (ix2 a l) = 0 := by
  pointwise [k0_pay1]
variable (m : (ℓ : Loc nD τ sig) → Buf (Elt Ideal) ℓ) (c : Dev nD)
theorem idx_in : ∀ t : Fin cfg0.N, win0_0.index t = ![t.val % 4, t.val / 16] ∧ win0_1.index t = ![t.val % 4, t.val / 4 % 4] ∧ win0_2.index t = ![t.val / 16, t.val / 4 % 4] :=
  (by decide +kernel : ∀ t : Fin grid0.N, _)
theorem pt_lt (t : Fin cfg0.N) : t.val < 32 := by
  have h : t.val < grid0.N := t.isLt
  rwa [N_0] at h
theorem ib0 (t : Fin cfg0.N) (k : Fin 2048) (a : Fin 1024) (h1 h2) : (iblk m c 0 t : FVec Ideal S2048x1024 .bf16) (ix2 k a)
    = (V m c main_v0 : FVec Ideal S8192x2048 .bf16) (ix2 ⟨2048 * (t.val % 4) + k, h1⟩ ⟨1024 * (t.val / 16) + a, h2⟩) := by
  have ht := pt_lt t
  blk_ext [iblk, idx_in t]
theorem ib1 (t : Fin cfg0.N) (k : Fin 2048) (a : Fin 1024) (h1 h2) : (iblk m c 1 t : FVec Ideal S2048x1024 .f32) (ix2 k a)
    = (V m c main_arg2 : FVec Ideal S8192x4096 .f32) (ix2 ⟨2048 * (t.val % 4) + k, h1⟩ ⟨1024 * (t.val / 4 % 4) + a, h2⟩) := by
  have ht := pt_lt t
  blk_ext [iblk, idx_in t]
/-- The projection's input. -/
abbrev X : FVec Ideal S8192x2048 .f32 := m ((c : Thread nD τ).loc main_arg0)
/-- The gradient that comes in. -/
abbrev W : FVec Ideal S8192x4096 .f32 := m ((c : Thread nD τ).loc main_arg2)
theorem V0 : (V m c main_v0 : FVec Ideal S8192x2048 .bf16) = X m c := by
  show StableHlo.after hostOps0 _ (Proc.tc.devRef main_v0) = _
  entry_read
  rfl
theorem V1 : (V m c main_arg2 : FVec Ideal S8192x4096 .f32) = W m c := by
  show StableHlo.after hostOps0 _ (Proc.tc.devRef main_arg2) = _
  entry_read
  rfl
/-- One tile's part of a product. -/
def part (x : FVec Ideal S2048x1024 .bf16) (w : FVec Ideal S2048x1024 .f32) (a l : Fin 1024) : EReal := ∑ k : Fin 2048, x (ix2 k a) * w (ix2 k l)
theorem first (t : Fin cfg0.N) (h : t.val % 4 = 0) (a l : Fin 1024) : (outsAt0 m c t.val t.isLt).2 (ix2 a l) = part (iblk m c 0 t) (iblk m c 1 t) a l := by
  rw [outsAt0_A m c t h (by omega)]
  dsimp only
  rw [scA, step_apply, zero_apply, zero_add]
  rfl
theorem next (t : Fin cfg0.N) (h : ¬t.val % 4 = 0) (h' : ¬t.val % 4 = 3) (a l : Fin 1024) :
    (outsAt0 m c t.val t.isLt).2 (ix2 a l) = (outsAt0 m c (t.val - 1) (Nat.lt_of_le_of_lt (Nat.sub_le _ _) t.isLt)).2 (ix2 a l) + part (iblk m c 0 t) (iblk m c 1 t) a l := by
  rw [outsAt0_B m c t h h']
  dsimp only
  rw [scB, step_apply]
  rfl
theorem last (t : Fin cfg0.N) (h : ¬t.val % 4 = 0) (h' : t.val % 4 = 3) (a l : Fin 1024) :
    (outsAt0 m c t.val t.isLt).1 (ix2 a l) = ((outsAt0 m c (t.val - 1) (Nat.lt_of_le_of_lt (Nat.sub_le _ _) t.isLt)).2 (ix2 a l) + part (iblk m c 0 t) (iblk m c 1 t) a l) := by
  rw [outsAt0_C m c t h h']
  dsimp only
  rw [otC, step_apply]
  rfl
/-- The whole product. -/
def prod (x : FVec Ideal S8192x2048 .f32) (w : FVec Ideal S8192x4096 .f32) (a : Fin 2048) (l : Fin 4096) : EReal := ∑ k : Fin 8192, x (ix2 k a) * w (ix2 k l)
theorem part_val (t : Fin cfg0.N) (a l : Fin 1024) (j : Fin 4) (A : Fin 2048) (L : Fin 4096) (hj : t.val % 4 = j.val) (hA : 1024 * (t.val / 16) + a.val = A.val) (hL : 1024 * (t.val / 4 % 4) + l.val = L.val) :
    part (iblk m c 0 t) (iblk m c 1 t) a l = ∑ k : Fin 2048, X m c (ix2 ⟨j.val * 2048 + k.val, by omega⟩ A) * W m c (ix2 ⟨j.val * 2048 + k.val, by omega⟩ L) := by
  unfold part
  refine Finset.sum_congr rfl fun k _ => ?_
  rw [ib0 m c t k a (by omega) (by omega), ib1 m c t k l (by omega) (by omega), V0, V1]
  have e : 2048 * (t.val % 4) + k.val = j.val * 2048 + k.val := by omega
  simp only [e, hA, hL, Fin.eta]
theorem out_val (t : Fin cfg0.N) (h : t.val % 4 = 3) (a l : Fin 1024) (A : Fin 2048) (L : Fin 4096) (hA : 1024 * (t.val / 16) + a.val = A.val) (hL : 1024 * (t.val / 4 % 4) + l.val = L.val) :
    (outsAt0 m c t.val t.isLt).1 (ix2 a l) = prod (X m c) (W m c) A L := by
  have ht := t.isLt
  rw [last m c t (by omega) h, next m c ⟨t.val - 1, by omega⟩ (by dsimp only; omega) (by dsimp only; omega), next m c ⟨t.val - 1 - 1, by omega⟩ (by dsimp only; omega) (by dsimp only; omega),
    first m c ⟨t.val - 1 - 1 - 1, by omega⟩ (by dsimp only; omega),
    part_val m c t a l 3 A L h hA hL, part_val m c ⟨t.val - 1, by omega⟩ a l 2 A L (by dsimp only; omega) (by dsimp only; omega) (by dsimp only; omega),
    part_val m c ⟨t.val - 1 - 1, by omega⟩ a l 1 A L (by dsimp only; omega) (by dsimp only; omega) (by dsimp only; omega),
    part_val m c ⟨t.val - 1 - 1 - 1, by omega⟩ a l 0 A L (by dsimp only; omega) (by dsimp only; omega) (by dsimp only; omega)]
  unfold prod
  rw [Fin.sum_univ_tiles 4 2048 rfl, Fin.sum_univ_four]
/-- The result. -/
def res (x : FVec Ideal S8192x2048 .f32) (w : FVec Ideal S8192x4096 .f32) : FVec Ideal S2048x4096 .f32 := fun i => prod x w (i 0) (i 1)
theorem final : (dats m 0 c).arrAt 2 cfg0.N = res (X m c) (W m c) := by
  refine (dats m 0 c).arrAt_eq_of_covers 2 _ (by decide +kernel) fun t hfl y => ?_
  have ht := pt_lt t
  have hl : t.val % 4 = 3 := (flush0_2 t).mp hfl
  have e0 : ((win0_2.blk t).view.emb y 0).val = 1024 * (t.val / 16) + (y 0).val := by
    blk_simp [idx_in t]
    first | done | omega
  have e1 : ((win0_2.blk t).view.emb y 1).val = 1024 * (t.val / 4 % 4) + (y 1).val := by
    blk_simp [idx_in t]
    first | done | omega
  blk_simp
  rw [after0_2]
  obtain ⟨a, l, rfl⟩ : ∃ (a l : Fin 1024), y = ix2 a l := ⟨y 0, y 1, by funext i; fin_cases i <;> rfl⟩
  exact (out_val m c t hl a l _ _ e0.symm e1.symm).trans rfl
theorem run (g : Dev nD → PrngReg) : θ_run defs (onTc (τ := τ) (main (F := Ideal))) ⟨m, fun _ => 0, g⟩ fun r => ∀ c : Dev nD,
      r.2.mem ((c : Thread nD τ).loc main_v1) = res (X m c) (W m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m g)
theorem ref_val (x : FVec Ideal S8192x2048 .f32) (w : FVec Ideal S8192x4096 .f32) : Cert.Reference13Ideal.Read.val_main_v2 (F := Ideal) x w = res x w := by
  funext i
  rw [Cert.Reference13Ideal.Read.val_main_v2_apply, Cert.Reference13Ideal.Read.val_main_v1_apply]
  unfold res prod
  refine Finset.sum_congr rfl fun k _ => ?_
  refine (mul_comm _ _).trans ?_
  refine congrArg₂ (· * ·) (congrArg x ?_) (congrArg w ?_) <;> (funext b; fin_cases b <;> rfl)
theorem frame_ideal : Cert.quiescent_Kernel13Ideal := fun m ρ _ => Cert.Kernel13Ideal.Gen.frame (F := Ideal) m ρ
theorem frame_ref : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)
theorem values : Cert.algebraic_Kernel13Ideal_Reference13Ideal := by
  intro m g m' g' _ hargs
  refine ⟨fun c => res (X m c) (W m c), run m g, (θ_run Cert.Reference13Ideal.defs _ _).mono (fun r h c => ?_) (Cert.Reference13Ideal.Value.run (F := Ideal) m' g')⟩
  obtain ⟨a0, a1, a2⟩ := hargs c
  refine ⟨(h c).1.trans ?_, (h c).2⟩
  rw [Cert.Reference13Ideal.Read.val_main_v2_eq, a0, a2]
  exact ref_val _ _
end Cert.Proof.HybInDw
-- ==== Proof.FwdFrames.lean ====
module
public import proofs.«01_k».proof.Defs
public import proofs.«01_k».proof.Proof.NamedWord
public import proofs.«01_k».proof.Proof.Gen.Kernel14
public import proofs.«01_k».proof.Proof.Gen.Kernel14Ideal.Value
public import proofs.«01_k».proof.Proof.Gen.Reference14Ideal.Run
public import Idealize.ShloMosaic.Adequacy
public import Idealize.ShloMosaic.Init
@[expose] public section
set_option maxRecDepth 65536
noncomputable section
/-! The frames of the attention's forward pass and of its reference: with the mask's name and without it, the machine-word programs are the same. -/
namespace Cert.Proof.Fwd
open Idealize.ShloMosaic Idealize.SL.Sem
theorem same_body : @Cert.Kernel14.cc0_attention_fwd Bits _ Cert.Kernel14.Gen.facts
    = @Cert.Kernel14Ideal.cc0_attention_fwd Bits _ _ Cert.Kernel14Ideal.Gen.facts := rfl
set_option maxHeartbeats 2000000 in
theorem same_bodies : @Cert.Kernel14.defs₀ Bits _ Cert.Kernel14.Gen.facts
    = @Cert.Kernel14Ideal.defs₀ Bits _ _ Cert.Kernel14Ideal.Gen.facts := by
  unfold Cert.Kernel14.defs₀ Cert.Kernel14Ideal.defs₀
  refine congrArg Defs.onTc (funext fun l => funext fun a => ?_)
  match l, a with
  | 0, (t, s) =>
    dsimp only
    iterate 21 refine congrFun ?_ _
    exact same_body
set_option maxHeartbeats 2000000 in
theorem same_defs : @Cert.Kernel14.defs Bits _ Cert.Kernel14.Gen.facts
    = @Cert.Kernel14Ideal.defs Bits _ _ Cert.Kernel14Ideal.Gen.facts := by
  unfold Cert.Kernel14.defs Cert.Kernel14Ideal.defs
  exact congrArg (Pipeline.defs Cert.Kernel14Ideal.pcfgs) same_bodies
set_option maxHeartbeats 8000000 in
theorem same_main : @Cert.Kernel14.main Bits _ Cert.Kernel14.Gen.facts
    = @Cert.Kernel14Ideal.main Bits _ Cert.Kernel14Ideal.Gen.facts := rfl
set_option maxHeartbeats 4000000 in
theorem frame_kernel : Cert.quiescent_Kernel14 := fun m ρ _ => by
  have h := Cert.Kernel14Ideal.Gen.frame (F := Bits) m ρ
  rw [← same_defs, ← same_main] at h
  exact h
theorem frame_ideal : Cert.quiescent_Kernel14Ideal := fun m ρ _ => Cert.Kernel14Ideal.Gen.frame (F := Ideal) m ρ
theorem frame_ref : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)
theorem mask_named : Cert.preserves_Kernel14_Kernel14Ideal := IdealRules.named_const.statement _ _ _ _ _ rfl
end Cert.Proof.Fwd
-- ==== Proof.FwdRow.lean ====
module
public import proofs.«01_k».proof.Proof.AttnReal
@[expose] public section
noncomputable section
/-! One row of the attention, block of keys by block of keys: the running maximum, and sums kept relative to it. -/
namespace Cert.Proof.Fwd
open Idealize.ShloMosaic
open Finset

/-- The number `l`, kept relative to the row's maximum `m` so far, stands for the sum `A`: nothing seen yet, or `A` scaled. -/
def Rep (m l : EReal) (A : ℝ) : Prop := (m = ⊥ ∧ l = 0 ∧ A = 0) ∨ ∃ M : ℝ, m = (M : EReal) ∧ l = ((A * Real.exp (-M) : ℝ) : EReal)
/-- The maximum of `m` and a block's scores, through the least of their negatives. -/
def newMax (m : EReal) (X : Fin 1024 → EReal) : EReal := max m (0 - Finset.fold min (⊤ : EReal) (fun k => 0 - X k) univ)

theorem newMax_real {m : EReal} {X : Fin 1024 → EReal} (hm : m ≠ ⊤) (hX : ∀ k, X k ≠ ⊤) (k₀ : Fin 1024) (h₀ : X k₀ ≠ ⊥) : ∃ M : ℝ, newMax m X = (M : EReal) := by
  have e : ∀ x : EReal, 0 - x = -x := fun x => by rw [sub_eq_add_neg, zero_add]
  unfold newMax
  simp only [e]
  have h1 : Finset.fold min (⊤ : EReal) (fun k => -X k) univ ≠ ⊤ := by
    intro h
    have : Finset.fold min (⊤ : EReal) (fun k => -X k) univ ≤ -X k₀ := (Finset.fold_min_le _).2 (Or.inr ⟨k₀, Finset.mem_univ _, le_rfl⟩)
    rw [h, top_le_iff, EReal.neg_eq_top_iff] at this
    exact h₀ this
  have h2 : Finset.fold min (⊤ : EReal) (fun k => -X k) univ ≠ ⊥ := by
    intro h
    have := h.le
    rw [Finset.fold_min_le] at this
    rcases this with h | ⟨k, _, h⟩
    · exact absurd (le_bot_iff.1 h) (by simp)
    · rw [le_bot_iff, EReal.neg_eq_bot_iff] at h
      exact hX k h
  rw [← EReal.coe_toReal h1 h2, ← EReal.coe_neg]
  by_cases hb : m = ⊥
  · rw [hb]; exact ⟨_, max_eq_right bot_le⟩
  · rw [← EReal.coe_toReal hm hb]
    rcases le_total (m.toReal : EReal) ((-(Finset.fold min (⊤ : EReal) (fun k => -X k) univ).toReal : ℝ) : EReal) with h | h
    · exact ⟨_, max_eq_right h⟩
    · exact ⟨_, max_eq_left h⟩

/-- One block's step of a sum kept relative to the maximum. -/
theorem step {m l : EReal} {X : Fin 1024 → EReal} {w : Fin 1024 → ℝ} {M A : ℝ} (hM : newMax m X = (M : EReal))
    (hX : ∀ k, Ideal.exp (X k - (M : EReal)) = ((w k * Real.exp (-M) : ℝ) : EReal)) (h : Rep m l A) (v : Fin 1024 → ℝ) :
    Ideal.exp (m - newMax m X) * l + ∑ k, Ideal.exp (X k - newMax m X) * (v k : EReal) = (((A + ∑ k, w k * v k) * Real.exp (-M) : ℝ) : EReal) := by
  have hs : ∑ k, Ideal.exp (X k - (M : EReal)) * (v k : EReal) = (((∑ k, w k * v k) * Real.exp (-M) : ℝ) : EReal) := by
    rw [Finset.sum_mul, Attn.coe_sum]
    exact Finset.sum_congr rfl fun k _ => by rw [hX, ← EReal.coe_mul]; congr 1; ring
  rw [hM, hs, add_mul, EReal.coe_add]
  congr 1
  rcases h with ⟨h1, h2, h3⟩ | ⟨M₀, h1, h2⟩
  · rw [h1, h2, h3, mul_zero, zero_mul, EReal.coe_zero]
  · rw [h1, h2, ← EReal.coe_sub, Ideal.exp_coe, ← EReal.coe_mul]
    congr 1
    rw [mul_left_comm, ← Real.exp_add]
    congr 2; ring
theorem step_one {m l : EReal} {X : Fin 1024 → EReal} {w : Fin 1024 → ℝ} {M A : ℝ} (hM : newMax m X = (M : EReal))
    (hX : ∀ k, Ideal.exp (X k - (M : EReal)) = ((w k * Real.exp (-M) : ℝ) : EReal)) (h : Rep m l A) :
    Ideal.exp (m - newMax m X) * l + ∑ k, Ideal.exp (X k - newMax m X) = (((A + ∑ k, w k) * Real.exp (-M) : ℝ) : EReal) := by
  have e := step hM hX h fun _ => 1
  simpa using e
theorem Rep.ne_top {m l : EReal} {A : ℝ} (h : Rep m l A) : m ≠ ⊤ := by
  rcases h with ⟨h, _⟩ | ⟨M, h, _⟩ <;> rw [h]
  · exact bot_ne_top
  · exact EReal.coe_ne_top _
/-- A row's masked scores, less a real number. -/
theorem exp_row (H : Attn.Head) (r k : ℕ) (x : EReal) (hx : x = if k ≤ r then ((H.S r k : ℝ) : EReal) else ⊥) (M : ℝ) :
    Ideal.exp (x - (M : EReal)) = ((H.W r k * Real.exp (-M) : ℝ) : EReal) := by
  rw [hx]; unfold Attn.Head.W
  split
  · rw [← EReal.coe_sub, Ideal.exp_coe, ← Real.exp_add, sub_eq_add_neg]
  · rw [EReal.bot_sub, Ideal.exp_bot, zero_mul, EReal.coe_zero]
/-- The sum over the first `n` keys. -/
def part (H : Attn.Head) (r n : ℕ) (v : ℕ → ℝ) : ℝ := ∑ k ∈ range n, H.W r k * v k
theorem part_add (H : Attn.Head) (r n : ℕ) (v : ℕ → ℝ) : part H r n v + ∑ k : Fin 1024, H.W r (n + k) * v (n + k) = part H r (n + 1024) v := by
  unfold part
  rw [Finset.sum_range_add, Finset.sum_range fun k => H.W r (n + k) * v (n + k)]
/-- Keys above the diagonal add nothing. -/
theorem part_all (H : Attn.Head) (r n : ℕ) (v : ℕ → ℝ) (hr : r < n) (hn : n ≤ 8192) : part H r n v = part H r 8192 v := by
  unfold part
  refine Finset.sum_subset (Finset.range_subset_range.2 hn) fun k _ hk => ?_
  rw [Finset.mem_range] at hk
  unfold Attn.Head.W
  rw [if_neg (by omega), zero_mul]
theorem part_one (H : Attn.Head) (r : ℕ) : part H r 8192 (fun _ => 1) = H.Z r := by
  unfold part Attn.Head.Z
  exact Finset.sum_congr rfl fun k _ => mul_one _
end Cert.Proof.Fwd
-- ==== Proof.FwdPay.lean ====
module
public import proofs.«01_k».proof.Proof.FwdRow
public import proofs.«01_k».proof.Proof.AttnBlocks
public import proofs.«01_k».proof.Proof.Gen.Kernel14Ideal.Skeleton
@[expose] public section
set_option maxRecDepth 16384
noncomputable section
/-! The parts of the attention's body, entry by entry. -/
namespace Cert.Proof.Fwd
open Cert.Kernel14Ideal Cert.Kernel14Ideal.Gen
open Idealize.ShloMosaic
open Finset
theorem top_word : Ideal.ofBits FTy.f32 0x7F800000#32 = ⊤ := Attn.plus_inf
variable (q qp k kp v : FVec Ideal S1024x128 .bf16) (mx mx' ls : FVec Ideal S1024x1 .f32) (ac : FVec Ideal S1024x128 .f32)
theorem pay1_apply (a : Fin 1024) : (k0_pay1 : FVec Ideal S1024x1 .f32) (ix2 a 0) = ⊥ := by
  pointwise [k0_pay1]
  rfl
theorem pay2_apply (a : Fin 1024) : (k0_pay2 : FVec Ideal S1024x1 .f32) (ix2 a 0) = 0 := by
  pointwise [k0_pay2]
theorem pay3_apply (a : Fin 1024) (d : Fin 128) : (k0_pay3 : FVec Ideal S1024x128 .f32) (ix2 a d) = 0 := by
  pointwise [k0_pay3]
theorem pay5_apply (a : Fin 1024) : k0_pay5 (F := Ideal) mx (ix2 a 0) = mx (ix2 a 0) := by
  pointwise [k0_pay5]
theorem pay6_apply (a : Fin 1024) : k0_pay6 (F := Ideal) mx (ix2 a 0) = mx (ix2 a 0) := by
  pointwise [k0_pay6]
theorem pay8_apply (a : Fin 1024) : k0_pay8 (F := Ideal) mx (ix2 a 0) = mx (ix2 a 0) := by
  pointwise [k0_pay8]
theorem pay11_apply (a b : Fin 1024) : k0_pay11 (F := Ideal) q qp k kp (ix2 a b) = (∑ x, q (ix2 a x) * k (ix2 b x) + ∑ x, qp (ix2 a x) * kp (ix2 b x)) * Ideal.ofBits FTy.f32 0x3D93CD3A#32 := by
  pointwise [k0_pay11]
theorem pay16_apply (a b : Fin 1024) : k0_pay16 (F := Ideal) q qp k kp (ix2 a b) =
    Scalar.select (IntOp.cmpi .sge (BitVec.ofNat 32 a) (BitVec.ofNat 32 b))
      ((∑ x, q (ix2 a x) * k (ix2 b x) + ∑ x, qp (ix2 a x) * kp (ix2 b x)) * Ideal.ofBits FTy.f32 0x3D93CD3A#32)
      (Named.named (F := Ideal) κ "mask" (φ := .f32) 0xFF7FFFFF#32) := by
  pointwise [k0_pay16]
theorem pay12_apply (a : Fin 1024) : k0_pay12 (F := Ideal) q qp k kp mx (ix2 a 0) = newMax (mx (ix2 a 0)) fun b => k0_pay11 (F := Ideal) q qp k kp (ix2 a b) := by
  unfold newMax
  rw [← top_word]
  pointwise [k0_pay12]
theorem pay17_apply (a : Fin 1024) : k0_pay17 (F := Ideal) q qp k kp mx (ix2 a 0) = newMax (mx (ix2 a 0)) fun b => k0_pay16 (F := Ideal) q qp k kp (ix2 a b) := by
  unfold newMax
  rw [← top_word]
  pointwise [k0_pay17]
theorem pay13_apply (a : Fin 1024) : k0_pay13 (F := Ideal) q qp k kp mx mx' (ix2 a 0) = Ideal.exp (mx' (ix2 a 0) - k0_pay12 (F := Ideal) q qp k kp mx (ix2 a 0)) := by
  pointwise [k0_pay13]
theorem pay18_apply (a : Fin 1024) : k0_pay18 (F := Ideal) q qp k kp mx mx' (ix2 a 0) = Ideal.exp (mx' (ix2 a 0) - k0_pay17 (F := Ideal) q qp k kp mx (ix2 a 0)) := by
  pointwise [k0_pay18]
theorem pay14_apply (a b : Fin 1024) : k0_pay14 (F := Ideal) q qp k kp mx (ix2 a b) = Ideal.exp (k0_pay11 (F := Ideal) q qp k kp (ix2 a b) - k0_pay12 (F := Ideal) q qp k kp mx (ix2 a 0)) := by
  pointwise [k0_pay14]
theorem pay19_apply (a b : Fin 1024) : k0_pay19 (F := Ideal) q qp k kp mx (ix2 a b) = Ideal.exp (k0_pay16 (F := Ideal) q qp k kp (ix2 a b) - k0_pay17 (F := Ideal) q qp k kp mx (ix2 a 0)) := by
  pointwise [k0_pay19]
theorem pay15_apply (a : Fin 1024) : k0_pay15 (F := Ideal) q qp k kp mx mx' ls (ix2 a 0) =
    k0_pay13 (F := Ideal) q qp k kp mx mx' (ix2 a 0) * ls (ix2 a 0) + ∑ b, k0_pay14 (F := Ideal) q qp k kp mx (ix2 a b) := by
  pointwise [k0_pay15]
theorem pay20_apply (a : Fin 1024) : k0_pay20 (F := Ideal) q qp k kp mx mx' ls (ix2 a 0) =
    k0_pay18 (F := Ideal) q qp k kp mx mx' (ix2 a 0) * ls (ix2 a 0) + ∑ b, k0_pay19 (F := Ideal) q qp k kp mx (ix2 a b) := by
  pointwise [k0_pay20]
theorem pay4_apply (p : FVec Ideal S1024x1024 .f32) (a : Fin 1024) (d : Fin 128) : k0_pay4 (F := Ideal) mx p ac v (ix2 a d) = mx (ix2 a 0) * ac (ix2 a d) + ∑ b, p (ix2 a b) * v (ix2 b d) := by
  pointwise [k0_pay4]
theorem pay7_apply (p : FVec Ideal S1024x1024 .f32) (a : Fin 1024) (d : Fin 128) : k0_pay7 (F := Ideal) mx p ac v (ix2 a d) = mx (ix2 a 0) * ac (ix2 a d) + ∑ b, p (ix2 a b) * v (ix2 b d) := by
  pointwise [k0_pay7]
theorem pay9_apply (a : Fin 1024) (d : Fin 128) : k0_pay9 (F := Ideal) ac ls (ix2 a d) = Ideal.div (ac (ix2 a d)) (ls (ix2 a 0)) := by
  pointwise [k0_pay9]
theorem pay10_apply (a : Fin 1024) : k0_pay10 (F := Ideal) mx ls (ix3 0 a 0) = mx (ix2 a 0) + Ideal.log (ls (ix2 a 0)) := by
  pointwise [k0_pay10]
end Cert.Proof.Fwd
-- ==== Proof.FwdBlk.lean ====
module
public import proofs.«01_k».proof.Proof.FwdPay
@[expose] public section
set_option maxRecDepth 16384
noncomputable section
/-! One block of keys of the attention: the scores are real numbers, the values any extended reals. -/
namespace Cert.Proof.Fwd
open Cert.Kernel14Ideal Cert.Kernel14Ideal.Gen
open Idealize.ShloMosaic
open Finset
/-- A number that isn't negative goes into a sum. -/
theorem mul_sum_coe {ι : Type} (s : Finset ι) (e : ℝ) (he : 0 ≤ e) (f : ι → EReal) : (e : EReal) * ∑ k ∈ s, f k = ∑ k ∈ s, (e : EReal) * f k := by
  classical
  induction s using Finset.induction_on with
  | empty => simp
  | insert a s ha ih => rw [Finset.sum_insert ha, Finset.sum_insert ha, EReal.left_distrib_of_nonneg_of_ne_top (EReal.coe_nonneg.2 he) (EReal.coe_ne_top _), ih]
/-- The weighted sum of values over the first `n` keys. -/
def wsum (H : Attn.Head) (r n : ℕ) (u : ℕ → EReal) : EReal := ∑ k ∈ range n, ((H.W r k : ℝ) : EReal) * u k
theorem wsum_add (H : Attn.Head) (r n : ℕ) (u : ℕ → EReal) : wsum H r n u + ∑ k : Fin 1024, ((H.W r (n + k) : ℝ) : EReal) * u (n + k) = wsum H r (n + 1024) u := by
  unfold wsum
  rw [Finset.sum_range_add, Finset.sum_range fun k => ((H.W r (n + k) : ℝ) : EReal) * u (n + k)]
/-- Keys above the diagonal add nothing. -/
theorem wsum_all (H : Attn.Head) (r n : ℕ) (u : ℕ → EReal) (hr : r < n) (hn : n ≤ 8192) : wsum H r n u = wsum H r 8192 u := by
  unfold wsum
  refine Finset.sum_subset (Finset.range_subset_range.2 hn) fun k _ hk => ?_
  rw [Finset.mem_range] at hk
  unfold Attn.Head.W
  rw [if_neg (by omega), EReal.coe_zero, zero_mul]
/-- The number `s`, kept relative to the row's maximum `m` so far, stands for the sum `A` of any extended reals. -/
def RepV (m s A : EReal) : Prop := (m = ⊥ ∧ s = 0 ∧ A = 0) ∨ ∃ M : ℝ, m = (M : EReal) ∧ s = ((Real.exp (-M) : ℝ) : EReal) * A
theorem stepV {m s A : EReal} {X : Fin 1024 → EReal} {w : Fin 1024 → ℝ} {M : ℝ} (hM : newMax m X = (M : EReal))
    (hX : ∀ k, Ideal.exp (X k - (M : EReal)) = ((w k * Real.exp (-M) : ℝ) : EReal)) (h : RepV m s A) (u : Fin 1024 → EReal) :
    Ideal.exp (m - newMax m X) * s + ∑ k, Ideal.exp (X k - newMax m X) * u k = ((Real.exp (-M) : ℝ) : EReal) * (A + ∑ k, ((w k : ℝ) : EReal) * u k) := by
  have he := (Real.exp_pos (-M)).le
  rw [EReal.left_distrib_of_nonneg_of_ne_top (EReal.coe_nonneg.2 he) (EReal.coe_ne_top _), mul_sum_coe _ _ he, hM]
  refine congrArg₂ _ ?_ (Finset.sum_congr rfl fun k _ => by rw [hX, mul_comm (w k), EReal.coe_mul, mul_assoc])
  rcases h with ⟨h1, h2, h3⟩ | ⟨M₀, h1, h2⟩
  · rw [h1, h2, h3, mul_zero, mul_zero]
  · rw [h1, h2, ← EReal.coe_sub, Ideal.exp_coe, ← mul_assoc, ← EReal.coe_mul, ← Real.exp_add]
    congr 3; ring
/-- One row over the keys of block `kb`, at or below the diagonal. -/
theorem row_step {H : Attn.Head} {r kb : ℕ} {X : Fin 1024 → EReal} {m l : EReal}
    (hX : ∀ k : Fin 1024, X k = if 1024 * kb + (k : ℕ) ≤ r then ((H.S r (1024 * kb + k) : ℝ) : EReal) else ⊥) (hr : 1024 * kb ≤ r)
    (hl : Rep m l (part H r (1024 * kb) fun _ => 1)) : ∃ M : ℝ, newMax m X = (M : EReal)
      ∧ Ideal.exp (m - newMax m X) * l + ∑ k, Ideal.exp (X k - newMax m X) = ((part H r (1024 * kb + 1024) (fun _ => 1) * Real.exp (-M) : ℝ) : EReal)
      ∧ ∀ (s : EReal) (u : ℕ → EReal), RepV m s (wsum H r (1024 * kb) u) →
        Ideal.exp (m - newMax m X) * s + ∑ k : Fin 1024, Ideal.exp (X k - newMax m X) * u (1024 * kb + k) = ((Real.exp (-M) : ℝ) : EReal) * wsum H r (1024 * kb + 1024) u := by
  obtain ⟨M, hM⟩ := newMax_real (X := X) hl.ne_top (fun k => by
    rw [hX]; split
    · exact EReal.coe_ne_top _
    · exact bot_ne_top) 0 (by
    rw [hX, if_pos (by show 1024 * kb + 0 ≤ r; omega)]; exact EReal.coe_ne_bot _)
  have hw : ∀ k : Fin 1024, Ideal.exp (X k - (M : EReal)) = ((H.W r (1024 * kb + k) * Real.exp (-M) : ℝ) : EReal) := fun k => exp_row H r _ _ (hX k) M
  refine ⟨M, hM, ?_, fun s u hs => ?_⟩
  · rw [step_one hM hw hl, ← part_add H r (1024 * kb) fun _ => 1]
    simp only [mul_one]
  · rw [stepV hM hw hs fun k => u (1024 * kb + k), wsum_add]

/-- The state of query block `i` after the first `n` keys. -/
def Inv (H : Attn.Head) (u : ℕ → ℕ → EReal) (i n : ℕ) (mx ls : FVec Ideal S1024x1 .f32) (ac : FVec Ideal S1024x128 .f32) : Prop :=
  ∀ a : Fin 1024, Rep (mx (ix2 a 0)) (ls (ix2 a 0)) (part H (1024 * i + a) n fun _ => 1)
    ∧ ∀ d : Fin 128, RepV (mx (ix2 a 0)) (ac (ix2 a d)) (wsum H (1024 * i + a) n fun k => u k d)
/-- The same, once a key has been seen: the maximum is a real number. -/
def RInv (H : Attn.Head) (u : ℕ → ℕ → EReal) (i n : ℕ) (mx ls : FVec Ideal S1024x1 .f32) (ac : FVec Ideal S1024x128 .f32) : Prop :=
  ∀ a : Fin 1024, ∃ M : ℝ, mx (ix2 a 0) = (M : EReal) ∧ ls (ix2 a 0) = ((part H (1024 * i + a) n (fun _ => 1) * Real.exp (-M) : ℝ) : EReal)
    ∧ ∀ d : Fin 128, ac (ix2 a d) = ((Real.exp (-M) : ℝ) : EReal) * wsum H (1024 * i + a) n fun k => u k d
theorem RInv.inv {H : Attn.Head} {u : ℕ → ℕ → EReal} {i n : ℕ} {mx ls : FVec Ideal S1024x1 .f32} {ac : FVec Ideal S1024x128 .f32} (h : RInv H u i n mx ls ac) : Inv H u i n mx ls ac := fun a => by
  obtain ⟨M, h1, h2, h3⟩ := h a
  exact ⟨Or.inr ⟨M, h1, h2⟩, fun d => Or.inr ⟨M, h1, h3 d⟩⟩
theorem inv_init (H : Attn.Head) (u : ℕ → ℕ → EReal) (i : ℕ) : Inv H u i 0 (k0_pay1 : FVec Ideal S1024x1 .f32) (k0_pay2 : FVec Ideal S1024x1 .f32) (k0_pay3 : FVec Ideal S1024x128 .f32) := fun a =>
  ⟨Or.inl ⟨pay1_apply a, pay2_apply a, rfl⟩, fun d => Or.inl ⟨pay1_apply a, pay3_apply a d, rfl⟩⟩

/-- The blocks of query block `i` and key block `kb` hold the head's numbers. -/
structure FBlk (q qp k kp v : FVec Ideal S1024x128 .bf16) (H : Attn.Head) (u : ℕ → ℕ → EReal) (i kb : ℕ) : Prop where
  q0 : ∀ (a : Fin 1024) (x : Fin 128), q (ix2 a x) = ((H.qn (1024 * i + a) x : ℝ) : EReal)
  q1 : ∀ (a : Fin 1024) (x : Fin 128), qp (ix2 a x) = ((if (x : ℕ) < 64 then H.qp (1024 * i + a) x else 0 : ℝ) : EReal)
  k0 : ∀ (a : Fin 1024) (x : Fin 128), k (ix2 a x) = ((H.kn (1024 * kb + a) x : ℝ) : EReal)
  k1 : ∀ (a : Fin 1024) (x : Fin 128), kp (ix2 a x) = ((if (x : ℕ) < 64 then H.kp (1024 * kb + a) x else 0 : ℝ) : EReal)
  vv : ∀ (a : Fin 1024) (x : Fin 128), v (ix2 a x) = u (1024 * kb + a) x
  ss : Ideal.ofBits FTy.f32 0x3D93CD3A#32 = ((H.s : ℝ) : EReal)

variable {q qp k kp v : FVec Ideal S1024x128 .bf16} {H : Attn.Head} {u : ℕ → ℕ → EReal} {i kb : ℕ} (B : FBlk q qp k kp v H u i kb)
include B
theorem FBlk.score (a b : Fin 1024) : (∑ x, q (ix2 a x) * k (ix2 b x) + ∑ x, qp (ix2 a x) * kp (ix2 b x)) * Ideal.ofBits FTy.f32 0x3D93CD3A#32
    = ((H.S (1024 * i + a) (1024 * kb + b) : ℝ) : EReal) :=
  Attn.Blk.score (x7 := fun p => ((H.v (1024 * kb + (p 0).val) (p 1).val : ℝ) : EReal)) (x8 := fun p => ((H.g (1024 * i + (p 0).val) (p 1).val : ℝ) : EReal)) (x9 := fun p => ((Real.log (H.Z (1024 * i + (p 1).val)) : ℝ) : EReal))
    (x10 := fun p => ((H.D (1024 * i + (p 1).val) : ℝ) : EReal)) ⟨B.q0, B.q1, B.k0, B.k1, fun _ _ => rfl, fun _ _ => rfl, fun _ => rfl, fun _ => rfl, B.ss⟩ a b
theorem FBlk.below (h : kb < i) (a b : Fin 1024) : k0_pay11 (F := Ideal) q qp k kp (ix2 a b)
    = if 1024 * kb + (b : ℕ) ≤ 1024 * i + (a : ℕ) then ((H.S (1024 * i + a) (1024 * kb + b) : ℝ) : EReal) else ⊥ := by
  rw [pay11_apply, B.score, if_pos (by omega)]
theorem FBlk.diag (h : kb = i) (a b : Fin 1024) : k0_pay16 (F := Ideal) q qp k kp (ix2 a b)
    = if 1024 * kb + (b : ℕ) ≤ 1024 * i + (a : ℕ) then ((H.S (1024 * i + a) (1024 * kb + b) : ℝ) : EReal) else ⊥ := by
  rw [pay16_apply, B.score, Attn.select_sge _ _ (by omega) (by omega)]
  exact if_congr (by omega) rfl rfl
variable {mx ls : FVec Ideal S1024x1 .f32} {ac : FVec Ideal S1024x128 .f32} (I : Inv H u i (1024 * kb) mx ls ac)
include I
theorem FBlk.belowStep (h : kb < i) : RInv H u i (1024 * kb + 1024) (k0_pay5 (F := Ideal) (k0_pay12 (F := Ideal) q qp k kp mx)) (k0_pay15 (F := Ideal) q qp k kp mx mx ls)
    (k0_pay4 (F := Ideal) (k0_pay13 (F := Ideal) q qp k kp mx mx) (k0_pay14 (F := Ideal) q qp k kp mx) ac v) := fun a => by
  obtain ⟨M, h1, h2, h3⟩ := row_step (fun b => B.below h a b) (by omega) (I a).1
  refine ⟨M, ?_, ?_, fun d => ?_⟩
  · rw [pay5_apply, pay12_apply, h1]
  · rw [pay15_apply, pay13_apply]
    simp only [pay14_apply, pay12_apply]
    exact h2
  · rw [pay4_apply, pay13_apply]
    simp only [pay14_apply, pay12_apply, B.vv]
    exact h3 _ (fun k => u k d) ((I a).2 d)
theorem FBlk.diagStep (h : kb = i) : RInv H u i (1024 * kb + 1024) (k0_pay8 (F := Ideal) (k0_pay17 (F := Ideal) q qp k kp mx)) (k0_pay6 (F := Ideal) (k0_pay20 (F := Ideal) q qp k kp mx mx ls))
    (k0_pay7 (F := Ideal) (k0_pay18 (F := Ideal) q qp k kp mx mx) (k0_pay19 (F := Ideal) q qp k kp mx) ac v) := fun a => by
  obtain ⟨M, h1, h2, h3⟩ := row_step (fun b => B.diag h a b) (by omega) (I a).1
  refine ⟨M, ?_, ?_, fun d => ?_⟩
  · rw [pay8_apply, pay17_apply, h1]
  · rw [pay6_apply, pay20_apply, pay18_apply]
    simp only [pay19_apply, pay17_apply]
    exact h2
  · rw [pay7_apply, pay18_apply]
    simp only [pay19_apply, pay17_apply, B.vv]
    exact h3 _ (fun k => u k d) ((I a).2 d)
end Cert.Proof.Fwd
-- ==== Proof.FwdCase.lean ====
module
public import proofs.«01_k».proof.Proof.MatSum
public import proofs.«01_k».proof.Proof.Gen.Kernel14Ideal.Value
public import Idealize.ShloMosaic.Lib.Pipeline.ValueKit
@[expose] public section
set_option maxRecDepth 65536
noncomputable section
/-! What each kind of grid point of the attention leaves in its buffers: the first block of keys, later ones, those on the diagonal, and the last. -/
namespace Cert.Proof.Fwd
open Cert.Kernel14Ideal Cert.Kernel14Ideal.Gen Cert.Proof.MatSum
open Idealize.ShloMosaic Idealize.ShloMosaic.TcCoe
theorem zeros3 : (![0, 0, 0] : Fin 3 → Nat) = fun _ => 0 := by funext d; fin_cases d <;> rfl
variable {F : FTy → Type} [FloatOps F] [Named F] (c : Dev nD) (i : grid0.Coords) (a3 : Memref sig .tc .vmem S1024x128 .bf16) (h3 : a3.IsWhole) (a4 : Memref sig .tc .vmem S1024x128 .bf16) (h4 : a4.IsWhole) (a5 : Memref sig .tc .vmem S1024x128 .bf16) (h5 : a5.IsWhole) (a6 : Memref sig .tc .vmem S1024x128 .bf16) (h6 : a6.IsWhole) (a7 : Memref sig .tc .vmem S1024x128 .bf16) (h7 : a7.IsWhole) (a8 : Memref sig .tc .vmem S1024x128 .f32) (h8 : a8.IsWhole) (a9 : Memref sig .tc .vmem S1x1024x1 .f32) (h9 : a9.IsWhole) (a10 : Memref sig .tc .vmem S1024x1 .f32) (h10 : a10.IsWhole) (a11 : Memref sig .tc .vmem S1024x1 .f32) (h11 : a11.IsWhole) (a12 : Memref sig .tc .vmem S1024x128 .f32) (h12 : a12.IsWhole)
  (x0 x1 x2 x3 x4 : Vec F S1024x128 .bf16) (xs0 xs1 : Vec F S1024x1 .f32) (xs2 : Vec F S1024x128 .f32)
theorem sA0 (e0 : cond0_0 i) (e1 : ¬cond0_1 i) (e2 : cond0_2 i) (e3 : ¬cond0_3 i) : sout0_A_0 c i a3 h3 a4 h4 a5 h5 a6 h6 a7 h7 a8 h8 a9 h9 a10 h10 a11 h11 a12 h12 e0 e1 e2 e3 x0 x1 x2 x3 x4 = k0_pay8 (k0_pay17 x0 x1 x2 x3 k0_pay1) := by
  unfold sout0_A_0
  rw [View.read_writes_eq_canon _ _ _ (scover0_A_0 c i a3 h3 a4 h4 a5 h5 a6 h6 a7 h7 a8 h8 a9 h9 a10 h10 a11 h11 a12 h12 e0 e1 e2 e3 x0 x1 x2 x3 x4)]
  unfold kernelRun0_A
  dsimp only
  sl_unfold_words
  rw [View.canon_cons_unit_zero (S := S1024x1) zeros2]
  simp only [View.readCov_unit_zero (S := S1024x1) _ zeros2, View.readCov_unit_zero (S := S1024x128) _ zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sA1 (e0 : cond0_0 i) (e1 : ¬cond0_1 i) (e2 : cond0_2 i) (e3 : ¬cond0_3 i) : sout0_A_1 c i a3 h3 a4 h4 a5 h5 a6 h6 a7 h7 a8 h8 a9 h9 a10 h10 a11 h11 a12 h12 e0 e1 e2 e3 x0 x1 x2 x3 x4 = k0_pay6 (k0_pay20 x0 x1 x2 x3 k0_pay1 k0_pay1 k0_pay2) := by
  unfold sout0_A_1
  rw [View.read_writes_eq_canon _ _ _ (scover0_A_1 c i a3 h3 a4 h4 a5 h5 a6 h6 a7 h7 a8 h8 a9 h9 a10 h10 a11 h11 a12 h12 e0 e1 e2 e3 x0 x1 x2 x3 x4)]
  unfold kernelRun0_A
  dsimp only
  sl_unfold_words
  rw [View.canon_cons_unit_zero (S := S1024x1) zeros2]
  simp only [View.readCov_unit_zero (S := S1024x1) _ zeros2, View.readCov_unit_zero (S := S1024x128) _ zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sA2 (e0 : cond0_0 i) (e1 : ¬cond0_1 i) (e2 : cond0_2 i) (e3 : ¬cond0_3 i) : sout0_A_2 c i a3 h3 a4 h4 a5 h5 a6 h6 a7 h7 a8 h8 a9 h9 a10 h10 a11 h11 a12 h12 e0 e1 e2 e3 x0 x1 x2 x3 x4 = k0_pay7 (k0_pay18 x0 x1 x2 x3 k0_pay1 k0_pay1) (k0_pay19 x0 x1 x2 x3 k0_pay1) k0_pay3 x4 := by
  unfold sout0_A_2
  rw [View.read_writes_eq_canon _ _ _ (scover0_A_2 c i a3 h3 a4 h4 a5 h5 a6 h6 a7 h7 a8 h8 a9 h9 a10 h10 a11 h11 a12 h12 e0 e1 e2 e3 x0 x1 x2 x3 x4)]
  unfold kernelRun0_A
  dsimp only
  sl_unfold_words
  rw [View.canon_cons_unit_zero (S := S1024x128) zeros2]
  simp only [View.readCov_unit_zero (S := S1024x1) _ zeros2, View.readCov_unit_zero (S := S1024x128) _ zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sD0 (e0 : cond0_0 i) (e1 : cond0_1 i) (e2 : ¬cond0_2 i) (e3 : ¬cond0_3 i) : sout0_D_0 c i a3 h3 a4 h4 a5 h5 a6 h6 a7 h7 a8 h8 a9 h9 a10 h10 a11 h11 a12 h12 e0 e1 e2 e3 x0 x1 x2 x3 x4 = k0_pay5 (k0_pay12 x0 x1 x2 x3 k0_pay1) := by
  unfold sout0_D_0
  rw [View.read_writes_eq_canon _ _ _ (scover0_D_0 c i a3 h3 a4 h4 a5 h5 a6 h6 a7 h7 a8 h8 a9 h9 a10 h10 a11 h11 a12 h12 e0 e1 e2 e3 x0 x1 x2 x3 x4)]
  unfold kernelRun0_D
  dsimp only
  sl_unfold_words
  rw [View.canon_cons_unit_zero (S := S1024x1) zeros2]
  simp only [View.readCov_unit_zero (S := S1024x1) _ zeros2, View.readCov_unit_zero (S := S1024x128) _ zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sD1 (e0 : cond0_0 i) (e1 : cond0_1 i) (e2 : ¬cond0_2 i) (e3 : ¬cond0_3 i) : sout0_D_1 c i a3 h3 a4 h4 a5 h5 a6 h6 a7 h7 a8 h8 a9 h9 a10 h10 a11 h11 a12 h12 e0 e1 e2 e3 x0 x1 x2 x3 x4 = k0_pay15 x0 x1 x2 x3 k0_pay1 k0_pay1 k0_pay2 := by
  unfold sout0_D_1
  rw [View.read_writes_eq_canon _ _ _ (scover0_D_1 c i a3 h3 a4 h4 a5 h5 a6 h6 a7 h7 a8 h8 a9 h9 a10 h10 a11 h11 a12 h12 e0 e1 e2 e3 x0 x1 x2 x3 x4)]
  unfold kernelRun0_D
  dsimp only
  sl_unfold_words
  rw [View.canon_cons_unit_zero (S := S1024x1) zeros2]
  simp only [View.readCov_unit_zero (S := S1024x1) _ zeros2, View.readCov_unit_zero (S := S1024x128) _ zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sD2 (e0 : cond0_0 i) (e1 : cond0_1 i) (e2 : ¬cond0_2 i) (e3 : ¬cond0_3 i) : sout0_D_2 c i a3 h3 a4 h4 a5 h5 a6 h6 a7 h7 a8 h8 a9 h9 a10 h10 a11 h11 a12 h12 e0 e1 e2 e3 x0 x1 x2 x3 x4 = k0_pay4 (k0_pay13 x0 x1 x2 x3 k0_pay1 k0_pay1) (k0_pay14 x0 x1 x2 x3 k0_pay1) k0_pay3 x4 := by
  unfold sout0_D_2
  rw [View.read_writes_eq_canon _ _ _ (scover0_D_2 c i a3 h3 a4 h4 a5 h5 a6 h6 a7 h7 a8 h8 a9 h9 a10 h10 a11 h11 a12 h12 e0 e1 e2 e3 x0 x1 x2 x3 x4)]
  unfold kernelRun0_D
  dsimp only
  sl_unfold_words
  rw [View.canon_cons_unit_zero (S := S1024x128) zeros2]
  simp only [View.readCov_unit_zero (S := S1024x1) _ zeros2, View.readCov_unit_zero (S := S1024x128) _ zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sE0 (e0 : ¬cond0_0 i) (e1 : ¬cond0_1 i) (e2 : cond0_2 i) (e3 : ¬cond0_3 i) : sout0_E_0 c i a3 h3 a4 h4 a5 h5 a6 h6 a7 h7 a8 h8 a9 h9 a10 h10 a11 h11 a12 h12 e0 e1 e2 e3 x0 x1 x2 x3 x4 xs0 xs1 xs2 = k0_pay8 (k0_pay17 x0 x1 x2 x3 xs0) := by
  unfold sout0_E_0
  rw [View.read_writes_eq_canon _ _ _ (scover0_E_0 c i a3 h3 a4 h4 a5 h5 a6 h6 a7 h7 a8 h8 a9 h9 a10 h10 a11 h11 a12 h12 e0 e1 e2 e3 x0 x1 x2 x3 x4 xs0 xs1 xs2)]
  unfold kernelRun0_E
  dsimp only
  sl_unfold_words
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sE1 (e0 : ¬cond0_0 i) (e1 : ¬cond0_1 i) (e2 : cond0_2 i) (e3 : ¬cond0_3 i) : sout0_E_1 c i a3 h3 a4 h4 a5 h5 a6 h6 a7 h7 a8 h8 a9 h9 a10 h10 a11 h11 a12 h12 e0 e1 e2 e3 x0 x1 x2 x3 x4 xs0 xs1 xs2 = k0_pay6 (k0_pay20 x0 x1 x2 x3 xs0 xs0 xs1) := by
  unfold sout0_E_1
  rw [View.read_writes_eq_canon _ _ _ (scover0_E_1 c i a3 h3 a4 h4 a5 h5 a6 h6 a7 h7 a8 h8 a9 h9 a10 h10 a11 h11 a12 h12 e0 e1 e2 e3 x0 x1 x2 x3 x4 xs0 xs1 xs2)]
  unfold kernelRun0_E
  dsimp only
  sl_unfold_words
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sE2 (e0 : ¬cond0_0 i) (e1 : ¬cond0_1 i) (e2 : cond0_2 i) (e3 : ¬cond0_3 i) : sout0_E_2 c i a3 h3 a4 h4 a5 h5 a6 h6 a7 h7 a8 h8 a9 h9 a10 h10 a11 h11 a12 h12 e0 e1 e2 e3 x0 x1 x2 x3 x4 xs0 xs1 xs2 = k0_pay7 (k0_pay18 x0 x1 x2 x3 xs0 xs0) (k0_pay19 x0 x1 x2 x3 xs0) xs2 x4 := by
  unfold sout0_E_2
  rw [View.read_writes_eq_canon _ _ _ (scover0_E_2 c i a3 h3 a4 h4 a5 h5 a6 h6 a7 h7 a8 h8 a9 h9 a10 h10 a11 h11 a12 h12 e0 e1 e2 e3 x0 x1 x2 x3 x4 xs0 xs1 xs2)]
  unfold kernelRun0_E
  dsimp only
  sl_unfold_words
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sF0 (e0 : ¬cond0_0 i) (e1 : cond0_1 i) (e2 : ¬cond0_2 i) (e3 : ¬cond0_3 i) : sout0_F_0 c i a3 h3 a4 h4 a5 h5 a6 h6 a7 h7 a8 h8 a9 h9 a10 h10 a11 h11 a12 h12 e0 e1 e2 e3 x0 x1 x2 x3 x4 xs0 xs1 xs2 = k0_pay5 (k0_pay12 x0 x1 x2 x3 xs0) := by
  unfold sout0_F_0
  rw [View.read_writes_eq_canon _ _ _ (scover0_F_0 c i a3 h3 a4 h4 a5 h5 a6 h6 a7 h7 a8 h8 a9 h9 a10 h10 a11 h11 a12 h12 e0 e1 e2 e3 x0 x1 x2 x3 x4 xs0 xs1 xs2)]
  unfold kernelRun0_F
  dsimp only
  sl_unfold_words
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sF1 (e0 : ¬cond0_0 i) (e1 : cond0_1 i) (e2 : ¬cond0_2 i) (e3 : ¬cond0_3 i) : sout0_F_1 c i a3 h3 a4 h4 a5 h5 a6 h6 a7 h7 a8 h8 a9 h9 a10 h10 a11 h11 a12 h12 e0 e1 e2 e3 x0 x1 x2 x3 x4 xs0 xs1 xs2 = k0_pay15 x0 x1 x2 x3 xs0 xs0 xs1 := by
  unfold sout0_F_1
  rw [View.read_writes_eq_canon _ _ _ (scover0_F_1 c i a3 h3 a4 h4 a5 h5 a6 h6 a7 h7 a8 h8 a9 h9 a10 h10 a11 h11 a12 h12 e0 e1 e2 e3 x0 x1 x2 x3 x4 xs0 xs1 xs2)]
  unfold kernelRun0_F
  dsimp only
  sl_unfold_words
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sF2 (e0 : ¬cond0_0 i) (e1 : cond0_1 i) (e2 : ¬cond0_2 i) (e3 : ¬cond0_3 i) : sout0_F_2 c i a3 h3 a4 h4 a5 h5 a6 h6 a7 h7 a8 h8 a9 h9 a10 h10 a11 h11 a12 h12 e0 e1 e2 e3 x0 x1 x2 x3 x4 xs0 xs1 xs2 = k0_pay4 (k0_pay13 x0 x1 x2 x3 xs0 xs0) (k0_pay14 x0 x1 x2 x3 xs0) xs2 x4 := by
  unfold sout0_F_2
  rw [View.read_writes_eq_canon _ _ _ (scover0_F_2 c i a3 h3 a4 h4 a5 h5 a6 h6 a7 h7 a8 h8 a9 h9 a10 h10 a11 h11 a12 h12 e0 e1 e2 e3 x0 x1 x2 x3 x4 xs0 xs1 xs2)]
  unfold kernelRun0_F
  dsimp only
  sl_unfold_words
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sG0 (e0 : ¬cond0_0 i) (e1 : ¬cond0_1 i) (e2 : cond0_2 i) (e3 : cond0_3 i) : sout0_G_0 c i a3 h3 a4 h4 a5 h5 a6 h6 a7 h7 a8 h8 a9 h9 a10 h10 a11 h11 a12 h12 e0 e1 e2 e3 x0 x1 x2 x3 x4 xs0 xs1 xs2 = k0_pay8 (k0_pay17 x0 x1 x2 x3 xs0) := by
  unfold sout0_G_0
  rw [View.read_writes_eq_canon _ _ _ (scover0_G_0 c i a3 h3 a4 h4 a5 h5 a6 h6 a7 h7 a8 h8 a9 h9 a10 h10 a11 h11 a12 h12 e0 e1 e2 e3 x0 x1 x2 x3 x4 xs0 xs1 xs2)]
  unfold kernelRun0_G
  dsimp only
  sl_unfold_words
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sG1 (e0 : ¬cond0_0 i) (e1 : ¬cond0_1 i) (e2 : cond0_2 i) (e3 : cond0_3 i) : sout0_G_1 c i a3 h3 a4 h4 a5 h5 a6 h6 a7 h7 a8 h8 a9 h9 a10 h10 a11 h11 a12 h12 e0 e1 e2 e3 x0 x1 x2 x3 x4 xs0 xs1 xs2 = k0_pay6 (k0_pay20 x0 x1 x2 x3 xs0 xs0 xs1) := by
  unfold sout0_G_1
  rw [View.read_writes_eq_canon _ _ _ (scover0_G_1 c i a3 h3 a4 h4 a5 h5 a6 h6 a7 h7 a8 h8 a9 h9 a10 h10 a11 h11 a12 h12 e0 e1 e2 e3 x0 x1 x2 x3 x4 xs0 xs1 xs2)]
  unfold kernelRun0_G
  dsimp only
  sl_unfold_words
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem sG2 (e0 : ¬cond0_0 i) (e1 : ¬cond0_1 i) (e2 : cond0_2 i) (e3 : cond0_3 i) : sout0_G_2 c i a3 h3 a4 h4 a5 h5 a6 h6 a7 h7 a8 h8 a9 h9 a10 h10 a11 h11 a12 h12 e0 e1 e2 e3 x0 x1 x2 x3 x4 xs0 xs1 xs2 = k0_pay7 (k0_pay18 x0 x1 x2 x3 xs0 xs0) (k0_pay19 x0 x1 x2 x3 xs0) xs2 x4 := by
  unfold sout0_G_2
  rw [View.read_writes_eq_canon _ _ _ (scover0_G_2 c i a3 h3 a4 h4 a5 h5 a6 h6 a7 h7 a8 h8 a9 h9 a10 h10 a11 h11 a12 h12 e0 e1 e2 e3 x0 x1 x2 x3 x4 xs0 xs1 xs2)]
  unfold kernelRun0_G
  dsimp only
  sl_unfold_words
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem oC5 (e0 : ¬cond0_0 i) (e1 : ¬cond0_1 i) (e2 : ¬cond0_2 i) (e3 : cond0_3 i) : out0_C_5 c i a3 h3 a4 h4 a5 h5 a6 h6 a7 h7 a8 h8 a9 h9 a10 h10 a11 h11 a12 h12 e0 e1 e2 e3 x0 x1 x2 x3 x4 xs0 xs1 xs2 = k0_pay9 (xs2) (xs1) := by
  unfold out0_C_5
  rw [View.read_writes_eq_canon _ _ _ (cover0_C_5 c i a3 h3 a4 h4 a5 h5 a6 h6 a7 h7 a8 h8 a9 h9 a10 h10 a11 h11 a12 h12 e0 e1 e2 e3 x0 x1 x2 x3 x4 xs0 xs1 xs2)]
  unfold kernelRun0_C
  dsimp only
  rw [View.canon_unit_zero zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem oC6 (e0 : ¬cond0_0 i) (e1 : ¬cond0_1 i) (e2 : ¬cond0_2 i) (e3 : cond0_3 i) : out0_C_6 c i a3 h3 a4 h4 a5 h5 a6 h6 a7 h7 a8 h8 a9 h9 a10 h10 a11 h11 a12 h12 e0 e1 e2 e3 x0 x1 x2 x3 x4 xs0 xs1 xs2 = k0_pay10 (xs0) (xs1) := by
  unfold out0_C_6
  rw [View.read_writes_eq_canon _ _ _ (cover0_C_6 c i a3 h3 a4 h4 a5 h5 a6 h6 a7 h7 a8 h8 a9 h9 a10 h10 a11 h11 a12 h12 e0 e1 e2 e3 x0 x1 x2 x3 x4 xs0 xs1 xs2)]
  unfold kernelRun0_C
  dsimp only
  rw [View.canon_unit_zero zeros3]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem oG5 (e0 : ¬cond0_0 i) (e1 : ¬cond0_1 i) (e2 : cond0_2 i) (e3 : cond0_3 i) : out0_G_5 c i a3 h3 a4 h4 a5 h5 a6 h6 a7 h7 a8 h8 a9 h9 a10 h10 a11 h11 a12 h12 e0 e1 e2 e3 x0 x1 x2 x3 x4 xs0 xs1 xs2 = k0_pay9 (k0_pay7 (k0_pay18 x0 x1 x2 x3 xs0 xs0) (k0_pay19 x0 x1 x2 x3 xs0) xs2 x4) (k0_pay6 (k0_pay20 x0 x1 x2 x3 xs0 xs0 xs1)) := by
  unfold out0_G_5
  rw [View.read_writes_eq_canon _ _ _ (cover0_G_5 c i a3 h3 a4 h4 a5 h5 a6 h6 a7 h7 a8 h8 a9 h9 a10 h10 a11 h11 a12 h12 e0 e1 e2 e3 x0 x1 x2 x3 x4 xs0 xs1 xs2)]
  unfold kernelRun0_G
  dsimp only
  rw [View.canon_unit_zero zeros2]
  sl_unfold_words
  simp only [View.readCov_unit_zero (S := S1024x1) _ zeros2, View.readCov_unit_zero (S := S1024x128) _ zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
theorem oG6 (e0 : ¬cond0_0 i) (e1 : ¬cond0_1 i) (e2 : cond0_2 i) (e3 : cond0_3 i) : out0_G_6 c i a3 h3 a4 h4 a5 h5 a6 h6 a7 h7 a8 h8 a9 h9 a10 h10 a11 h11 a12 h12 e0 e1 e2 e3 x0 x1 x2 x3 x4 xs0 xs1 xs2 = k0_pay10 (k0_pay8 (k0_pay17 x0 x1 x2 x3 xs0)) (k0_pay6 (k0_pay20 x0 x1 x2 x3 xs0 xs0 xs1)) := by
  unfold out0_G_6
  rw [View.read_writes_eq_canon _ _ _ (cover0_G_6 c i a3 h3 a4 h4 a5 h5 a6 h6 a7 h7 a8 h8 a9 h9 a10 h10 a11 h11 a12 h12 e0 e1 e2 e3 x0 x1 x2 x3 x4 xs0 xs1 xs2)]
  unfold kernelRun0_G
  dsimp only
  rw [View.canon_unit_zero zeros3]
  sl_unfold_words
  simp only [View.readCov_unit_zero (S := S1024x1) _ zeros2, View.readCov_unit_zero (S := S1024x128) _ zeros2]
  simp only [View.readAt_eq_ld, h3.read_unread, h4.read_unread, h5.read_unread, h6.read_unread, h7.read_unread, h10.read_unread, h11.read_unread, h12.read_unread, View.ld_unit_zero (S := S1024x128) zeros2, View.ld_unit_zero (S := S1024x1) zeros2]
end Cert.Proof.Fwd
-- ==== Proof.FwdWin.lean ====
module
public import proofs.«01_k».proof.Proof.AttnReal
public import proofs.«01_k».proof.Proof.Gen.Kernel14Ideal.Value
public import Idealize.ShloMosaic.Lib.Pipeline.ValueKit
@[expose] public section
set_option maxRecDepth 65536
noncomputable section
/-! The blocks of the attention's forward pass, as parts of their arrays. -/
namespace Cert.Proof.Fwd
open Cert.Kernel14Ideal Cert.Kernel14Ideal.Gen
open Idealize.ShloMosaic Idealize.ShloMosaic.TcCoe
variable (m : (ℓ : Loc nD τ sig) → Buf (Elt Ideal) ℓ) (c : Dev nD)
theorem idx_in : ∀ t : Fin cfg0.N,
    win0_0.index t = ![t.val / 8 % 8, t.val / 64] ∧ win0_1.index t = ![t.val / 8 % 8, t.val / 64]
    ∧ win0_2.index t = ![min (t.val / 8 % 8) (t.val % 8), t.val / 64] ∧ win0_3.index t = ![min (t.val / 8 % 8) (t.val % 8), 0]
    ∧ win0_4.index t = ![min (t.val / 8 % 8) (t.val % 8), t.val / 64] :=
  (by decide +kernel : ∀ t : Fin grid0.N, _)
theorem idx_out : ∀ t : Fin cfg0.N, win0_5.index t = ![t.val / 8 % 8, t.val / 64] ∧ win0_6.index t = ![t.val / 64, t.val / 8 % 8, 0] :=
  (by decide +kernel : ∀ t : Fin grid0.N, _)
theorem pt_lt (t : Fin cfg0.N) : t.val < 1024 := by
  have h : t.val < grid0.N := t.isLt
  rwa [N_0] at h
theorem ib0 (t : Fin cfg0.N) (a : Fin 1024) (x : Fin 128) (h1 h2) : (iblk m c 0 t : FVec Ideal S1024x128 .bf16) (ix2 a x)
    = (V m c main_v2 : FVec Ideal S8192x2048 .bf16) (ix2 ⟨1024 * (t.val / 8 % 8) + a, h1⟩ ⟨128 * (t.val / 64) + x, h2⟩) := by
  have ht := pt_lt t
  blk_ext [iblk, idx_in t]
theorem ib1 (t : Fin cfg0.N) (a : Fin 1024) (x : Fin 128) (h1 h2) : (iblk m c 1 t : FVec Ideal S1024x128 .bf16) (ix2 a x)
    = (V m c main_v6 : FVec Ideal S8192x2048 .bf16) (ix2 ⟨1024 * (t.val / 8 % 8) + a, h1⟩ ⟨128 * (t.val / 64) + x, h2⟩) := by
  have ht := pt_lt t
  blk_ext [iblk, idx_in t]
theorem ib2 (t : Fin cfg0.N) (a : Fin 1024) (x : Fin 128) (h1 h2) : (iblk m c 2 t : FVec Ideal S1024x128 .bf16) (ix2 a x)
    = (V m c main_v8 : FVec Ideal S8192x2048 .bf16) (ix2 ⟨1024 * min (t.val / 8 % 8) (t.val % 8) + a, h1⟩ ⟨128 * (t.val / 64) + x, h2⟩) := by
  have ht := pt_lt t
  blk_ext [iblk, idx_in t]
theorem ib3 (t : Fin cfg0.N) (a : Fin 1024) (x : Fin 128) (h1) : (iblk m c 3 t : FVec Ideal S1024x128 .bf16) (ix2 a x)
    = (V m c main_v10 : FVec Ideal S8192x128 .bf16) (ix2 ⟨1024 * min (t.val / 8 % 8) (t.val % 8) + a, h1⟩ x) := by
  have ht := pt_lt t
  blk_ext [iblk, idx_in t]
theorem ib4 (t : Fin cfg0.N) (a : Fin 1024) (x : Fin 128) (h1 h2) : (iblk m c 4 t : FVec Ideal S1024x128 .bf16) (ix2 a x)
    = (V m c main_v12 : FVec Ideal S8192x2048 .bf16) (ix2 ⟨1024 * min (t.val / 8 % 8) (t.val % 8) + a, h1⟩ ⟨128 * (t.val / 64) + x, h2⟩) := by
  have ht := pt_lt t
  blk_ext [iblk, idx_in t]

/-- The run's arguments. -/
abbrev A0 : FVec Ideal S8192x16x192 .f32 := m ((c : Thread nD τ).loc main_arg0)
abbrev A1 : FVec Ideal S8192x16x128 .f32 := m ((c : Thread nD τ).loc main_arg1)
abbrev A2 : FVec Ideal S8192x64 .f32 := m ((c : Thread nD τ).loc main_arg2)
abbrev A3 : FVec Ideal S8192x16x128 .f32 := m ((c : Thread nD τ).loc main_arg3)
theorem V_v2 : (V m c main_v2 : FVec Ideal S8192x2048 .bf16) = Attn.qnA (A0 m c) := by
  show StableHlo.after (hostOps0 ++ (hostOps0_1 ++ (hostOps0_2 ++ (hostOps0_3 ++ hostOps0_4)))) _ (Proc.tc.devRef main_v2) = _
  simp only [hostOps0, hostOps0_1, hostOps0_2, hostOps0_3, hostOps0_4, List.cons_append, List.nil_append]
  entry_read
  rfl
theorem V_v6 : (V m c main_v6 : FVec Ideal S8192x2048 .bf16) = Attn.qpA (A0 m c) := by
  show StableHlo.after (hostOps0 ++ (hostOps0_1 ++ (hostOps0_2 ++ (hostOps0_3 ++ hostOps0_4)))) _ (Proc.tc.devRef main_v6) = _
  simp only [hostOps0, hostOps0_1, hostOps0_2, hostOps0_3, hostOps0_4, List.cons_append, List.nil_append]
  entry_read
  rfl
theorem V_v8 : (V m c main_v8 : FVec Ideal S8192x2048 .bf16) = Attn.flA (A1 m c) := by
  show StableHlo.after (hostOps0 ++ (hostOps0_1 ++ (hostOps0_2 ++ (hostOps0_3 ++ hostOps0_4)))) _ (Proc.tc.devRef main_v8) = _
  simp only [hostOps0, hostOps0_1, hostOps0_2, hostOps0_3, hostOps0_4, List.cons_append, List.nil_append]
  entry_read
  rfl
theorem V_v10 : (V m c main_v10 : FVec Ideal S8192x128 .bf16) = Attn.kpA (A2 m c) := by
  show StableHlo.after (hostOps0 ++ (hostOps0_1 ++ (hostOps0_2 ++ (hostOps0_3 ++ hostOps0_4)))) _ (Proc.tc.devRef main_v10) = _
  simp only [hostOps0, hostOps0_1, hostOps0_2, hostOps0_3, hostOps0_4, List.cons_append, List.nil_append]
  entry_read
  rfl
theorem V_v12 : (V m c main_v12 : FVec Ideal S8192x2048 .bf16) = Attn.flA (A3 m c) := by
  show StableHlo.after (hostOps0 ++ (hostOps0_1 ++ (hostOps0_2 ++ (hostOps0_3 ++ hostOps0_4)))) _ (Proc.tc.devRef main_v12) = _
  simp only [hostOps0, hostOps0_1, hostOps0_2, hostOps0_3, hostOps0_4, List.cons_append, List.nil_append]
  entry_read
  rfl
end Cert.Proof.Fwd
-- ==== Proof.FwdVal.lean ====
module
public import proofs.«01_k».proof.Proof.FwdBlk
public import proofs.«01_k».proof.Proof.FwdCase
public import proofs.«01_k».proof.Proof.FwdWin
public import proofs.«01_k».proof.Proof.AttnVal
@[expose] public section
set_option maxRecDepth 16384
noncomputable section
/-! The values of the attention's forward pass, point by point. -/
namespace Cert.Proof.Fwd
open Cert.Kernel14Ideal Cert.Kernel14Ideal.Gen
open Idealize.ShloMosaic Idealize.ShloMosaic.TcCoe
open Finset
variable (m : (ℓ : Loc nD τ sig) → Buf (Elt Ideal) ℓ) (c : Dev nD)
/-- Head `h` of the run's arguments. -/
def hd (h : ℕ) : Attn.Head := Attn.headOf (A0 m c) (A1 m c) (A2 m c) (fun _ => (0 : EReal)) (fun _ => (0 : EReal)) ⟨h % 16, by omega⟩
/-- Its values, any extended reals. -/
def vE (h k d : ℕ) : EReal := if hh : k < 8192 ∧ d < 128 then A3 m c (ix3 ⟨k, hh.1⟩ ⟨h % 16, by omega⟩ ⟨d, hh.2⟩) else 0
/-- The queries and keys are real. -/
structure Reals : Prop where
  h0 : Attn.AllReal (A0 m c)
  h1 : Attn.AllReal (A1 m c)
  h2 : Attn.AllReal (A2 m c)
variable {m c} (hf : Reals m c)
include hf
theorem blk_pt (t : Fin cfg0.N) :
    FBlk (iblk m c 0 t) (iblk m c 1 t) (iblk m c 2 t) (iblk m c 3 t) (iblk m c 4 t) (hd m c (t.val / 64)) (vE m c (t.val / 64)) (t.val / 8 % 8) (min (t.val / 8 % 8) (t.val % 8)) where
  q0 a x := by
    have ht := pt_lt t
    rw [ib0 m c t a x (by omega) (by omega), V_v2, Attn.qnA_apply]
    exact (Attn.at3 (A0 m c) (by dsimp only) (by dsimp only; omega) (by dsimp only; omega)).trans
      (Attn.qn_eq (x1 := A1 m c) (x2 := A2 m c) (x3 := fun _ => (0 : EReal)) (x4 := fun _ => (0 : EReal)) _ hf.h0 _ _ (by omega) x.isLt)
  q1 a x := by
    have ht := pt_lt t
    rw [ib1 m c t a x (by omega) (by omega), V_v6, Attn.qpA_apply]
    by_cases hx : (x : ℕ) < 64
    · rw [dif_pos (by dsimp only; omega), if_pos hx]
      exact (Attn.at3 (A0 m c) (by dsimp only) (by dsimp only; omega) (by dsimp only; omega)).trans
        (Attn.qp_eq (x1 := A1 m c) (x2 := A2 m c) (x3 := fun _ => (0 : EReal)) (x4 := fun _ => (0 : EReal)) _ hf.h0 _ _ (by omega) hx)
    · rw [dif_neg (by dsimp only; omega), if_neg hx, Attn.zero_word, EReal.coe_zero]
  k0 a x := by
    have ht := pt_lt t
    rw [ib2 m c t a x (by omega) (by omega), V_v8, Attn.flA_apply]
    exact (Attn.at3 (A1 m c) (by dsimp only) (by dsimp only; omega) (by dsimp only; omega)).trans
      (Attn.kn_eq (x0 := A0 m c) (x2 := A2 m c) (x3 := fun _ => (0 : EReal)) (x4 := fun _ => (0 : EReal)) _ hf.h1 _ _ (by omega) x.isLt)
  k1 a x := by
    have ht := pt_lt t
    rw [ib3 m c t a x (by omega), V_v10, Attn.kpA_apply]
    by_cases hx : (x : ℕ) < 64
    · rw [dif_pos hx, if_pos hx]
      exact Attn.kp_eq (x0 := A0 m c) (x1 := A1 m c) (x3 := fun _ => (0 : EReal)) (x4 := fun _ => (0 : EReal)) _ hf.h2 _ _ (by omega) hx
    · rw [dif_neg hx, if_neg hx, Attn.zero_word, EReal.coe_zero]
  vv a x := by
    have ht := pt_lt t
    rw [ib4 m c t a x (by omega) (by omega), V_v12, Attn.flA_apply]
    unfold vE
    rw [dif_pos ⟨by omega, x.isLt⟩]
    exact Attn.at3 (A3 m c) (by dsimp only) (by dsimp only; omega) (by dsimp only; omega)
  ss := Attn.scale_real.symm

/-- What point `t` leaves in the carried buffers. -/
def Good (t : Fin cfg0.N) : Prop := RInv (hd m c (t.val / 64)) (vE m c (t.val / 64)) (t.val / 8 % 8) (1024 * min (t.val / 8 % 8) (t.val % 8) + 1024)
  (outsAt0 m c t.val t.isLt).2.2.1 (outsAt0 m c t.val t.isLt).2.2.2.1 (outsAt0 m c t.val t.isLt).2.2.2.2
theorem good_zero (t : Fin cfg0.N) (h : t.val % 8 = 0) : Good (m := m) (c := c) t := by
  have B := blk_pt hf t
  have e : min (t.val / 8 % 8) (t.val % 8) = 0 := by omega
  rw [e] at B
  unfold Good
  rw [e]
  by_cases hi : t.val / 8 % 8 = 0
  · rw [outsAt0_A m c t h (by omega) (by omega) (by omega)]
    dsimp only
    rw [sA0, sA1, sA2]
    exact B.diagStep (inv_init _ _ _) hi.symm
  · rw [outsAt0_D m c t h (by omega) (by omega) (by omega)]
    dsimp only
    rw [sD0, sD1, sD2]
    exact B.belowStep (inv_init _ _ _) (by omega)
theorem good_succ (t : Fin cfg0.N) (h : ¬t.val % 8 = 0) (ih : Good (m := m) (c := c) ⟨t.val - 1, Nat.lt_of_le_of_lt (Nat.sub_le _ _) t.isLt⟩) : Good (m := m) (c := c) t := by
  have B := blk_pt hf t
  unfold Good at ih ⊢
  dsimp only at ih
  rw [show (t.val - 1) / 64 = t.val / 64 by omega, show (t.val - 1) / 8 % 8 = t.val / 8 % 8 by omega, show (t.val - 1) % 8 = t.val % 8 - 1 by omega] at ih
  rcases Nat.lt_trichotomy (t.val % 8) (t.val / 8 % 8) with hl | he | hg
  · rw [show min (t.val / 8 % 8) (t.val % 8) = t.val % 8 by omega] at B ⊢
    rw [show 1024 * min (t.val / 8 % 8) (t.val % 8 - 1) + 1024 = 1024 * (t.val % 8) by omega] at ih
    rw [outsAt0_F m c t h (by omega) (by omega) (by omega)]
    dsimp only
    rw [sF0, sF1, sF2]
    exact B.belowStep ih.inv hl
  · rw [show min (t.val / 8 % 8) (t.val % 8) = t.val % 8 by omega] at B ⊢
    rw [show 1024 * min (t.val / 8 % 8) (t.val % 8 - 1) + 1024 = 1024 * (t.val % 8) by omega] at ih
    by_cases hj : t.val % 8 = 7
    · rw [outsAt0_G m c t h (by omega) he.symm hj]
      dsimp only
      rw [sG0, sG1, sG2]
      exact B.diagStep ih.inv he
    · rw [outsAt0_E m c t h (by omega) he.symm hj]
      dsimp only
      rw [sE0, sE1, sE2]
      exact B.diagStep ih.inv he
  · rw [show min (t.val / 8 % 8) (t.val % 8) = t.val / 8 % 8 by omega]
    rw [show min (t.val / 8 % 8) (t.val % 8 - 1) = t.val / 8 % 8 by omega] at ih
    by_cases hj : t.val % 8 = 7
    · rw [outsAt0_C m c t h (by omega) (by omega) hj]
      exact ih
    · rw [outsAt0_B m c t h (by omega) (by omega) hj]
      exact ih
theorem good (j : ℕ) : ∀ t : Fin cfg0.N, t.val % 8 = j → Good (m := m) (c := c) t := by
  induction j with
  | zero => exact fun t h => good_zero hf t h
  | succ j ih => exact fun t h => good_succ hf t (by omega) (ih _ (by dsimp only; omega))

omit hf in
/-- The last point of a row of blocks writes the quotient and the logarithm of what it carries. -/
theorem outs_last (t : Fin cfg0.N) (h : t.val % 8 = 7) :
    (outsAt0 m c t.val t.isLt).1 = k0_pay9 (F := Ideal) (outsAt0 m c t.val t.isLt).2.2.2.2 (outsAt0 m c t.val t.isLt).2.2.2.1
    ∧ (outsAt0 m c t.val t.isLt).2.1 = k0_pay10 (F := Ideal) (outsAt0 m c t.val t.isLt).2.2.1 (outsAt0 m c t.val t.isLt).2.2.2.1 := by
  by_cases hi : t.val / 8 % 8 = t.val % 8
  · rw [outsAt0_G m c t (by omega) (by omega) hi h]
    dsimp only
    rw [oG5, oG6, sG0, sG1, sG2]
    exact ⟨rfl, rfl⟩
  · rw [outsAt0_C m c t (by omega) (by omega) hi h]
    dsimp only
    rw [oC5, oC6]
    exact ⟨rfl, rfl⟩
/-- The output of a row. -/
def oV (H : Attn.Head) (u : ℕ → ℕ → EReal) (r d : ℕ) : EReal := wsum H r 8192 (fun k => u k d) * ((1 / H.Z r : ℝ) : EReal)
theorem outs_val (t : Fin cfg0.N) (h : t.val % 8 = 7) (a : Fin 1024) :
    (∀ d : Fin 128, (outsAt0 m c t.val t.isLt).1 (ix2 a d) = oV (hd m c (t.val / 64)) (vE m c (t.val / 64)) (1024 * (t.val / 8 % 8) + a) d)
    ∧ (outsAt0 m c t.val t.isLt).2.1 (ix3 0 a 0) = ((Real.log ((hd m c (t.val / 64)).Z (1024 * (t.val / 8 % 8) + a)) : ℝ) : EReal) := by
  obtain ⟨e1, e2⟩ := outs_last (m := m) (c := c) t h
  obtain ⟨M, g1, g2, g3⟩ := good hf _ t h a
  have hz := (hd m c (t.val / 64)).Z_pos (1024 * (t.val / 8 % 8) + a)
  have hr : 1024 * (t.val / 8 % 8) + (a : ℕ) < 1024 * min (t.val / 8 % 8) (t.val % 8) + 1024 := by omega
  have hn : 1024 * min (t.val / 8 % 8) (t.val % 8) + 1024 ≤ 8192 := by omega
  rw [part_all _ _ _ _ hr hn, part_one] at g2
  refine ⟨fun d => ?_, ?_⟩
  · have g := g3 d
    rw [wsum_all _ _ _ _ hr hn] at g
    rw [e1, pay9_apply, g2, g, Ideal.div_coe (mul_pos hz (Real.exp_pos _)).ne', mul_right_comm, ← EReal.coe_mul, mul_comm]
    unfold oV
    congr 2
    field_simp
  · rw [e2, pay10_apply, g1, g2]
    exact Attn.row_log _ ⟨1024 * (t.val / 8 % 8) + a, by omega⟩ M
end Cert.Proof.Fwd
-- ==== Proof.FwdFin.lean ====
module
public import proofs.«01_k».proof.Proof.FwdVal
@[expose] public section
set_option maxRecDepth 16384
noncomputable section
/-! The two results of the attention's forward pass. -/
namespace Cert.Proof.Fwd
open Cert.Kernel14Ideal Cert.Kernel14Ideal.Gen
open Idealize.ShloMosaic Idealize.ShloMosaic.TcCoe
variable (m : (ℓ : Loc nD τ sig) → Buf (Elt Ideal) ℓ) (c : Dev nD)
/-- The attention's output. -/
def oR : FVec Ideal S8192x2048 .f32 := fun i => oV (hd m c ((i 1).val / 128)) (vE m c ((i 1).val / 128)) (i 0).val ((i 1).val % 128)
/-- The logarithms of the rows' sums. -/
def lR : FVec Ideal S16x8192x1 .f32 := fun i => ((Real.log ((hd m c (i 0).val).Z (i 1).val) : ℝ) : EReal)
variable {m c} (hf : Reals m c)
include hf
theorem fin5 : (dats m 0 c).arrAt 5 cfg0.N = oR m c := by
  refine (dats m 0 c).arrAt_eq_of_covers 5 _ (by decide +kernel) fun t hfl y => ?_
  have ht := pt_lt t
  have hl : t.val % 8 = 7 := (flush0_5 t).1 hfl
  have e0 : ((win0_5.blk t).view.emb y 0).val = 1024 * (t.val / 8 % 8) + (y 0).val := by
    blk_simp [idx_out t]
    omega
  have e1 : ((win0_5.blk t).view.emb y 1).val = 128 * (t.val / 64) + (y 1).val := by
    blk_simp [idx_out t]
    omega
  blk_simp
  rw [after0_5]
  obtain ⟨a, l, rfl⟩ : ∃ (a : Fin 1024) (l : Fin 128), y = ix2 a l := ⟨y 0, y 1, by funext i; fin_cases i <;> rfl⟩
  rw [(outs_val hf t hl a).1 l]
  show _ = oV (hd m c (((win0_5.blk t).view.emb (ix2 a l) 1).val / 128)) (vE m c (((win0_5.blk t).view.emb (ix2 a l) 1).val / 128)) ((win0_5.blk t).view.emb (ix2 a l) 0).val (((win0_5.blk t).view.emb (ix2 a l) 1).val % 128)
  rw [e0, e1]
  have z1 : (128 * (t.val / 64) + ((ix2 a l : S1024x128.Idx) 1).val) / 128 = t.val / 64 := by show (128 * (t.val / 64) + l.val) / 128 = _; omega
  have z2 : (128 * (t.val / 64) + ((ix2 a l : S1024x128.Idx) 1).val) % 128 = l.val := by show (128 * (t.val / 64) + l.val) % 128 = _; omega
  rw [z1, z2]
  rfl
theorem fin6 : (dats m 0 c).arrAt 6 cfg0.N = lR m c := by
  refine (dats m 0 c).arrAt_eq_of_covers 6 _ (by decide +kernel) fun t hfl y => ?_
  have ht := pt_lt t
  have hl : t.val % 8 = 7 := (flush0_6 t).1 hfl
  have e0 : ((win0_6.blk t).view.emb y 0).val = t.val / 64 + (y 0).val := by
    blk_simp [idx_out t]
  have e1 : ((win0_6.blk t).view.emb y 1).val = 1024 * (t.val / 8 % 8) + (y 1).val := by
    blk_simp [idx_out t]
    omega
  blk_simp
  rw [after0_6]
  obtain ⟨a, rfl⟩ : ∃ a : Fin 1024, y = ix3 0 a 0 := ⟨y 1, by
    funext i
    fin_cases i
    · exact Subsingleton.elim (α := Fin 1) _ _
    · rfl
    · exact Subsingleton.elim (α := Fin 1) _ _⟩
  rw [(outs_val hf t hl a).2]
  show _ = ((Real.log ((hd m c ((win0_6.blk t).view.emb (ix3 0 a 0) 0).val).Z ((win0_6.blk t).view.emb (ix3 0 a 0) 1).val) : ℝ) : EReal)
  rw [e0, e1]
  rfl
end Cert.Proof.Fwd
-- ==== Proof.FwdRef.lean ====
module
public import proofs.«01_k».proof.Proof.AttnRefVal
public import proofs.«01_k».proof.Proof.Gen.Reference14Ideal.Read
@[expose] public section
set_option maxRecDepth 16384
noncomputable section
/-! The results of the attention's reference, in the numbers of each head. -/
namespace Cert.Proof.Fwd
open Cert.Reference14Ideal Cert.Reference14Ideal.Gen Cert.Reference14Ideal.Read
open Idealize.ShloMosaic Idealize.ShloMosaic.TcCoe
open Finset
section
variable (x0 : FVec Ideal S8192x16x192 .f32) (x1 : FVec Ideal S8192x16x128 .f32) (x2 : FVec Ideal S8192x64 .f32) (x3 : FVec Ideal S8192x16x128 .f32)
theorem same42 : val_main_v42 (F := Ideal) x0 x1 x2 = Cert.ReferenceIdeal.Read.val_main_v37 (F := Ideal) x0 x1 x2 := rfl
theorem same21 : val_main_v21 (F := Ideal) x0 x1 x2 = Attn.lsA (Attn.mscA x0 x1 x2) := rfl
theorem f44 (h : Fin 16) (r : Fin 8192) (d : Fin 128) : (val_main_v44 (F := Ideal) x0 x1 x2 x3 : FVec Ideal S8192x16x128 .f32) (ix3 r h d) =
    ∑ k : Fin 8192, x3 (ix3 k h d) * (val_main_v42 (F := Ideal) x0 x1 x2 : FVec Ideal S16x8192x8192 .f32) (ix3 h r k) := by
  pointwise [val_main_v44, val_main_v43]
theorem f45 (r : Fin 8192) (l : Fin 2048) : (val_main_v45 (F := Ideal) x0 x1 x2 x3 : FVec Ideal S8192x2048 .f32) (ix2 r l) =
    (val_main_v44 (F := Ideal) x0 x1 x2 x3 : FVec Ideal S8192x16x128 .f32) (ix3 r ⟨l / 128, by omega⟩ ⟨l % 128, by omega⟩) := by
  pointwise [val_main_v45]
end
end Cert.Proof.Fwd
-- ==== Proof.FwdClaim.lean ====
module
public import proofs.«01_k».proof.Proof.AttnClaim
public import proofs.«01_k».proof.Proof.FwdFrames
public import proofs.«01_k».proof.Proof.FwdFin
public import proofs.«01_k».proof.Proof.FwdRef
@[expose] public section
set_option maxRecDepth 16384
noncomputable section
/-! The attention's forward pass and its reference compute one function of finite queries and keys and any values. -/
namespace Cert.Proof.Fwd
open Cert.Kernel14Ideal Cert.Kernel14Ideal.Gen
open Idealize.ShloMosaic Idealize.ShloMosaic.TcCoe Idealize.SL.Sem
open Finset
section
variable {m : (ℓ : Loc nD τ sig) → Buf (Elt Ideal) ℓ} {c : Dev nD} (hf : Reals m c)
include hf
theorem ref0 : Cert.Reference14Ideal.Read.val_main_v45 (F := Ideal) (A0 m c) (A1 m c) (A2 m c) (A3 m c) = oR m c := by
  funext i
  obtain ⟨r, l, rfl⟩ : ∃ (r : Fin 8192) (l : Fin 2048), i = ix2 r l := ⟨i 0, i 1, by funext a; fin_cases a <;> rfl⟩
  refine (f45 _ _ _ _ r l).trans ((f44 _ _ _ _ _ r _).trans ?_)
  have e : ∀ k : Fin 8192, A3 m c (ix3 k ⟨l / 128, by omega⟩ ⟨l % 128, by omega⟩)
        * (Cert.Reference14Ideal.Read.val_main_v42 (F := Ideal) (A0 m c) (A1 m c) (A2 m c) : FVec Ideal Cert.Reference14Ideal.S16x8192x8192 .f32) (ix3 ⟨l / 128, by omega⟩ r k)
      = ((1 / (hd m c (l / 128)).Z r : ℝ) : EReal) * ((((hd m c (l / 128)).W r k : ℝ) : EReal) * vE m c (l / 128) k (l % 128)) := fun k => by
    have hh : hd m c (l / 128) = Attn.headOf (A0 m c) (A1 m c) (A2 m c) (fun _ => (0 : EReal)) (fun _ => (0 : EReal)) ⟨l / 128, by omega⟩ := by
      unfold hd; congr 1; exact Fin.ext (Nat.mod_eq_of_lt (by omega))
    have hv : vE m c (l / 128) k (l % 128) = A3 m c (ix3 k ⟨l / 128, by omega⟩ ⟨l % 128, by omega⟩) := by
      unfold vE
      rw [dif_pos ⟨k.2, by omega⟩]
      exact Attn.at3 (A3 m c) rfl (Nat.mod_eq_of_lt (by omega)) rfl
    rw [hv, hh, same42, ← mul_assoc, ← EReal.coe_mul, one_div_mul_eq_div, mul_comm]
    exact congrArg (· * _) (Attn.e37 (x3 := fun _ => (0 : EReal)) (x4 := fun _ => (0 : EReal)) hf.h0 hf.h1 hf.h2 _ r k)
  rw [Finset.sum_congr rfl fun k _ => e k, ← mul_sum_coe _ _ (one_div_nonneg.2 ((hd m c (l / 128)).Z_pos r).le), mul_comm]
  refine congrArg (· * _) ?_
  exact (Finset.sum_range fun k => (((hd m c (l / 128)).W r k : ℝ) : EReal) * vE m c (l / 128) k (l % 128)).symm
theorem ref1 : Cert.Reference14Ideal.Read.val_main_v21 (F := Ideal) (A0 m c) (A1 m c) (A2 m c) = lR m c := by
  funext i
  obtain ⟨h, r, rfl⟩ : ∃ (h : Fin 16) (r : Fin 8192), i = ix3 h r 0 := ⟨i 0, i 1, by
    funext a
    fin_cases a
    · rfl
    · rfl
    · exact Subsingleton.elim (α := Fin 1) _ _⟩
  rw [same21]
  refine (Attn.ls_eq (x3 := fun _ => (0 : EReal)) (x4 := fun _ => (0 : EReal)) hf.h0 hf.h1 hf.h2 h r).trans ?_
  have hh : hd m c h = Attn.headOf (A0 m c) (A1 m c) (A2 m c) (fun _ => (0 : EReal)) (fun _ => (0 : EReal)) h := by
    unfold hd; congr 1; exact Fin.ext (Nat.mod_eq_of_lt h.2)
  show _ = ((Real.log ((hd m c h).Z r) : ℝ) : EReal)
  rw [hh]
end

theorem finite_facts : Cert.Pre_finite14.Facts where
  bcast_S_S8192x16x192 := by decide
  bcast_S_S8192x16x128 := by decide
  bcast_S_S8192x64 := by decide
theorem frame_ideal_finite : Cert.quiescent_Kernel14Ideal_pre_finite14 (hPre_finite14 := finite_facts) := fun m ρ _ => frame_ideal m ρ trivial
theorem frame_ref_finite : Cert.quiescent_Reference14Ideal_pre_finite14 (hPre_finite14 := finite_facts) := fun m ρ _ => frame_ref m ρ trivial
theorem reals_of_pre {m : (ℓ : Loc nD τ sig) → Buf (Elt Ideal) ℓ} (h : Cert.Pre_Kernel14Ideal_finite14 (hPre_finite14 := finite_facts) m) (c : Dev nD) : Reals m c where
  h0 := Attn.real_of_pre _ _ (h c).1
  h1 := Attn.real_of_pre _ _ (h c).2.1
  h2 := Attn.real_of_pre _ _ (h c).2.2

set_option maxHeartbeats 4000000 in
theorem values : Cert.algebraic_Kernel14Ideal_Reference14Ideal_pre_finite14 (hPre_finite14 := finite_facts) := by
  intro m g m' g' hpre hargs
  refine ⟨oR m, lR m, ?_, ?_⟩
  · refine (θ_run defs _ _).mono (fun r h c => ?_) (Cert.Kernel14Ideal.Value.run_blocks (F := Ideal) m g)
    have hf := reals_of_pre hpre c
    exact ⟨(h c).1.trans (fin5 hf), (h c).2.1.trans (fin6 hf), (h c).2.2⟩
  · refine (θ_run Cert.Reference14Ideal.defs _ _).mono (fun r h c => ?_) (Cert.Reference14Ideal.Value.run (F := Ideal) m' g')
    have hf := reals_of_pre hpre c
    obtain ⟨a0, a1, a2, a3⟩ := hargs c
    have hc := h c
    refine ⟨hc.1.trans ?_, hc.2.1.trans ?_, hc.2.2⟩
    · rw [Cert.Reference14Ideal.Read.val_main_v45_eq, a0, a1, a2, a3]; exact ref0 hf
    · rw [Cert.Reference14Ideal.Read.val_main_v21_eq, a0, a1, a2]; exact ref1 hf
end Cert.Proof.Fwd
-- ==== Proof.lean ====
/- The claims about the attention, forward and backward, and about the products of the feed-forward half steps and of
   the mixers' projections, forward and backward: the frames of each kernel (on machine words and over the extended reals) and of its reference, the named
   masks, and that each kernel and its reference compute one function (for the attention's gradient of finite arguments, for its forward pass of finite queries and keys). -/
module

public import proofs.«01_k».proof.Defs
public import proofs.«01_k».proof.Proof.Frames
public import proofs.«01_k».proof.Proof.AttnClaim
public import proofs.«01_k».proof.Proof.FfnFrames
public import proofs.«01_k».proof.Proof.DownDx
public import proofs.«01_k».proof.Proof.DownDw
public import proofs.«01_k».proof.Proof.GateDw
public import proofs.«01_k».proof.Proof.GateDx
public import proofs.«01_k».proof.Proof.UpDx
public import proofs.«01_k».proof.Proof.GateUp
public import proofs.«01_k».proof.Proof.Down
public import proofs.«01_k».proof.Proof.MixOut
public import proofs.«01_k».proof.Proof.MixOutDx
public import proofs.«01_k».proof.Proof.MixOutDw
public import proofs.«01_k».proof.Proof.HybIn
public import proofs.«01_k».proof.Proof.HybInDw
public import proofs.«01_k».proof.Proof.FwdFrames
public import proofs.«01_k».proof.Proof.FwdClaim
public import proofs.«01_k».proof.Proof.Gen.ReferenceIdeal.Read
public import proofs.«01_k».proof.Proof.Gen.Kernel2
public import proofs.«01_k».proof.Proof.Gen.Kernel2Ideal.Value
public import proofs.«01_k».proof.Proof.Gen.Reference2Ideal.Read
public import proofs.«01_k».proof.Proof.Gen.Kernel3
public import proofs.«01_k».proof.Proof.Gen.Kernel3Ideal.Value
public import proofs.«01_k».proof.Proof.Gen.Reference3Ideal.Read
public import proofs.«01_k».proof.Proof.Gen.Kernel4
public import proofs.«01_k».proof.Proof.Gen.Kernel4Ideal.Value
public import proofs.«01_k».proof.Proof.Gen.Reference4Ideal.Read
public import proofs.«01_k».proof.Proof.Gen.Kernel5
public import proofs.«01_k».proof.Proof.Gen.Kernel5Ideal.Value
public import proofs.«01_k».proof.Proof.Gen.Reference5Ideal.Read
public import proofs.«01_k».proof.Proof.Gen.Kernel6
public import proofs.«01_k».proof.Proof.Gen.Kernel6Ideal.Value
public import proofs.«01_k».proof.Proof.Gen.Reference6Ideal.Read
public import proofs.«01_k».proof.Proof.Gen.Kernel7
public import proofs.«01_k».proof.Proof.Gen.Kernel7Ideal.Value
public import proofs.«01_k».proof.Proof.Gen.Reference7Ideal.Read
public import proofs.«01_k».proof.Proof.Gen.Kernel8
public import proofs.«01_k».proof.Proof.Gen.Kernel8Ideal.Value
public import proofs.«01_k».proof.Proof.Gen.Reference8Ideal.Read
public import proofs.«01_k».proof.Proof.Gen.Kernel9
public import proofs.«01_k».proof.Proof.Gen.Kernel9Ideal.Value
public import proofs.«01_k».proof.Proof.Gen.Reference9Ideal.Read
public import proofs.«01_k».proof.Proof.Gen.Kernel10
public import proofs.«01_k».proof.Proof.Gen.Kernel10Ideal.Value
public import proofs.«01_k».proof.Proof.Gen.Reference10Ideal.Read
public import proofs.«01_k».proof.Proof.Gen.Kernel11
public import proofs.«01_k».proof.Proof.Gen.Kernel11Ideal.Value
public import proofs.«01_k».proof.Proof.Gen.Reference11Ideal.Read
public import proofs.«01_k».proof.Proof.Gen.Kernel12
public import proofs.«01_k».proof.Proof.Gen.Kernel12Ideal.Value
public import proofs.«01_k».proof.Proof.Gen.Reference12Ideal.Read
public import proofs.«01_k».proof.Proof.Gen.Kernel13
public import proofs.«01_k».proof.Proof.Gen.Kernel13Ideal.Value
public import proofs.«01_k».proof.Proof.Gen.Reference13Ideal.Read
public import proofs.«01_k».proof.Proof.Gen.Kernel14
public import proofs.«01_k».proof.Proof.Gen.Kernel14Ideal.Value
public import proofs.«01_k».proof.Proof.Gen.Reference14Ideal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Attn.finite_facts, Fwd.finite_facts,
    frame_kernel, frame_kernelIdeal, Attn.frame_kernelIdeal_finite, frame_reference, Attn.frame_reference_finite,
    FfnFrames.frame2, DownDx.frame_ideal, DownDx.frame_ref,
    FfnFrames.frame3, DownDw.frame_ideal, DownDw.frame_ref,
    FfnFrames.frame4, GateDw.frame_ideal, GateDw.frame_ref,
    FfnFrames.frame5, GateDx.frame_ideal, GateDx.frame_ref,
    FfnFrames.frame6, UpDx.frame_ideal, UpDx.frame_ref,
    FfnFrames.frame7, GateUp.frame_ideal, GateUp.frame_ref,
    FfnFrames.frame8, Down.frame_ideal, Down.frame_ref,
    FfnFrames.frame9, MixOut.frame_ideal, MixOut.frame_ref,
    FfnFrames.frame10, MixOutDx.frame_ideal, MixOutDx.frame_ref,
    FfnFrames.frame11, MixOutDw.frame_ideal, MixOutDw.frame_ref,
    FfnFrames.frame12, HybIn.frame_ideal, HybIn.frame_ref,
    FfnFrames.frame13, HybInDw.frame_ideal, HybInDw.frame_ref,
    Fwd.frame_kernel, Fwd.frame_ideal, Fwd.frame_ideal_finite, Fwd.frame_ref, Fwd.frame_ref_finite,
    mask_named, Attn.values,
    trivial, DownDx.values, trivial, DownDw.values, trivial, GateDw.values, trivial, GateDx.values, trivial, UpDx.values, trivial, GateUp.values, trivial, Down.values, trivial, MixOut.values, trivial, MixOutDx.values, trivial, MixOutDw.values, trivial, HybIn.values, trivial, HybInDw.values, Fwd.mask_named, Fwd.values⟩

end Cert.Proof

end
